-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_inputs [hPre_finite_scores_inputs : Cert.Pre_finite_scores_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_scores_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_scores_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_inputs [hPre_finite_scores_inputs : Cert.Pre_finite_scores_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_scores_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_scores_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_tokens [hPre_finite_tokens : Cert.Pre_finite_tokens.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_tokens.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).1 = (fun _ => 1#1)
    ∧ (Cert.Pre_finite_tokens.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.1 = (fun _ => 1#1)
    ∧ (Cert.Pre_finite_tokens.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.1 = (fun _ => 1#1)
    ∧ (Cert.Pre_finite_tokens.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.1 = (fun _ => 1#1)
    ∧ (Cert.Pre_finite_tokens.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.1 = (fun _ => 1#1)
    ∧ (Cert.Pre_finite_tokens.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.2.1 = (fun _ => 1#1)
    ∧ (Cert.Pre_finite_tokens.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_tokens [hPre_finite_tokens : Cert.Pre_finite_tokens.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_tokens.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).1 = (fun _ => 1#1)
    ∧ (Cert.Pre_finite_tokens.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.1 = (fun _ => 1#1)
    ∧ (Cert.Pre_finite_tokens.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.1 = (fun _ => 1#1)
    ∧ (Cert.Pre_finite_tokens.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.1 = (fun _ => 1#1)
    ∧ (Cert.Pre_finite_tokens.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.2.1 = (fun _ => 1#1)
    ∧ (Cert.Pre_finite_tokens.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.2.2.1 = (fun _ => 1#1)
    ∧ (Cert.Pre_finite_tokens.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.2.2.2 = (fun _ => 1#1)

def Pre_Kernel3 [hPre_blocks_in_range : Cert.Pre_blocks_in_range.Facts] (m : (ℓ : Loc Cert.Kernel3.nD Cert.Kernel3.τ Cert.Kernel3.sig) → Buf (Elt Bits) ℓ) : Prop :=
  ∀ c : Dev Cert.Kernel3.nD,
    (Cert.Pre_blocks_in_range.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))).1 = (fun _ => 1#1)
    ∧ (Cert.Pre_blocks_in_range.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))).2 = (fun _ => 1#1)

def Pre_Kernel3Ideal [hPre_blocks_in_range : Cert.Pre_blocks_in_range.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_blocks_in_range.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).1 = (fun _ => 1#1)
    ∧ (Cert.Pre_blocks_in_range.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_blocks_in_range [hPre_blocks_in_range : Cert.Pre_blocks_in_range.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_blocks_in_range.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).1 = (fun _ => 1#1)
    ∧ (Cert.Pre_blocks_in_range.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores_inputs [hKernelIdeal : Cert.KernelIdeal.Facts] [hPre_finite_scores_inputs : Cert.Pre_finite_scores_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores_inputs [hReferenceIdeal : Cert.ReferenceIdeal.Facts] [hPre_finite_scores_inputs : Cert.Pre_finite_scores_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Kernel2Ideal_pre_finite_tokens [hKernel2Ideal : Cert.Kernel2Ideal.Facts] [hPre_finite_tokens : Cert.Pre_finite_tokens.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_tokens m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Reference2Ideal_pre_finite_tokens [hReference2Ideal : Cert.Reference2Ideal.Facts] [hPre_finite_tokens : Cert.Pre_finite_tokens.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_tokens m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] [hPre_blocks_in_range : Cert.Pre_blocks_in_range.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] [hPre_blocks_in_range : Cert.Pre_blocks_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_blocks_in_range [hReference3Ideal : Cert.Reference3Ideal.Facts] [hPre_blocks_in_range : Cert.Pre_blocks_in_range.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_blocks_in_range m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def preserves_Kernel_KernelIdeal : Prop :=
  True

def algebraic_KernelIdeal_ReferenceIdeal_pre_finite_scores_inputs [hKernelIdeal : Cert.KernelIdeal.Facts] [hReferenceIdeal : Cert.ReferenceIdeal.Facts] [hPre_finite_scores_inputs : Cert.Pre_finite_scores_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite_tokens [hKernel2Ideal : Cert.Kernel2Ideal.Facts] [hReference2Ideal : Cert.Reference2Ideal.Facts] [hPre_finite_tokens : Cert.Pre_finite_tokens.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_tokens m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v53_0)) (v1 : (c : Dev Cert.Kernel2Ideal.nD) → Buf (Elt Ideal) ((c.tc : Thread Cert.Kernel2Ideal.nD Cert.Kernel2Ideal.τ).loc Cert.Kernel2Ideal.main_v53_1)) (v2 : (c : Dev Cert.Kernel2Ideal.nD) → Buf (Elt Ideal) ((c.tc : Thread Cert.Kernel2Ideal.nD Cert.Kernel2Ideal.τ).loc Cert.Kernel2Ideal.main_v53_2)) (v3 : (c : Dev Cert.Kernel2Ideal.nD) → Buf (Elt Ideal) ((c.tc : Thread Cert.Kernel2Ideal.nD Cert.Kernel2Ideal.τ).loc Cert.Kernel2Ideal.main_v53_3)) (v4 : (c : Dev Cert.Kernel2Ideal.nD) → Buf (Elt Ideal) ((c.tc : Thread Cert.Kernel2Ideal.nD Cert.Kernel2Ideal.τ).loc Cert.Kernel2Ideal.main_v53_4)) (v5 : (c : Dev Cert.Kernel2Ideal.nD) → Buf (Elt Ideal) ((c.tc : Thread Cert.Kernel2Ideal.nD Cert.Kernel2Ideal.τ).loc Cert.Kernel2Ideal.main_v53_5)) (v6 : (c : Dev Cert.Kernel2Ideal.nD) → Buf (Elt Ideal) ((c.tc : Thread Cert.Kernel2Ideal.nD Cert.Kernel2Ideal.τ).loc Cert.Kernel2Ideal.main_v53_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v53_0) = v0 c
          ∧ r.2.mem ((c.tc : Thread Cert.Kernel2Ideal.nD Cert.Kernel2Ideal.τ).loc Cert.Kernel2Ideal.main_v53_1) = v1 c
          ∧ r.2.mem ((c.tc : Thread Cert.Kernel2Ideal.nD Cert.Kernel2Ideal.τ).loc Cert.Kernel2Ideal.main_v53_2) = v2 c
          ∧ r.2.mem ((c.tc : Thread Cert.Kernel2Ideal.nD Cert.Kernel2Ideal.τ).loc Cert.Kernel2Ideal.main_v53_3) = v3 c
          ∧ r.2.mem ((c.tc : Thread Cert.Kernel2Ideal.nD Cert.Kernel2Ideal.τ).loc Cert.Kernel2Ideal.main_v53_4) = v4 c
          ∧ r.2.mem ((c.tc : Thread Cert.Kernel2Ideal.nD Cert.Kernel2Ideal.τ).loc Cert.Kernel2Ideal.main_v53_5) = v5 c
          ∧ r.2.mem ((c.tc : Thread Cert.Kernel2Ideal.nD Cert.Kernel2Ideal.τ).loc Cert.Kernel2Ideal.main_v53_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v133) = v0 c
          ∧ r.2.mem ((c.tc : Thread Cert.Reference2Ideal.nD Cert.Reference2Ideal.τ).loc Cert.Reference2Ideal.main_v134) = v1 c
          ∧ r.2.mem ((c.tc : Thread Cert.Reference2Ideal.nD Cert.Reference2Ideal.τ).loc Cert.Reference2Ideal.main_v135) = v2 c
          ∧ r.2.mem ((c.tc : Thread Cert.Reference2Ideal.nD Cert.Reference2Ideal.τ).loc Cert.Reference2Ideal.main_v136) = v3 c
          ∧ r.2.mem ((c.tc : Thread Cert.Reference2Ideal.nD Cert.Reference2Ideal.τ).loc Cert.Reference2Ideal.main_v137) = v4 c
          ∧ r.2.mem ((c.tc : Thread Cert.Reference2Ideal.nD Cert.Reference2Ideal.τ).loc Cert.Reference2Ideal.main_v138) = v5 c
          ∧ r.2.mem ((c.tc : Thread Cert.Reference2Ideal.nD Cert.Reference2Ideal.τ).loc Cert.Reference2Ideal.main_v139) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] [hPre_blocks_in_range : Cert.Pre_blocks_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores_inputs : Cert.Pre_finite_scores_inputs.Facts) (hPre_finite_tokens : Cert.Pre_finite_tokens.Facts) (hPre_blocks_in_range : Cert.Pre_blocks_in_range.Facts),
    quiescent_Kernel (hKernel := hKernel)
    ∧ quiescent_KernelIdeal (hKernelIdeal := hKernelIdeal)
    ∧ quiescent_KernelIdeal_pre_finite_scores_inputs (hKernelIdeal := hKernelIdeal) (hPre_finite_scores_inputs := hPre_finite_scores_inputs)
    ∧ quiescent_ReferenceIdeal (hReferenceIdeal := hReferenceIdeal)
    ∧ quiescent_ReferenceIdeal_pre_finite_scores_inputs (hReferenceIdeal := hReferenceIdeal) (hPre_finite_scores_inputs := hPre_finite_scores_inputs)
    ∧ quiescent_Kernel2 (hKernel2 := hKernel2)
    ∧ quiescent_Kernel2Ideal (hKernel2Ideal := hKernel2Ideal)
    ∧ quiescent_Kernel2Ideal_pre_finite_tokens (hKernel2Ideal := hKernel2Ideal) (hPre_finite_tokens := hPre_finite_tokens)
    ∧ quiescent_Reference2Ideal (hReference2Ideal := hReference2Ideal)
    ∧ quiescent_Reference2Ideal_pre_finite_tokens (hReference2Ideal := hReference2Ideal) (hPre_finite_tokens := hPre_finite_tokens)
    ∧ quiescent_Kernel3 (hKernel3 := hKernel3) (hPre_blocks_in_range := hPre_blocks_in_range)
    ∧ quiescent_Kernel3Ideal (hKernel3Ideal := hKernel3Ideal) (hPre_blocks_in_range := hPre_blocks_in_range)
    ∧ quiescent_Reference3Ideal (hReference3Ideal := hReference3Ideal)
    ∧ quiescent_Reference3Ideal_pre_blocks_in_range (hReference3Ideal := hReference3Ideal) (hPre_blocks_in_range := hPre_blocks_in_range)
    ∧ preserves_Kernel_KernelIdeal
    ∧ algebraic_KernelIdeal_ReferenceIdeal_pre_finite_scores_inputs (hKernelIdeal := hKernelIdeal) (hReferenceIdeal := hReferenceIdeal) (hPre_finite_scores_inputs := hPre_finite_scores_inputs)
    ∧ preserves_Kernel2_Kernel2Ideal
    ∧ algebraic_Kernel2Ideal_Reference2Ideal_pre_finite_tokens (hKernel2Ideal := hKernel2Ideal) (hReference2Ideal := hReference2Ideal) (hPre_finite_tokens := hPre_finite_tokens)
    ∧ preserves_Kernel3_Kernel3Ideal
    ∧ algebraic_Kernel3Ideal_Reference3Ideal (hKernel3Ideal := hKernel3Ideal) (hReference3Ideal := hReference3Ideal) (hPre_blocks_in_range := hPre_blocks_in_range)
-- ==== Pre_blocks_in_range.lean ====
abbrev S288 : Shape := ⟨1, ![288]⟩
abbrev S1 : Shape := ⟨1, ![1]⟩
abbrev S73728x1024 : Shape := ⟨2, ![73728, 1024]⟩
abbrev S32x2048x512 : Shape := ⟨3, ![32, 2048, 512]⟩
abbrev S32x512x2048 : Shape := ⟨3, ![32, 512, 2048]⟩
abbrev S_ : Shape := ⟨0, ![]⟩

class Facts : Prop where
  bcast_S_S288 : S_.BroadcastsInDim S288 (![] : Fin 0 → Fin S288.rank)
  bcast_S_S1 : S_.BroadcastsInDim S1 (![] : Fin 0 → Fin S1.rank)

variable [Facts]

def fn {F : FTy → Type} [FloatOps F] (main_arg0 : IVec S288 32) (main_arg1 : IVec S1 32) (main_arg2 : IVec S73728x1024 32) (main_arg3 : FVec F S32x2048x512 .bf16) (main_arg4 : FVec F S32x2048x512 .bf16) (main_arg5 : FVec F S32x512x2048 .bf16) : IVec S288 1 × IVec S1 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  (main_v4, main_v6)
-- ==== Pre_finite_scores_inputs.lean ====
abbrev S4x2048x8192 : Shape := ⟨3, ![4, 2048, 8192]⟩
abbrev S4x8x8192x128 : Shape := ⟨4, ![4, 8, 8192, 128]⟩
abbrev S4x8192x128 : Shape := ⟨3, ![4, 8192, 128]⟩
abbrev S4x8x128x8192 : Shape := ⟨4, ![4, 8, 128, 8192]⟩
abbrev S_ : Shape := ⟨0, ![]⟩

class Facts : Prop where
  bitsLt_bf16_f32 : FTy.bits .bf16 < FTy.bits .f32
  bcast_S_S4x2048x8192 : S_.BroadcastsInDim S4x2048x8192 (![] : Fin 0 → Fin S4x2048x8192.rank)
  bcast_S_S4x8x8192x128 : S_.BroadcastsInDim S4x8x8192x128 (![] : Fin 0 → Fin S4x8x8192x128.rank)
  bcast_S_S4x8192x128 : S_.BroadcastsInDim S4x8192x128 (![] : Fin 0 → Fin S4x8192x128.rank)

variable [Facts]

def fn {F : FTy → Type} [FloatOps F] (main_arg0 : FVec F S4x2048x8192 .bf16) (main_arg1 : FVec F S4x8x8192x128 .bf16) (main_arg2 : FVec F S4x8192x128 .bf16) (main_arg3 : FVec F S4x8x128x8192 .bf16) : IVec S4x2048x8192 1 × IVec S4x8x8192x128 1 × IVec S4x8192x128 1 :=
  let main_v0 : FVec F S4x2048x8192 .f32 := (extf .f32 · bitsLt_bf16_f32) main_arg0
  let main_v1 : FVec F S4x2048x8192 .f32 := Host.absf main_v0
  let main_cst : FVec F S_ .f32 := constant S_ .f32 0x7F800000#32
  let main_v2 : FVec F S4x2048x8192 .f32 := broadcastInDim S4x2048x8192 ![] bcast_S_S4x2048x8192 main_cst
  let main_v3 : IVec S4x2048x8192 1 := cmpf .olt main_v1 main_v2
  let main_v4 : FVec F S4x8x8192x128 .f32 := (extf .f32 · bitsLt_bf16_f32) main_arg1
  let main_v5 : FVec F S4x8x8192x128 .f32 := Host.absf main_v4
  let main_cst_0 : FVec F S_ .f32 := constant S_ .f32 0x7F800000#32
  let main_v6 : FVec F S4x8x8192x128 .f32 := broadcastInDim S4x8x8192x128 ![] bcast_S_S4x8x8192x128 main_cst_0
  let main_v7 : IVec S4x8x8192x128 1 := cmpf .olt main_v5 main_v6
  let main_v8 : FVec F S4x8192x128 .f32 := (extf .f32 · bitsLt_bf16_f32) main_arg2
  let main_v9 : FVec F S4x8192x128 .f32 := Host.absf main_v8
  let main_cst_1 : FVec F S_ .f32 := constant S_ .f32 0x7F800000#32
  let main_v10 : FVec F S4x8192x128 .f32 := broadcastInDim S4x8192x128 ![] bcast_S_S4x8192x128 main_cst_1
  let main_v11 : IVec S4x8192x128 1 := cmpf .olt main_v9 main_v10
  (main_v3, main_v7, main_v11)
-- ==== Pre_finite_tokens.lean ====
abbrev S4x8192x2048 : Shape := ⟨3, ![4, 8192, 2048]⟩
abbrev S4x1x2048 : Shape := ⟨3, ![4, 1, 2048]⟩
abbrev S2048 : Shape := ⟨1, ![2048]⟩
abbrev S2048x2368 : Shape := ⟨2, ![2048, 2368]⟩
abbrev S512 : Shape := ⟨1, ![512]⟩
abbrev S256 : Shape := ⟨1, ![256]⟩
abbrev S512x1536 : Shape := ⟨2, ![512, 1536]⟩
abbrev S256x2048 : Shape := ⟨2, ![256, 2048]⟩
abbrev S_ : Shape := ⟨0, ![]⟩

class Facts : Prop where
  bcast_S_S4x8192x2048 : S_.BroadcastsInDim S4x8192x2048 (![] : Fin 0 → Fin S4x8192x2048.rank)
  bcast_S_S4x1x2048 : S_.BroadcastsInDim S4x1x2048 (![] : Fin 0 → Fin S4x1x2048.rank)
  bcast_S_S2048 : S_.BroadcastsInDim S2048 (![] : Fin 0 → Fin S2048.rank)
  bcast_S_S2048x2368 : S_.BroadcastsInDim S2048x2368 (![] : Fin 0 → Fin S2048x2368.rank)
  bcast_S_S512 : S_.BroadcastsInDim S512 (![] : Fin 0 → Fin S512.rank)
  bcast_S_S512x1536 : S_.BroadcastsInDim S512x1536 (![] : Fin 0 → Fin S512x1536.rank)

variable [Facts]

def fn_part1 {F : FTy → Type} [FloatOps F] (main_arg7 : FVec F S512x1536 .f32) (main_v2 : IVec S4x8192x2048 1) (main_v5 : IVec S4x1x2048 1) (main_v8 : IVec S4x1x2048 1) (main_v11 : IVec S2048 1) (main_v14 : IVec S2048x2368 1) (main_v17 : IVec S512 1) : IVec S4x8192x2048 1 × IVec S4x1x2048 1 × IVec S4x1x2048 1 × IVec S2048 1 × IVec S2048x2368 1 × IVec S512 1 × IVec S512x1536 1 :=
  let main_v18 : FVec F S512x1536 .f32 := Host.absf main_arg7
  let main_cst_5 : FVec F S_ .f32 := constant S_ .f32 0x7F800000#32
  let main_v19 : FVec F S512x1536 .f32 := broadcastInDim S512x1536 ![] bcast_S_S512x1536 main_cst_5
  let main_v20 : IVec S512x1536 1 := cmpf .olt main_v18 main_v19
  (main_v2, main_v5, main_v8, main_v11, main_v14, main_v17, main_v20)

def fn {F : FTy → Type} [FloatOps F] (main_arg0 : FVec F S4x8192x2048 .f32) (main_arg1 : FVec F S4x1x2048 .f32) (main_arg2 : FVec F S4x1x2048 .f32) (main_arg3 : FVec F S2048 .f32) (main_arg4 : FVec F S2048x2368 .f32) (main_arg5 : FVec F S512 .f32) (main_arg6 : FVec F S256 .f32) (main_arg7 : FVec F S512x1536 .f32) (main_arg8 : FVec F S256x2048 .f32) : IVec S4x8192x2048 1 × IVec S4x1x2048 1 × IVec S4x1x2048 1 × IVec S2048 1 × IVec S2048x2368 1 × IVec S512 1 × IVec S512x1536 1 :=
  let main_v0 : FVec F S4x8192x2048 .f32 := Host.absf main_arg0
  let main_cst : FVec F S_ .f32 := constant S_ .f32 0x7F800000#32
  let main_v1 : FVec F S4x8192x2048 .f32 := broadcastInDim S4x8192x2048 ![] bcast_S_S4x8192x2048 main_cst
  let main_v2 : IVec S4x8192x2048 1 := cmpf .olt main_v0 main_v1
  let main_v3 : FVec F S4x1x2048 .f32 := Host.absf main_arg1
  let main_cst_0 : FVec F S_ .f32 := constant S_ .f32 0x7F800000#32
  let main_v4 : FVec F S4x1x2048 .f32 := broadcastInDim S4x1x2048 ![] bcast_S_S4x1x2048 main_cst_0
  let main_v5 : IVec S4x1x2048 1 := cmpf .olt main_v3 main_v4
  let main_v6 : FVec F S4x1x2048 .f32 := Host.absf main_arg2
  let main_cst_1 : FVec F S_ .f32 := constant S_ .f32 0x7F800000#32
  let main_v7 : FVec F S4x1x2048 .f32 := broadcastInDim S4x1x2048 ![] bcast_S_S4x1x2048 main_cst_1
  let main_v8 : IVec S4x1x2048 1 := cmpf .olt main_v6 main_v7
  let main_v9 : FVec F S2048 .f32 := Host.absf main_arg3
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_v12 : FVec F S2048x2368 .f32 := Host.absf main_arg4
  let main_cst_3 : FVec F S_ .f32 := constant S_ .f32 0x7F800000#32
  let main_v13 : FVec F S2048x2368 .f32 := broadcastInDim S2048x2368 ![] bcast_S_S2048x2368 main_cst_3
  let main_v14 : IVec S2048x2368 1 := cmpf .olt main_v12 main_v13
  let main_v15 : FVec F S512 .f32 := Host.absf main_arg5
  let main_cst_4 : FVec F S_ .f32 := constant S_ .f32 0x7F800000#32
  let main_v16 : FVec F S512 .f32 := broadcastInDim S512 ![] bcast_S_S512 main_cst_4
  let main_v17 : IVec S512 1 := cmpf .olt main_v15 main_v16
  fn_part1 (F := F) main_arg7 main_v2 main_v5 main_v8 main_v11 main_v14 main_v17
-- ==== Kernel.lean ====
abbrev S4x2048x8192 : Shape := ⟨3, ![4, 2048, 8192]⟩
abbrev S4x8x8192x128 : Shape := ⟨4, ![4, 8, 8192, 128]⟩
abbrev S4x8192x128 : Shape := ⟨3, ![4, 8192, 128]⟩
abbrev S4x8x128x8192 : Shape := ⟨4, ![4, 8, 128, 8192]⟩
abbrev S4x8192x1024 : Shape := ⟨3, ![4, 8192, 1024]⟩
abbrev S1x256x2048 : Shape := ⟨3, ![1, 256, 2048]⟩
abbrev S1x1x8192x128 : Shape := ⟨4, ![1, 1, 8192, 128]⟩
abbrev S1x8192x128 : Shape := ⟨3, ![1, 8192, 128]⟩
abbrev S1x1x128x8192 : Shape := ⟨4, ![1, 1, 128, 8192]⟩
abbrev S1x2048x128 : Shape := ⟨3, ![1, 2048, 128]⟩
abbrev S4x128x512 : Shape := ⟨3, ![4, 128, 512]⟩
abbrev S1x1x1024x128 : Shape := ⟨4, ![1, 1, 1024, 128]⟩
abbrev S1024x128 : Shape := ⟨2, ![1024, 128]⟩
abbrev S1x1024x128 : Shape := ⟨3, ![1, 1024, 128]⟩
abbrev S1024x256 : Shape := ⟨2, ![1024, 256]⟩
abbrev S1x256x512 : Shape := ⟨3, ![1, 256, 512]⟩
abbrev S256x512 : Shape := ⟨2, ![256, 512]⟩
abbrev S1024x512 : Shape := ⟨2, ![1024, 512]⟩
abbrev S512 : Shape := ⟨1, ![512]⟩
abbrev S1x512 : Shape := ⟨2, ![1, 512]⟩
abbrev S1x1x128x1024 : Shape := ⟨4, ![1, 1, 128, 1024]⟩
abbrev S128x1024 : Shape := ⟨2, ![128, 1024]⟩
abbrev S128x512 : Shape := ⟨2, ![128, 512]⟩
abbrev S1x128x512 : Shape := ⟨3, ![1, 128, 512]⟩
abbrev S512x128 : Shape := ⟨2, ![512, 128]⟩
abbrev S1x512x128 : Shape := ⟨3, ![1, 512, 128]⟩

abbrev nBuf : Space → Nat
  | .hbm => 5
  | .vmem => 11
  | .smem => 0
  | _ => 0

abbrev bufTy : (tb : Table) → Fin (tcTables nBuf tb) → BufTy
  | .hbm, ⟨0, _⟩ => ⟨S4x2048x8192, .bf16⟩
  | .hbm, ⟨1, _⟩ => ⟨S4x8x8192x128, .bf16⟩
  | .hbm, ⟨2, _⟩ => ⟨S4x8192x128, .bf16⟩
  | .hbm, ⟨3, _⟩ => ⟨S4x8x128x8192, .bf16⟩
  | .hbm, ⟨4, _⟩ => ⟨S4x8192x1024, .f32⟩
  | .local _ .vmem, ⟨0, _⟩ => ⟨S1x256x2048, .bf16⟩
  | .local _ .vmem, ⟨1, _⟩ => ⟨S1x256x2048, .bf16⟩
  | .local _ .vmem, ⟨2, _⟩ => ⟨S1x1x8192x128, .bf16⟩
  | .local _ .vmem, ⟨3, _⟩ => ⟨S1x1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x1x128x8192, .bf16⟩
  | .local _ .vmem, ⟨7, _⟩ => ⟨S1x1x128x8192, .bf16⟩
  | .local _ .vmem, ⟨8, _⟩ => ⟨S1x2048x128, .f32⟩
  | .local _ .vmem, ⟨9, _⟩ => ⟨S1x2048x128, .f32⟩
  | .local _ .vmem, ⟨10, _⟩ => ⟨S4x128x512, .f32⟩
  | _, _ => ⟨S4x2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 8, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x128x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S4x2048x8192 : Shape := ⟨3, ![4, 2048, 8192]⟩
abbrev S4x8x8192x128 : Shape := ⟨4, ![4, 8, 8192, 128]⟩
abbrev S4x8192x128 : Shape := ⟨3, ![4, 8192, 128]⟩
abbrev S4x8x128x8192 : Shape := ⟨4, ![4, 8, 128, 8192]⟩
abbrev S4x8192x2048 : Shape := ⟨3, ![4, 8192, 2048]⟩
abbrev S4x8192x8x256 : Shape := ⟨4, ![4, 8192, 8, 256]⟩
abbrev S4x8192x8x128 : Shape := ⟨4, ![4, 8192, 8, 128]⟩
abbrev S4x8x8192x8192 : Shape := ⟨4, ![4, 8, 8192, 8192]⟩
abbrev S4x8192x8192x8 : Shape := ⟨4, ![4, 8192, 8192, 8]⟩
abbrev S_ : Shape := ⟨0, ![]⟩
abbrev S4x8x8192 : Shape := ⟨3, ![4, 8, 8192]⟩
abbrev S4x8x8192x1 : Shape := ⟨4, ![4, 8, 8192, 1]⟩
abbrev S4x8192x1024 : Shape := ⟨3, ![4, 8192, 1024]⟩

abbrev nBuf : Space → Nat
  | .hbm => 37
  | .vmem => 0
  | .smem => 0
  | _ => 0

abbrev bufTy : (tb : Table) → Fin (tcTables nBuf tb) → BufTy
  | .hbm, ⟨0, _⟩ => ⟨S4x2048x8192, .bf16⟩
  | .hbm, ⟨1, _⟩ => ⟨S4x8x8192x128, .bf16⟩
  | .hbm, ⟨2, _⟩ => ⟨S4x8192x128, .bf16⟩
  | .hbm, ⟨3, _⟩ => ⟨S4x8x128x8192, .bf16⟩
  | .hbm, ⟨4, _⟩ => ⟨S4x2048x8192, .f32⟩
  | .hbm, ⟨5, _⟩ => ⟨S4x8192x2048, .f32⟩
  | .hbm, ⟨6, _⟩ => ⟨S4x8192x8x256, .f32⟩
  | .hbm, ⟨7, _⟩ => ⟨S4x8192x8x128, .f32⟩
  | .hbm, ⟨8, _⟩ => ⟨S4x8192x8x128, .f32⟩
  | .hbm, ⟨9, _⟩ => ⟨S4x8x8192x128, .f32⟩
  | .hbm, ⟨10, _⟩ => ⟨S4x8192x128, .f32⟩
  | .hbm, ⟨11, _⟩ => ⟨S4x8x8192x8192, .f32⟩
  | .hbm, ⟨12, _⟩ => ⟨S4x8192x8192x8, .f32⟩
  | .hbm, ⟨13, _⟩ => ⟨S4x8x8192x8192, .f32⟩
  | .hbm, ⟨14, _⟩ => ⟨S4x8x8192x8192, .f32⟩
  | .hbm, ⟨15, _⟩ => ⟨S_, .f32⟩
  | .hbm, ⟨16, _⟩ => ⟨S_, .f32⟩
  | .hbm, ⟨17, _⟩ => ⟨S4x8x8192x8192, .f32⟩
  | .hbm, ⟨18, _⟩ => ⟨S4x8x8192x8192, .f32⟩
  | .hbm, ⟨19, _⟩ => ⟨S_, .f32⟩
  | .hbm, ⟨20, _⟩ => ⟨S4x8x8192, .f32⟩
  | .hbm, ⟨21, _⟩ => ⟨S_, .f32⟩
  | .hbm, ⟨22, _⟩ => ⟨S4x8x8192, .f32⟩
  | .hbm, ⟨23, _⟩ => ⟨S4x8x8192, .f32⟩
  | .hbm, ⟨24, _⟩ => ⟨S4x8x8192x1, .f32⟩
  | .hbm, ⟨25, _⟩ => ⟨S4x8x8192x8192, .f32⟩
  | .hbm, ⟨26, _⟩ => ⟨S4x8x8192x8192, .f32⟩
  | .hbm, ⟨27, _⟩ => ⟨S4x8x8192x8192, .f32⟩
  | .hbm, ⟨28, _⟩ => ⟨S_, .f32⟩
  | .hbm, ⟨29, _⟩ => ⟨S4x8x8192, .f32⟩
  | .hbm, ⟨30, _⟩ => ⟨S4x8x8192x1, .f32⟩
  | .hbm, ⟨31, _⟩ => ⟨S4x8x8192x8192, .f32⟩
  | .hbm, ⟨32, _⟩ => ⟨S4x8x8192x8192, .f32⟩
  | .hbm, ⟨33, _⟩ => ⟨S4x8x128x8192, .f32⟩
  | .hbm, ⟨34, _⟩ => ⟨S4x8x128x8192, .f32⟩
  | .hbm, ⟨35, _⟩ => ⟨S4x8192x8x128, .f32⟩
  | .hbm, ⟨36, _⟩ => ⟨S4x8192x1024, .f32⟩
  | _, _ => ⟨S4x2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Kernel2.lean ====
abbrev S4x8192x2048 : Shape := ⟨3, ![4, 8192, 2048]⟩
abbrev S4x1x2048 : Shape := ⟨3, ![4, 1, 2048]⟩
abbrev S2048 : Shape := ⟨1, ![2048]⟩
abbrev S2048x2368 : Shape := ⟨2, ![2048, 2368]⟩
abbrev S512 : Shape := ⟨1, ![512]⟩
abbrev S256 : Shape := ⟨1, ![256]⟩
abbrev S512x1536 : Shape := ⟨2, ![512, 1536]⟩
abbrev S256x2048 : Shape := ⟨2, ![256, 2048]⟩
abbrev S_ : Shape := ⟨0, ![]⟩
abbrev S2048x64 : Shape := ⟨2, ![2048, 64]⟩
abbrev S2048x32 : Shape := ⟨2, ![2048, 32]⟩
abbrev S2048x832 : Shape := ⟨2, ![2048, 832]⟩
abbrev S2048x1536 : Shape := ⟨2, ![2048, 1536]⟩
abbrev S2048x2560 : Shape := ⟨2, ![2048, 2560]⟩
abbrev S512x8x192 : Shape := ⟨3, ![512, 8, 192]⟩
abbrev S512x8x128 : Shape := ⟨3, ![512, 8, 128]⟩
abbrev S512x1024 : Shape := ⟨2, ![512, 1024]⟩
abbrev S512x8x64 : Shape := ⟨3, ![512, 8, 64]⟩
abbrev S512x8x32 : Shape := ⟨3, ![512, 8, 32]⟩
abbrev S512x3072 : Shape := ⟨2, ![512, 3072]⟩
abbrev S3072x512 : Shape := ⟨2, ![3072, 512]⟩
abbrev S256x8x256 : Shape := ⟨3, ![256, 8, 256]⟩
abbrev S256x8x128 : Shape := ⟨3, ![256, 8, 128]⟩
abbrev S256x1024 : Shape := ⟨2, ![256, 1024]⟩
abbrev S1024x256 : Shape := ⟨2, ![1024, 256]⟩
abbrev S32 : Shape := ⟨1, ![32]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S8192x128 : Shape := ⟨2, ![8192, 128]⟩
abbrev S128x8192 : Shape := ⟨2, ![128, 8192]⟩
abbrev S1x2048 : Shape := ⟨2, ![1, 2048]⟩
abbrev S1x512 : Shape := ⟨2, ![1, 512]⟩
abbrev S1x256 : Shape := ⟨2, ![1, 256]⟩
abbrev S4x2048x8192 : Shape := ⟨3, ![4, 2048, 8192]⟩
abbrev S4x8x8192x128 : Shape := ⟨4, ![4, 8, 8192, 128]⟩
abbrev S4x8192x128 : Shape := ⟨3, ![4, 8192, 128]⟩
abbrev S4x8x128x8192 : Shape := ⟨4, ![4, 8, 128, 8192]⟩
abbrev S4x8192x1024 : Shape := ⟨3, ![4, 8192, 1024]⟩
abbrev S4x8192x256 : Shape := ⟨3, ![4, 8192, 256]⟩
abbrev S1x256x2048 : Shape := ⟨3, ![1, 256, 2048]⟩
abbrev S1x1x2048 : Shape := ⟨3, ![1, 1, 2048]⟩
abbrev S256x128 : Shape := ⟨2, ![256, 128]⟩
abbrev S128x256 : Shape := ⟨2, ![128, 256]⟩
abbrev S1x2048x256 : Shape := ⟨3, ![1, 2048, 256]⟩
abbrev S1x8x256x128 : Shape := ⟨4, ![1, 8, 256, 128]⟩
abbrev S1x256x128 : Shape := ⟨3, ![1, 256, 128]⟩
abbrev S1x8x128x256 : Shape := ⟨4, ![1, 8, 128, 256]⟩
abbrev S1x256x1024 : Shape := ⟨3, ![1, 256, 1024]⟩
abbrev S1x256x256 : Shape := ⟨3, ![1, 256, 256]⟩
abbrev S256x1 : Shape := ⟨2, ![256, 1]⟩
abbrev S256x2560 : Shape := ⟨2, ![256, 2560]⟩
abbrev S256x256 : Shape := ⟨2, ![256, 256]⟩
abbrev S1x1x256x128 : Shape := ⟨4, ![1, 1, 256, 128]⟩
abbrev S1x1x128x256 : Shape := ⟨4, ![1, 1, 128, 256]⟩
abbrev S256x512 : Shape := ⟨2, ![256, 512]⟩
abbrev S3072x256 : Shape := ⟨2, ![3072, 256]⟩
abbrev S1x128x256 : Shape := ⟨3, ![1, 128, 256]⟩

abbrev nBuf : Space → Nat
  | .hbm => 74
  | .vmem => 35
  | .smem => 0
  | _ => 0

abbrev bufTy : (tb : Table) → Fin (tcTables nBuf tb) → BufTy
  | .hbm, ⟨0, _⟩ => ⟨S4x8192x2048, .f32⟩
  | .hbm, ⟨1, _⟩ => ⟨S4x1x2048, .f32⟩
  | .hbm, ⟨2, _⟩ => ⟨S4x1x2048, .f32⟩
  | .hbm, ⟨3, _⟩ => ⟨S2048, .f32⟩
  | .hbm, ⟨4, _⟩ => ⟨S2048x2368, .f32⟩
  | .hbm, ⟨5, _⟩ => ⟨S512, .f32⟩
  | .hbm, ⟨6, _⟩ => ⟨S256, .f32⟩
  | .hbm, ⟨7, _⟩ => ⟨S512x1536, .f32⟩
  | .hbm, ⟨8, _⟩ => ⟨S256x2048, .f32⟩
  | .hbm, ⟨9, _⟩ => ⟨S_, .f32⟩
  | .hbm, ⟨10, _⟩ => ⟨S2048x64, .f32⟩
  | .hbm, ⟨11, _⟩ => ⟨S2048x32, .f32⟩
  | .hbm, ⟨12, _⟩ => ⟨S2048x32, .f32⟩
  | .hbm, ⟨13, _⟩ => ⟨S2048x832, .f32⟩
  | .hbm, ⟨14, _⟩ => ⟨S2048x32, .f32⟩
  | .hbm, ⟨15, _⟩ => ⟨S2048x1536, .f32⟩
  | .hbm, ⟨16, _⟩ => ⟨S2048x2560, .f32⟩
  | .hbm, ⟨17, _⟩ => ⟨S2048x2560, .bf16⟩
  | .hbm, ⟨18, _⟩ => ⟨S512x8x192, .f32⟩
  | .hbm, ⟨19, _⟩ => ⟨S512x8x128, .f32⟩
  | .hbm, ⟨20, _⟩ => ⟨S512x1024, .f32⟩
  | .hbm, ⟨21, _⟩ => ⟨S512x8x64, .f32⟩
  | .hbm, ⟨22, _⟩ => ⟨S_, .f32⟩
  | .hbm, ⟨23, _⟩ => ⟨S512x8x64, .f32⟩
  | .hbm, ⟨24, _⟩ => ⟨S512x8x128, .f32⟩
  | .hbm, ⟨25, _⟩ => ⟨S512x1024, .f32⟩
  | .hbm, ⟨26, _⟩ => ⟨S512x8x32, .f32⟩
  | .hbm, ⟨27, _⟩ => ⟨S512x8x32, .f32⟩
  | .hbm, ⟨28, _⟩ => ⟨S512x8x32, .f32⟩
  | .hbm, ⟨29, _⟩ => ⟨S512x8x128, .f32⟩
  | .hbm, ⟨30, _⟩ => ⟨S512x1024, .f32⟩
  | .hbm, ⟨31, _⟩ => ⟨S512x3072, .f32⟩
  | .hbm, ⟨32, _⟩ => ⟨S3072x512, .f32⟩
  | .hbm, ⟨33, _⟩ => ⟨S3072x512, .bf16⟩
  | .hbm, ⟨34, _⟩ => ⟨S256x2048, .bf16⟩
  | .hbm, ⟨35, _⟩ => ⟨S256x8x256, .bf16⟩
  | .hbm, ⟨36, _⟩ => ⟨S256x8x128, .bf16⟩
  | .hbm, ⟨37, _⟩ => ⟨S256x1024, .bf16⟩
  | .hbm, ⟨38, _⟩ => ⟨S256x8x128, .bf16⟩
  | .hbm, ⟨39, _⟩ => ⟨S256x1024, .bf16⟩
  | .hbm, ⟨40, _⟩ => ⟨S1024x256, .bf16⟩
  | .hbm, ⟨41, _⟩ => ⟨S32, .f32⟩
  | .hbm, ⟨42, _⟩ => ⟨S32, .f32⟩
  | .hbm, ⟨43, _⟩ => ⟨S_, .f32⟩
  | .hbm, ⟨44, _⟩ => ⟨S32, .f32⟩
  | .hbm, ⟨45, _⟩ => ⟨S32, .f32⟩
  | .hbm, ⟨46, _⟩ => ⟨S_, .f32⟩
  | .hbm, ⟨47, _⟩ => ⟨S32, .f32⟩
  | .hbm, ⟨48, _⟩ => ⟨S32, .f32⟩
  | .hbm, ⟨49, _⟩ => ⟨S8192, .i32⟩
  | .hbm, ⟨50, _⟩ => ⟨S8192, .f32⟩
  | .hbm, ⟨51, _⟩ => ⟨S8192x1, .f32⟩
  | .hbm, ⟨52, _⟩ => ⟨S1x32, .f32⟩
  | .hbm, ⟨53, _⟩ => ⟨S8192x32, .f32⟩
  | .hbm, ⟨54, _⟩ => ⟨S8192x32, .f32⟩
  | .hbm, ⟨55, _⟩ => ⟨S8192x32, .f32⟩
  | .hbm, ⟨56, _⟩ => ⟨S_, .f32⟩
  | .hbm, ⟨57, _⟩ => ⟨S8192x64, .f32⟩
  | .hbm, ⟨58, _⟩ => ⟨S8192x32, .f32⟩
  | .hbm, ⟨59, _⟩ => ⟨S8192x32, .f32⟩
  | .hbm, ⟨60, _⟩ => ⟨S8192x128, .f32⟩
  | .hbm, ⟨61, _⟩ => ⟨S8192x128, .f32⟩
  | .hbm, ⟨62, _⟩ => ⟨S128x8192, .f32⟩
  | .hbm, ⟨63, _⟩ => ⟨S128x8192, .f32⟩
  | .hbm, ⟨64, _⟩ => ⟨S1x2048, .f32⟩
  | .hbm, ⟨65, _⟩ => ⟨S1x512, .f32⟩
  | .hbm, ⟨66, _⟩ => ⟨S1x256, .f32⟩
  | .hbm, ⟨67, _⟩ => ⟨S4x2048x8192, .bf16⟩
  | .hbm, ⟨68, _⟩ => ⟨S4x8x8192x128, .bf16⟩
  | .hbm, ⟨69, _⟩ => ⟨S4x8192x128, .bf16⟩
  | .hbm, ⟨70, _⟩ => ⟨S4x8x128x8192, .bf16⟩
  | .hbm, ⟨71, _⟩ => ⟨S4x8192x1024, .bf16⟩
  | .hbm, ⟨72, _⟩ => ⟨S4x8192x256, .bf16⟩
  | .hbm, ⟨73, _⟩ => ⟨S4x8192x256, .bf16⟩
  | .local _ .vmem, ⟨0, _⟩ => ⟨S1x256x2048, .f32⟩
  | .local _ .vmem, ⟨1, _⟩ => ⟨S1x256x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S2048x2560, .bf16⟩
  | .local _ .vmem, ⟨8, _⟩ => ⟨S1x512, .f32⟩
  | .local _ .vmem, ⟨9, _⟩ => ⟨S1x256, .f32⟩
  | .local _ .vmem, ⟨10, _⟩ => ⟨S3072x512, .bf16⟩
  | .local _ .vmem, ⟨11, _⟩ => ⟨S256x1024, .bf16⟩
  | .local _ .vmem, ⟨12, _⟩ => ⟨S1024x256, .bf16⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S128x256, .f32⟩
  | .local _ .vmem, ⟨18, _⟩ => ⟨S128x256, .f32⟩
  | .local _ .vmem, ⟨19, _⟩ => ⟨S128x256, .f32⟩
  | .local _ .vmem, ⟨20, _⟩ => ⟨S128x256, .f32⟩
  | .local _ .vmem, ⟨21, _⟩ => ⟨S1x2048x256, .bf16⟩
  | .local _ .vmem, ⟨22, _⟩ => ⟨S1x2048x256, .bf16⟩
  | .local _ .vmem, ⟨23, _⟩ => ⟨S1x8x256x128, .bf16⟩
  | .local _ .vmem, ⟨24, _⟩ => ⟨S1x8x256x128, .bf16⟩
  | .local _ .vmem, ⟨25, _⟩ => ⟨S1x256x128, .bf16⟩
  | .local _ .vmem, ⟨26, _⟩ => ⟨S1x256x128, .bf16⟩
  | .local _ .vmem, ⟨27, _⟩ => ⟨S1x8x128x256, .bf16⟩
  | .local _ .vmem, ⟨28, _⟩ => ⟨S1x8x128x256, .bf16⟩
  | .local _ .vmem, ⟨29, _⟩ => ⟨S1x256x1024, .bf16⟩
  | .local _ .vmem, ⟨30, _⟩ => ⟨S1x256x1024, .bf16⟩
  | .local _ .vmem, ⟨31, _⟩ => ⟨S1x256x256, .bf16⟩
  | .local _ .vmem, ⟨32, _⟩ => ⟨S1x256x256, .bf16⟩
  | .local _ .vmem, ⟨33, _⟩ => ⟨S1x256x256, .bf16⟩
  | .local _ .vmem, ⟨34, _⟩ => ⟨S1x256x256, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_1 : Ref sig .tc := ⟨.hbm, 43, rfl⟩
abbrev main_v32 : Ref sig .tc := ⟨.hbm, 44, rfl⟩
abbrev main_v33 : Ref sig .tc := ⟨.hbm, 45, rfl⟩
abbrev main_cst_2 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_3 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53_0 : Ref sig .tc := ⟨.hbm, 67, rfl⟩
abbrev main_v53_1 : Ref sig .tc := ⟨.hbm, 68, rfl⟩
abbrev main_v53_2 : Ref sig .tc := ⟨.hbm, 69, rfl⟩
abbrev main_v53_3 : Ref sig .tc := ⟨.hbm, 70, rfl⟩
abbrev main_v53_4 : Ref sig .tc := ⟨.hbm, 71, rfl⟩
abbrev main_v53_5 : Ref sig .tc := ⟨.hbm, 72, rfl⟩
abbrev main_v53_6 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3072x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S128x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S128x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x2048x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x8x256x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x8x128x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x256x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== Reference2Ideal.lean ====
abbrev S4x8192x2048 : Shape := ⟨3, ![4, 8192, 2048]⟩
abbrev S4x1x2048 : Shape := ⟨3, ![4, 1, 2048]⟩
abbrev S2048 : Shape := ⟨1, ![2048]⟩
abbrev S2048x2368 : Shape := ⟨2, ![2048, 2368]⟩
abbrev S512 : Shape := ⟨1, ![512]⟩
abbrev S256 : Shape := ⟨1, ![256]⟩
abbrev S512x1536 : Shape := ⟨2, ![512, 1536]⟩
abbrev S256x2048 : Shape := ⟨2, ![256, 2048]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩
abbrev S4x8192x2368 : Shape := ⟨3, ![4, 8192, 2368]⟩
abbrev S4x8192x512 : Shape := ⟨3, ![4, 8192, 512]⟩
abbrev S4x8192x256 : Shape := ⟨3, ![4, 8192, 256]⟩
abbrev S4x8192x64 : Shape := ⟨3, ![4, 8192, 64]⟩
abbrev S4x8192x1024 : Shape := ⟨3, ![4, 8192, 1024]⟩
abbrev S1x1x512 : Shape := ⟨3, ![1, 1, 512]⟩
abbrev S4x8192x1536 : Shape := ⟨3, ![4, 8192, 1536]⟩
abbrev S4x8192x8x192 : Shape := ⟨4, ![4, 8192, 8, 192]⟩
abbrev S1x1x256 : Shape := ⟨3, ![1, 1, 256]⟩
abbrev S4x8192x8x256 : Shape := ⟨4, ![4, 8192, 8, 256]⟩
abbrev S4x8192x8x64 : Shape := ⟨4, ![4, 8192, 8, 64]⟩
abbrev S32 : Shape := ⟨1, ![32]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S4x8192x8x32 : Shape := ⟨4, ![4, 8192, 8, 32]⟩
abbrev S4x8192x8x128 : Shape := ⟨4, ![4, 8192, 8, 128]⟩
abbrev S4x8192x1x64 : Shape := ⟨4, ![4, 8192, 1, 64]⟩
abbrev S4x8192x1x32 : Shape := ⟨4, ![4, 8192, 1, 32]⟩
abbrev S4x8192x1x128 : Shape := ⟨4, ![4, 8192, 1, 128]⟩
abbrev S4x8192x128 : Shape := ⟨3, ![4, 8192, 128]⟩
abbrev S4x8x256x8192 : Shape := ⟨4, ![4, 8, 256, 8192]⟩
abbrev S4x2048x8192 : Shape := ⟨3, ![4, 2048, 8192]⟩
abbrev S4x8x8192x128 : Shape := ⟨4, ![4, 8, 8192, 128]⟩
abbrev S4x8x128x8192 : Shape := ⟨4, ![4, 8, 128, 8192]⟩

abbrev nBuf : Space → Nat
  | .hbm => 167
  | .vmem => 0
  | .smem => 0
  | _ => 0

abbrev hbmTy0_0 (i : Nat) : BufTy := match i % 128 with
  | 0 => ⟨S4x8192x2048, .f32⟩
  | 1 => ⟨S4x1x2048, .f32⟩
  | 2 => ⟨S4x1x2048, .f32⟩
  | 3 => ⟨S2048, .f32⟩
  | 4 => ⟨S2048x2368, .f32⟩
  | 5 => ⟨S512, .f32⟩
  | 6 => ⟨S256, .f32⟩
  | 7 => ⟨S512x1536, .f32⟩
  | 8 => ⟨S256x2048, .f32⟩
  | 9 => ⟨S4x8192x2048, .f32⟩
  | 10 => ⟨S_, .f32⟩
  | 11 => ⟨S4x8192, .f32⟩
  | 12 => ⟨S4x8192x1, .f32⟩
  | 13 => ⟨S_, .f32⟩
  | 14 => ⟨S4x8192x1, .f32⟩
  | 15 => ⟨S4x8192x1, .f32⟩
  | 16 => ⟨S_, .f32⟩
  | 17 => ⟨S4x8192x1, .f32⟩
  | 18 => ⟨S4x8192x1, .f32⟩
  | 19 => ⟨S4x8192x1, .f32⟩
  | 20 => ⟨S4x8192x2048, .f32⟩
  | 21 => ⟨S4x8192x2048, .f32⟩
  | 22 => ⟨S1x1x2048, .f32⟩
  | 23 => ⟨S4x8192x2048, .f32⟩
  | 24 => ⟨S4x8192x2048, .f32⟩
  | 25 => ⟨S_, .f32⟩
  | 26 => ⟨S4x1x2048, .f32⟩
  | 27 => ⟨S4x1x2048, .f32⟩
  | 28 => ⟨S4x8192x2048, .f32⟩
  | 29 => ⟨S4x8192x2048, .f32⟩
  | 30 => ⟨S4x8192x2048, .f32⟩
  | 31 => ⟨S4x8192x2048, .f32⟩
  | 32 => ⟨S4x8192x2368, .f32⟩
  | 33 => ⟨S4x8192x512, .f32⟩
  | 34 => ⟨S4x8192x256, .f32⟩
  | 35 => ⟨S4x8192x64, .f32⟩
  | 36 => ⟨S4x8192x1024, .f32⟩
  | 37 => ⟨S4x8192x256, .f32⟩
  | 38 => ⟨S4x8192x256, .f32⟩
  | 39 => ⟨S4x8192x512, .f32⟩
  | 40 => ⟨S_, .f32⟩
  | 41 => ⟨S4x8192, .f32⟩
  | 42 => ⟨S4x8192x1, .f32⟩
  | 43 => ⟨S_, .f32⟩
  | 44 => ⟨S4x8192x1, .f32⟩
  | 45 => ⟨S4x8192x1, .f32⟩
  | 46 => ⟨S_, .f32⟩
  | 47 => ⟨S4x8192x1, .f32⟩
  | 48 => ⟨S4x8192x1, .f32⟩
  | 49 => ⟨S4x8192x1, .f32⟩
  | 50 => ⟨S4x8192x512, .f32⟩
  | 51 => ⟨S4x8192x512, .f32⟩
  | 52 => ⟨S1x1x512, .f32⟩
  | 53 => ⟨S4x8192x512, .f32⟩
  | 54 => ⟨S4x8192x512, .f32⟩
  | 55 => ⟨S4x8192x1536, .f32⟩
  | 56 => ⟨S4x8192x8x192, .f32⟩
  | 57 => ⟨S4x8192x256, .f32⟩
  | 58 => ⟨S_, .f32⟩
  | 59 => ⟨S4x8192, .f32⟩
  | 60 => ⟨S4x8192x1, .f32⟩
  | 61 => ⟨S_, .f32⟩
  | 62 => ⟨S4x8192x1, .f32⟩
  | 63 => ⟨S4x8192x1, .f32⟩
  | 64 => ⟨S_, .f32⟩
  | 65 => ⟨S4x8192x1, .f32⟩
  | 66 => ⟨S4x8192x1, .f32⟩
  | 67 => ⟨S4x8192x1, .f32⟩
  | 68 => ⟨S4x8192x256, .f32⟩
  | 69 => ⟨S4x8192x256, .f32⟩
  | 70 => ⟨S1x1x256, .f32⟩
  | 71 => ⟨S4x8192x256, .f32⟩
  | 72 => ⟨S4x8192x256, .f32⟩
  | 73 => ⟨S4x8192x2048, .f32⟩
  | 74 => ⟨S4x8192x8x256, .f32⟩
  | 75 => ⟨S4x8192x8x64, .f32⟩
  | 76 => ⟨S32, .f32⟩
  | 77 => ⟨S32, .f32⟩
  | 78 => ⟨S_, .f32⟩
  | 79 => ⟨S32, .f32⟩
  | 80 => ⟨S32, .f32⟩
  | 81 => ⟨S_, .f32⟩
  | 82 => ⟨S32, .f32⟩
  | 83 => ⟨S32, .f32⟩
  | 84 => ⟨S8192, .i32⟩
  | 85 => ⟨S8192, .f32⟩
  | 86 => ⟨S8192x1, .f32⟩
  | 87 => ⟨S1x32, .f32⟩
  | 88 => ⟨S8192x32, .f32⟩
  | 89 => ⟨S8192x32, .f32⟩
  | 90 => ⟨S8192x32, .f32⟩
  | 91 => ⟨S8192x32, .f32⟩
  | 92 => ⟨S1x8192x1x32, .f32⟩
  | 93 => ⟨S8192x32, .f32⟩
  | 94 => ⟨S1x8192x1x32, .f32⟩
  | 95 => ⟨S4x8192x8x32, .f32⟩
  | 96 => ⟨S4x8192x8x32, .f32⟩
  | 97 => ⟨S_, .f32⟩
  | 98 => ⟨S4x8192x8x64, .f32⟩
  | 99 => ⟨S4x8192x8x32, .f32⟩
  | 100 => ⟨S4x8192x8x32, .f32⟩
  | 101 => ⟨S4x8192x8x32, .f32⟩
  | 102 => ⟨S4x8192x8x32, .f32⟩
  | 103 => ⟨S4x8192x8x32, .f32⟩
  | 104 => ⟨S4x8192x8x32, .f32⟩
  | 105 => ⟨S4x8192x8x32, .f32⟩
  | 106 => ⟨S4x8192x8x32, .f32⟩
  | 107 => ⟨S4x8192x8x32, .f32⟩
  | 108 => ⟨S4x8192x8x32, .f32⟩
  | 109 => ⟨S4x8192x8x128, .f32⟩
  | 110 => ⟨S4x8192x1x64, .f32⟩
  | 111 => ⟨S32, .f32⟩
  | 112 => ⟨S32, .f32⟩
  | 113 => ⟨S_, .f32⟩
  | 114 => ⟨S32, .f32⟩
  | 115 => ⟨S32, .f32⟩
  | 116 => ⟨S_, .f32⟩
  | 117 => ⟨S32, .f32⟩
  | 118 => ⟨S32, .f32⟩
  | 119 => ⟨S8192, .i32⟩
  | 120 => ⟨S8192, .f32⟩
  | 121 => ⟨S8192x1, .f32⟩
  | 122 => ⟨S1x32, .f32⟩
  | 123 => ⟨S8192x32, .f32⟩
  | 124 => ⟨S8192x32, .f32⟩
  | 125 => ⟨S8192x32, .f32⟩
  | 126 => ⟨S8192x32, .f32⟩
  | 127 => ⟨S1x8192x1x32, .f32⟩
  | _ => ⟨S4x8192x2048, .f32⟩

abbrev hbmTy0_1 (i : Nat) : BufTy := match i % 128 with
  | 0 => ⟨S8192x32, .f32⟩
  | 1 => ⟨S1x8192x1x32, .f32⟩
  | 2 => ⟨S4x8192x1x32, .f32⟩
  | 3 => ⟨S4x8192x1x32, .f32⟩
  | 4 => ⟨S_, .f32⟩
  | 5 => ⟨S4x8192x1x64, .f32⟩
  | 6 => ⟨S4x8192x1x32, .f32⟩
  | 7 => ⟨S4x8192x1x32, .f32⟩
  | 8 => ⟨S4x8192x1x32, .f32⟩
  | 9 => ⟨S4x8192x1x32, .f32⟩
  | 10 => ⟨S4x8192x1x32, .f32⟩
  | 11 => ⟨S4x8192x1x32, .f32⟩
  | 12 => ⟨S4x8192x1x32, .f32⟩
  | 13 => ⟨S4x8192x1x32, .f32⟩
  | 14 => ⟨S4x8192x1x32, .f32⟩
  | 15 => ⟨S4x8192x1x32, .f32⟩
  | 16 => ⟨S4x8192x1x128, .f32⟩
  | 17 => ⟨S4x8192x128, .f32⟩
  | 18 => ⟨S4x8192x8x128, .f32⟩
  | 19 => ⟨S4x8192x8x256, .f32⟩
  | 20 => ⟨S_, .f32⟩
  | 21 => ⟨S4x8192x8x256, .f32⟩
  | 22 => ⟨S4x8192x8x256, .f32⟩
  | 23 => ⟨S4x8x256x8192, .f32⟩
  | 24 => ⟨S4x2048x8192, .f32⟩
  | 25 => ⟨S4x8192x8x128, .f32⟩
  | 26 => ⟨S4x8x8192x128, .f32⟩
  | 27 => ⟨S4x8192x8x128, .f32⟩
  | 28 => ⟨S4x8x128x8192, .f32⟩
  | 29 => ⟨S_, .f32⟩
  | 30 => ⟨S4x8192x1024, .f32⟩
  | 31 => ⟨S4x8192x1024, .f32⟩
  | 32 => ⟨S4x2048x8192, .bf16⟩
  | 33 => ⟨S4x8x8192x128, .bf16⟩
  | 34 => ⟨S4x8192x128, .bf16⟩
  | 35 => ⟨S4x8x128x8192, .bf16⟩
  | 36 => ⟨S4x8192x1024, .bf16⟩
  | 37 => ⟨S4x8192x256, .bf16⟩
  | 38 => ⟨S4x8192x256, .bf16⟩
  | _ => ⟨S4x8192x2048, .f32⟩

abbrev hbmTy (i : Nat) : BufTy := match i / 128 with
  | 0 => hbmTy0_0 i
  | 1 => hbmTy0_1 i
  | _ => ⟨S4x8192x2048, .f32⟩

abbrev bufTy : (tb : Table) → Fin (tcTables nBuf tb) → BufTy
  | .hbm, ⟨i, _⟩ => hbmTy i
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_6 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_9 : Ref sig .tc := ⟨.hbm, 78, rfl⟩
abbrev main_v59 : Ref sig .tc := ⟨.hbm, 79, rfl⟩
abbrev main_v60 : Ref sig .tc := ⟨.hbm, 80, rfl⟩
abbrev main_cst_10 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_11 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_cst_12 : Ref sig .tc := ⟨.hbm, 113, rfl⟩
abbrev main_v91 : Ref sig .tc := ⟨.hbm, 114, rfl⟩
abbrev main_v92 : Ref sig .tc := ⟨.hbm, 115, rfl⟩
abbrev main_cst_13 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_cst_14 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_cst_15 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_cst_16 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩

abbrev nD : Nat := 1
abbrev τ : Topo := Topo.v7x

variable {F : FTy → Type} [FloatOps F]
-- ==== Kernel3.lean ====
abbrev S288 : Shape := ⟨1, ![288]⟩
abbrev S1 : Shape := ⟨1, ![1]⟩
abbrev S73728x1024 : Shape := ⟨2, ![73728, 1024]⟩
abbrev S32x2048x512 : Shape := ⟨3, ![32, 2048, 512]⟩
abbrev S32x512x2048 : Shape := ⟨3, ![32, 512, 2048]⟩
abbrev S73728x2048 : Shape := ⟨2, ![73728, 2048]⟩
abbrev S256x1024 : Shape := ⟨2, ![256, 1024]⟩
abbrev S1x2048x512 : Shape := ⟨3, ![1, 2048, 512]⟩
abbrev S1x512x2048 : Shape := ⟨3, ![1, 512, 2048]⟩
abbrev S256x2048 : Shape := ⟨2, ![256, 2048]⟩
abbrev S2048x512 : Shape := ⟨2, ![2048, 512]⟩
abbrev S256x512 : Shape := ⟨2, ![256, 512]⟩
abbrev S512x2048 : Shape := ⟨2, ![512, 2048]⟩

abbrev nBuf : Space → Nat
  | .hbm => 5
  | .vmem => 10
  | .smem => 2
  | _ => 0

abbrev bufTy : (tb : Table) → Fin (tcTables nBuf tb) → BufTy
  | .hbm, ⟨0, _⟩ => ⟨S73728x1024, .i32⟩
  | .hbm, ⟨1, _⟩ => ⟨S32x2048x512, .bf16⟩
  | .hbm, ⟨2, _⟩ => ⟨S32x2048x512, .bf16⟩
  | .hbm, ⟨3, _⟩ => ⟨S32x512x2048, .bf16⟩
  | .hbm, ⟨4, _⟩ => ⟨S73728x2048, .f32⟩
  | .local _ .vmem, ⟨0, _⟩ => ⟨S256x1024, .i32⟩
  | .local _ .vmem, ⟨1, _⟩ => ⟨S256x1024, .i32⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x512x2048, .bf16⟩
  | .local _ .vmem, ⟨7, _⟩ => ⟨S1x512x2048, .bf16⟩
  | .local _ .vmem, ⟨8, _⟩ => ⟨S256x2048, .f32⟩
  | .local _ .vmem, ⟨9, _⟩ => ⟨S256x2048, .f32⟩
  | .local _ .smem, ⟨0, _⟩ => ⟨S288, .i32⟩
  | .local _ .smem, ⟨1, _⟩ => ⟨S1, .i32⟩
  | _, _ => ⟨S73728x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S288 : Shape := ⟨1, ![288]⟩
abbrev S1 : Shape := ⟨1, ![1]⟩
abbrev S73728x1024 : Shape := ⟨2, ![73728, 1024]⟩
abbrev S32x2048x512 : Shape := ⟨3, ![32, 2048, 512]⟩
abbrev S32x512x2048 : Shape := ⟨3, ![32, 512, 2048]⟩
abbrev S_ : Shape := ⟨0, ![]⟩
abbrev S73728x2048 : Shape := ⟨2, ![73728, 2048]⟩
abbrev S288x256x2048 : Shape := ⟨3, ![288, 256, 2048]⟩
abbrev S288x1 : Shape := ⟨2, ![288, 1]⟩
abbrev S288x2048x512 : Shape := ⟨3, ![288, 2048, 512]⟩
abbrev S288x512x2048 : Shape := ⟨3, ![288, 512, 2048]⟩
abbrev S288x256x512 : Shape := ⟨3, ![288, 256, 512]⟩
abbrev S288x1x1 : Shape := ⟨3, ![288, 1, 1]⟩

abbrev nBuf : Space → Nat
  | .hbm => 49
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S73728x1024, .i32⟩
  | .hbm, ⟨3, _⟩ => ⟨S32x2048x512, .bf16⟩
  | .hbm, ⟨4, _⟩ => ⟨S32x2048x512, .bf16⟩
  | .hbm, ⟨5, _⟩ => ⟨S32x512x2048, .bf16⟩
  | .hbm, ⟨6, _⟩ => ⟨S_, .i32⟩
  | .hbm, ⟨7, _⟩ => ⟨S73728x1024, .i32⟩
  | .hbm, ⟨8, _⟩ => ⟨S73728x1024, .i32⟩
  | .hbm, ⟨9, _⟩ => ⟨S73728x1024, .f32⟩
  | .hbm, ⟨10, _⟩ => ⟨S_, .i32⟩
  | .hbm, ⟨11, _⟩ => ⟨S73728x1024, .i32⟩
  | .hbm, ⟨12, _⟩ => ⟨S73728x1024, .i32⟩
  | .hbm, ⟨13, _⟩ => ⟨S73728x1024, .f32⟩
  | .hbm, ⟨14, _⟩ => ⟨S73728x2048, .f32⟩
  | .hbm, ⟨15, _⟩ => ⟨S288x256x2048, .f32⟩
  | .hbm, ⟨16, _⟩ => ⟨S32x2048x512, .f32⟩
  | .hbm, ⟨17, _⟩ => ⟨S288x1, .i32⟩
  | .hbm, ⟨18, _⟩ => ⟨S288x2048x512, .f32⟩
  | .hbm, ⟨19, _⟩ => ⟨S32x2048x512, .f32⟩
  | .hbm, ⟨20, _⟩ => ⟨S288x1, .i32⟩
  | .hbm, ⟨21, _⟩ => ⟨S288x2048x512, .f32⟩
  | .hbm, ⟨22, _⟩ => ⟨S32x512x2048, .f32⟩
  | .hbm, ⟨23, _⟩ => ⟨S288x1, .i32⟩
  | .hbm, ⟨24, _⟩ => ⟨S288x512x2048, .f32⟩
  | .hbm, ⟨25, _⟩ => ⟨S288x256x512, .f32⟩
  | .hbm, ⟨26, _⟩ => ⟨S288x256x512, .f32⟩
  | .hbm, ⟨27, _⟩ => ⟨S288x256x512, .f32⟩
  | .hbm, ⟨28, _⟩ => ⟨S288x256x512, .f32⟩
  | .hbm, ⟨29, _⟩ => ⟨S_, .f32⟩
  | .hbm, ⟨30, _⟩ => ⟨S288x256x512, .f32⟩
  | .hbm, ⟨31, _⟩ => ⟨S288x256x512, .f32⟩
  | .hbm, ⟨32, _⟩ => ⟨S_, .f32⟩
  | .hbm, ⟨33, _⟩ => ⟨S288x256x512, .f32⟩
  | .hbm, ⟨34, _⟩ => ⟨S288x256x512, .f32⟩
  | .hbm, ⟨35, _⟩ => ⟨S288x256x512, .f32⟩
  | .hbm, ⟨36, _⟩ => ⟨S288x256x512, .f32⟩
  | .hbm, ⟨37, _⟩ => ⟨S288x256x2048, .f32⟩
  | .hbm, ⟨38, _⟩ => ⟨S288, .i32⟩
  | .hbm, ⟨39, _⟩ => ⟨S288x1x1, .i32⟩
  | .hbm, ⟨40, _⟩ => ⟨S_, .i32⟩
  | .hbm, ⟨41, _⟩ => ⟨S288x1x1, .i32⟩
  | .hbm, ⟨42, _⟩ => ⟨S288x1x1, .i1⟩
  | .hbm, ⟨43, _⟩ => ⟨S_, .f32⟩
  | .hbm, ⟨44, _⟩ => ⟨S_, .f32⟩
  | .hbm, ⟨45, _⟩ => ⟨S288x256x2048, .i1⟩
  | .hbm, ⟨46, _⟩ => ⟨S288x256x2048, .f32⟩
  | .hbm, ⟨47, _⟩ => ⟨S288x256x2048, .f32⟩
  | .hbm, ⟨48, _⟩ => ⟨S73728x2048, .f32⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_v0 : Ref sig .tc := ⟨.hbm, 17, rfl⟩
abbrev main_v9 : Ref sig .tc := ⟨.hbm, 18, rfl⟩
abbrev main_v10 : Ref sig .tc := ⟨.hbm, 19, rfl⟩
abbrev main_call1_v0 : Ref sig .tc := ⟨.hbm, 20, rfl⟩
abbrev main_v11 : Ref sig .tc := ⟨.hbm, 21, rfl⟩
abbrev main_v12 : Ref sig .tc := ⟨.hbm, 22, rfl⟩
abbrev main_call2_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call3_v0 : Ref sig .tc := ⟨.hbm, 27, rfl⟩
abbrev main_call3_v1 : Ref sig .tc := ⟨.hbm, 28, rfl⟩
abbrev main_call3_cst : Ref sig .tc := ⟨.hbm, 29, rfl⟩
abbrev main_call3_v2 : Ref sig .tc := ⟨.hbm, 30, rfl⟩
abbrev main_call3_v3 : Ref sig .tc := ⟨.hbm, 31, rfl⟩
abbrev main_call3_cst_0 : Ref sig .tc := ⟨.hbm, 32, rfl⟩
abbrev main_call3_v4 : Ref sig .tc := ⟨.hbm, 33, rfl⟩
abbrev main_call3_v5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst : Ref sig .tc := ⟨.hbm, 43, rfl⟩
abbrev main_call4_v0 : Ref sig .tc := ⟨.hbm, 44, rfl⟩
abbrev main_call4_v1 : Ref sig .tc := ⟨.hbm, 45, rfl⟩
abbrev main_call4_v2 : Ref sig .tc := ⟨.hbm, 46, rfl⟩
abbrev main_v24 : Ref sig .tc := ⟨.hbm, 47, rfl⟩
abbrev main_v25 : Ref sig .tc := ⟨.hbm, 48, rfl⟩

abbrev nD : Nat := 1
abbrev τ : Topo := Topo.v7x

variable {F : FTy → Type} [FloatOps F]
-- ==== Proof.Mla.Model.lean ====
/- What one grid point of the attention kernel computes, written as a recursion over the key blocks.

   A grid point holds 2048 queries of one head as four groups of 512, and walks the 8192 keys of that
   head in eight blocks of 1024. For each group it keeps, per query, the running maximum of the scores,
   the running sum of `2 ^ (score - maximum)`, and the running weighted sum of the values. The printed
   body unrolls the 32 steps; here the same steps are functions of the number of the key block. -/
module

public import proofs.«01_k».proof.Proof.Gen.KernelIdeal.Value

@[expose] public section

set_option maxRecDepth 16384

noncomputable section

namespace Cert.KernelIdeal.Mla

open Cert.KernelIdeal Cert.KernelIdeal.Gen Idealize.ShloMosaic Idealize.ShloMosaic.TcCoe

variable {F : FTy → Type} [FloatOps F]

/-- A block of keys, its two halves side by side: one row of 256 numbers per key. -/
def keys (k : Vec F S1x1x1024x128 .bf16) (r : Vec F S1x1024x128 .bf16) : FVec F S1024x256 .bf16 :=
  concatenate S1024x256 1 [⟨S1024x128, shapeCast S1024x128 k shapeCasts_S1x1x1024x128_S1024x128⟩,
    ⟨S1024x128, shapeCast S1024x128 r shapeCasts_S1x1024x128_S1024x128⟩] concatenates_S1024x128_S1024x128_S1024x256_d1

/-- The scores of a block of keys against a group of queries. -/
def score (q : Vec F S1x256x512 .bf16) (k : Vec F S1x1x1024x128 .bf16) (r : Vec F S1x1024x128 .bf16) : FVec F S1024x512 .f32 :=
  matmul dot_S1024x256_S256x512_S1024x512_1_0_0_1_n_n none (keys k r)
    (shapeCast S256x512 q shapeCasts_S1x256x512_S256x512 : FVec F S256x512 .bf16) (constant S1024x512 .f32 0x00000000#32)

/-- Per query, the greatest score of the block. -/
def top (s : FVec F S1024x512 .f32) : FVec F S1x512 .f32 :=
  shapeCast S1x512 (multiReduction .maximumf [0] S512 s 0xFF800000#32 reduces_S1024x512_S512 (.inl rfl) rfl) shapeCasts_S512_S1x512

/-- The block's weights against the maximum `m`. -/
def weight (s : FVec F S1024x512 .f32) (m : FVec F S1x512 .f32) : FVec F S1024x512 .f32 :=
  exp2 (subf s (broadcastTo S1024x512 m broadcasts_S1x512_S1024x512))

/-- Per query, the sum of the block's weights. -/
def total (p : FVec F S1024x512 .f32) : FVec F S1x512 .f32 :=
  shapeCast S1x512 (multiReduction .add [0] S512 p 0x00000000#32 reduces_S1024x512_S512 (.inl rfl) rfl) shapeCasts_S512_S1x512

/-- The values of the block, weighted and summed. -/
def mix (v : Vec F S1x1x128x1024 .bf16) (p : FVec F S1024x512 .f32) : FVec F S128x512 .f32 :=
  matmul dot_S128x1024_S1024x512_S128x512_1_0_0_1_n_n none
    (shapeCast S128x1024 v shapeCasts_S1x1x128x1024_S128x1024 : FVec F S128x1024 .bf16)
    (truncf .bf16 p bitsLt_bf16_f32) (constant S128x512 .f32 0x00000000#32)

/-- A weighted sum `a` taken over to a new maximum, the factor per query `f`, and the next block's `b` added. -/
def carry (f : FVec F S1x512 .f32) (a : Vec F S1x128x512 .f32) (b : FVec F S128x512 .f32) : FVec F S128x512 .f32 :=
  addf (mulf (broadcastTo S128x512 f broadcasts_S1x512_S128x512) (shapeCast S128x512 a shapeCasts_S1x128x512_S128x512 : FVec F S128x512 .f32)) b

/-- The scratch plane number `g`. -/
abbrev planeAt (g : ℕ) (hg : ∀ a, ![g, 0, 0] a + S1x128x512.size a ≤ S4x128x512.size a) : Rect S4x128x512 :=
  Rect.unit (s := S4x128x512) ![g, 0, 0] S1x128x512.size hg

section Steps

variable (q : Vec F S1x256x512 .bf16) (k : ℕ → Vec F S1x1x1024x128 .bf16) (r : ℕ → Vec F S1x1024x128 .bf16)
  (v : ℕ → Vec F S1x1x128x1024 .bf16)

/-- The running maximum after key block `j`. -/
def runMax (j : ℕ) : FVec F S1x512 .f32 :=
  Nat.rec (top (score q (k 0) (r 0))) (fun i m => maximumf m (top (score q (k (i + 1)) (r (i + 1))))) j

/-- The weights of key block `j`. -/
def wts (j : ℕ) : FVec F S1024x512 .f32 := weight (score q (k j) (r j)) (runMax q k r j)

/-- The factor that takes the sums after block `j` over to the maximum after block `j + 1`. -/
def factor (j : ℕ) : FVec F S1x512 .f32 := exp2 (subf (runMax q k r j) (runMax q k r (j + 1)))

/-- The running sum of weights after key block `j`. -/
def runSum (j : ℕ) : FVec F S1x512 .f32 :=
  Nat.rec (total (wts q k r 0)) (fun i l => addf (mulf (factor q k r i) l) (total (wts q k r (i + 1)))) j

variable {sp : Space} (w : View sig .tc sp S4x128x512 .f32) (g : ℕ) (hg : ∀ a, ![g, 0, 0] a + S1x128x512.size a ≤ S4x128x512.size a)
  (L : List (View.Piece (Elt F) S4x128x512 .f32))

/-- What the scratch buffer has been given, last first, after key block `j`: group `g`'s plane is rewritten
    with the weighted sum of values so far, read back from the stores before it. -/
def stored (j : ℕ) : List (View.Piece (Elt F) S4x128x512 .f32) :=
  Nat.rec (⟨planeAt g hg, (shapeCast S1x128x512 (mix (v 0) (wts q k r 0)) shapeCasts_S128x512_S1x128x512 : FVec F S1x128x512 .f32)⟩ :: L)
    (fun i Ls => ⟨planeAt g hg, (shapeCast S1x128x512 (carry (factor q k r i)
      (w.readCov Ls (planeAt g hg).toLoadRect) (mix (v (i + 1)) (wts q k r (i + 1)))) shapeCasts_S128x512_S1x128x512 : FVec F S1x128x512 .f32)⟩ :: Ls) j

/-- The group's result: the last weighted sum over the last sum of weights, one row per query. -/
def result (a : Vec F S1x128x512 .f32) : FVec F S1x512x128 .f32 :=
  shapeCast S1x512x128 (transpose S512x128 [1, 0] (divf (carry (factor q k r 6) a (mix (v 7) (wts q k r 7)))
    (broadcastTo S128x512 (runSum q k r 7) broadcasts_S1x512_S128x512)) transposes_S128x512_p1_0_S512x128) shapeCasts_S512x128_S1x512x128

end Steps

/-! ## The blocks of a grid point's inputs -/

theorem inb_q (g : ℕ) (a : Fin S1x256x2048.rank) : ![0, 0, 512 * (g % 4)] a + S1x256x512.size a ≤ S1x256x2048.size a := by
  have := Nat.mod_lt g (show 0 < 4 by decide)
  fin_cases a <;> simp <;> omega

theorem inb_k (j : ℕ) (a : Fin S1x1x8192x128.rank) : ![0, 0, 1024 * (j % 8), 0] a + S1x1x1024x128.size a ≤ S1x1x8192x128.size a := by
  have := Nat.mod_lt j (show 0 < 8 by decide)
  fin_cases a <;> simp <;> omega

theorem inb_r (j : ℕ) (a : Fin S1x8192x128.rank) : ![0, 1024 * (j % 8), 0] a + S1x1024x128.size a ≤ S1x8192x128.size a := by
  have := Nat.mod_lt j (show 0 < 8 by decide)
  fin_cases a <;> simp <;> omega

theorem inb_v (j : ℕ) (a : Fin S1x1x128x8192.rank) : ![0, 0, 0, 1024 * (j % 8)] a + S1x1x128x1024.size a ≤ S1x1x128x8192.size a := by
  have := Nat.mod_lt j (show 0 < 8 by decide)
  fin_cases a <;> simp <;> omega

theorem inb_s (g : ℕ) (a : Fin S4x128x512.rank) : ![g % 4, 0, 0] a + S1x128x512.size a ≤ S4x128x512.size a := by
  have := Nat.mod_lt g (show 0 < 4 by decide)
  fin_cases a <;> simp <;> omega

theorem inb_o (g : ℕ) (a : Fin S1x2048x128.rank) : ![0, 512 * (g % 4), 0] a + S1x512x128.size a ≤ S1x2048x128.size a := by
  have := Nat.mod_lt g (show 0 < 4 by decide)
  fin_cases a <;> simp <;> omega

section Blocks

variable {sp : Space}

/-- Group `g`'s queries, read off the staged block. -/
def qAt (b : View sig .tc sp S1x256x2048 .bf16) (f : b.ty.Contents (Elt F)) (g : ℕ) : Vec F S1x256x512 .bf16 :=
  View.readAt (Elt F) b (Rect.unit (s := S1x256x2048) ![0, 0, 512 * (g % 4)] S1x256x512.size (inb_q g)).toLoadRect f

/-- Key block `j`'s first half. -/
def kAt (b : View sig .tc sp S1x1x8192x128 .bf16) (f : b.ty.Contents (Elt F)) (j : ℕ) : Vec F S1x1x1024x128 .bf16 :=
  View.readAt (Elt F) b (Rect.unit (s := S1x1x8192x128) ![0, 0, 1024 * (j % 8), 0] S1x1x1024x128.size (inb_k j)).toLoadRect f

/-- Key block `j`'s second half. -/
def rAt (b : View sig .tc sp S1x8192x128 .bf16) (f : b.ty.Contents (Elt F)) (j : ℕ) : Vec F S1x1024x128 .bf16 :=
  View.readAt (Elt F) b (Rect.unit (s := S1x8192x128) ![0, 1024 * (j % 8), 0] S1x1024x128.size (inb_r j)).toLoadRect f

/-- Key block `j`'s values. -/
def vAt (b : View sig .tc sp S1x1x128x8192 .bf16) (f : b.ty.Contents (Elt F)) (j : ℕ) : Vec F S1x1x128x1024 .bf16 :=
  View.readAt (Elt F) b (Rect.unit (s := S1x1x128x8192) ![0, 0, 0, 1024 * (j % 8)] S1x1x128x1024.size (inb_v j)).toLoadRect f

end Blocks

section Groups

variable (q : ℕ → Vec F S1x256x512 .bf16) (k : ℕ → Vec F S1x1x1024x128 .bf16) (r : ℕ → Vec F S1x1024x128 .bf16)
  (v : ℕ → Vec F S1x1x128x1024 .bf16) {sp : Space} (w : View sig .tc sp S4x128x512 .f32)

/-- The scratch stores up to group `g`'s last: the groups follow one another. -/
def storedAll (g : ℕ) : List (View.Piece (Elt F) S4x128x512 .f32) :=
  Nat.rec (stored (q 0) k r v w (0 % 4) (inb_s 0) [] 6) (fun i L => stored (q (i + 1)) k r v w ((i + 1) % 4) (inb_s (i + 1)) L 6) g

/-- Group `g`'s result. -/
def group (g : ℕ) : FVec F S1x512x128 .f32 :=
  result (q g) k r v (w.readCov (storedAll q k r v w g) (planeAt (g % 4) (inb_s g)).toLoadRect)

/-- Group `g`'s rows of the output block, with its result. -/
def row (g : ℕ) : View.Piece (Elt F) S1x2048x128 .f32 := ⟨Rect.unit (s := S1x2048x128) ![0, 512 * (g % 4), 0] S1x512x128.size (inb_o g), group q k r v w g⟩

end Groups

end Cert.KernelIdeal.Mla

end
-- ==== Proof.Mla.Unroll.lean ====
/- The printed body of the attention kernel, which unrolls its 32 steps, leaves in the output block what the
   recursion of `Model.lean` says: four stores, one per group of queries. -/
module

public import proofs.«01_k».proof.Proof.Mla.Model

@[expose] public section

set_option maxRecDepth 16384

noncomputable section

namespace Cert.KernelIdeal.Mla

open Cert.KernelIdeal Cert.KernelIdeal.Gen Idealize.ShloMosaic Idealize.ShloMosaic.TcCoe

variable {F : FTy → Type} [FloatOps F]

/-- The stores the body makes into its output block, last first. -/
theorem run_eq (c : Dev nD) (i : grid0.Coords) (arg3 : Memref sig .tc .vmem S1x256x2048 .bf16) (harg3 : arg3.IsWhole)
    (arg4 : Memref sig .tc .vmem S1x1x8192x128 .bf16) (harg4 : arg4.IsWhole) (arg5 : Memref sig .tc .vmem S1x8192x128 .bf16) (harg5 : arg5.IsWhole)
    (arg6 : Memref sig .tc .vmem S1x1x128x8192 .bf16) (harg6 : arg6.IsWhole) (arg7 : Memref sig .tc .vmem S1x2048x128 .f32) (harg7 : arg7.IsWhole)
    (arg8 : Memref sig .tc .vmem S4x128x512 .f32) (harg8 : arg8.IsWhole)
    (x0 : Vec F S1x256x2048 .bf16) (x1 : Vec F S1x1x8192x128 .bf16) (x2 : Vec F S1x8192x128 .bf16) (x3 : Vec F S1x1x128x8192 .bf16) :
    (kernelRun0_A (F := F) c i arg3 harg3 arg4 harg4 arg5 harg5 arg6 harg6 arg7 harg7 arg8 harg8 x0 x1 x2 x3).1
      = [row (qAt arg3.view (harg3.unread x0)) (kAt arg4.view (harg4.unread x1)) (rAt arg5.view (harg5.unread x2)) (vAt arg6.view (harg6.unread x3)) arg8.view 3,
         row (qAt arg3.view (harg3.unread x0)) (kAt arg4.view (harg4.unread x1)) (rAt arg5.view (harg5.unread x2)) (vAt arg6.view (harg6.unread x3)) arg8.view 2,
         row (qAt arg3.view (harg3.unread x0)) (kAt arg4.view (harg4.unread x1)) (rAt arg5.view (harg5.unread x2)) (vAt arg6.view (harg6.unread x3)) arg8.view 1,
         row (qAt arg3.view (harg3.unread x0)) (kAt arg4.view (harg4.unread x1)) (rAt arg5.view (harg5.unread x2)) (vAt arg6.view (harg6.unread x3)) arg8.view 0] := by
  sl_kernel_rfl

end Cert.KernelIdeal.Mla

end
-- ==== Proof.Mla.OnlineSoftmax.lean ====
/- The arithmetic of a softmax-weighted sum taken block by block, on the extended reals.

   For real scores `s i κ` (block `i`, key `κ` in the block) and a real `M`, `wsum s n M` is the sum of
   `2 ^ (s i κ - M)` over the first `n` blocks and `asum s v n M` the sum of the values with these weights.
   Changing `M` multiplies both by one factor, so their quotient does not depend on `M`, and neither does
   it on the base: with `exp (s ln 2 - m)` in place of `2 ^ (s - M)` the quotient is the same. The values
   may be infinite; the weights are positive reals. -/
module

public import Idealize.ShloMosaic.Lib.Pipeline.ValueKit
public import Idealize.ShloMosaic.PureOps.Ideal.Laws

@[expose] public section

noncomputable section

namespace Cert.Softmax

open Finset

/-- A nonnegative real factor goes into a sum of extended reals. -/
theorem coe_mul_sum {ι : Type*} (c : ℝ) (hc : 0 ≤ c) (S : Finset ι) (f : ι → EReal) :
    (c : EReal) * ∑ i ∈ S, f i = ∑ i ∈ S, (c : EReal) * f i := by
  classical
  induction S using Finset.induction_on with
  | empty => simp
  | insert a S ha ih =>
    rw [sum_insert ha, sum_insert ha, ← ih]
    exact EReal.left_distrib_of_nonneg_of_ne_top (EReal.coe_nonneg.mpr hc) (EReal.coe_ne_top c) _ _

/-- A sum of reals, read as extended reals. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [sum_insert ha, sum_insert ha, EReal.coe_add, ih]

/-- The greatest of finitely many reals, started from `-∞`, is a real. -/
theorem fold_max_coe {ι : Type*} (S : Finset ι) (hS : S.Nonempty) (f : ι → EReal) (g : ι → ℝ) (h : ∀ i, f i = (g i : EReal)) :
    ∃ M : ℝ, S.fold max (⊥ : EReal) f = (M : EReal) := by
  classical
  have key : ∀ T : Finset ι, T.fold max (⊥ : EReal) f = ⊥ ∧ T = ∅ ∨ ∃ M : ℝ, T.fold max (⊥ : EReal) f = (M : EReal) := by
    intro T
    induction T using Finset.induction_on with
    | empty => exact .inl ⟨rfl, rfl⟩
    | insert a T ha ih =>
      right
      rw [fold_insert ha, h a]
      rcases ih with ⟨e, -⟩ | ⟨M, e⟩
      · exact ⟨g a, by rw [e]; exact max_eq_left bot_le⟩
      · exact ⟨max (g a) M, by rw [e]; exact (EReal.coe_strictMono.monotone.map_max).symm⟩
  rcases key S with ⟨-, e⟩ | h
  · exact absurd e hS.ne_empty
  · exact h

/-- The weight `2 ^ x`. -/
def pw (x : ℝ) : ℝ := Real.rpow 2 x

theorem pw_pos (x : ℝ) : 0 < pw x := Real.rpow_pos_of_pos two_pos x

theorem pw_add (x y : ℝ) : pw x * pw y = pw (x + y) := (Real.rpow_add two_pos x y).symm

variable {K : ℕ} (s : ℕ → Fin K → ℝ) (v : ℕ → Fin K → EReal)

/-- The sum of the weights of the first `n` blocks against `M`. -/
def wsum (n : ℕ) (M : ℝ) : ℝ := ∑ i ∈ range n, ∑ κ, pw (s i κ - M)

/-- The weighted sum of the values of the first `n` blocks against `M`. -/
def asum (n : ℕ) (M : ℝ) : EReal := ∑ i ∈ range n, ∑ κ, v i κ * ((pw (s i κ - M) : ℝ) : EReal)

theorem wsum_rescale (n : ℕ) (M M' : ℝ) : pw (M - M') * wsum s n M = wsum s n M' := by
  unfold wsum
  rw [mul_sum]
  refine sum_congr rfl fun i _ => ?_
  rw [mul_sum]
  refine sum_congr rfl fun κ _ => ?_
  rw [pw_add]
  congr 1; ring

theorem asum_rescale (n : ℕ) (M M' : ℝ) : ((pw (M - M') : ℝ) : EReal) * asum s v n M = asum s v n M' := by
  unfold asum
  rw [coe_mul_sum _ (pw_pos _).le]
  refine sum_congr rfl fun i _ => ?_
  rw [coe_mul_sum _ (pw_pos _).le]
  refine sum_congr rfl fun κ _ => ?_
  rw [mul_left_comm, ← EReal.coe_mul, pw_add]
  congr 3; ring

theorem wsum_pos (n : ℕ) (M : ℝ) (hn : 0 < n) (hK : 0 < K) : 0 < wsum s n M := by
  haveI : Nonempty (Fin K) := ⟨⟨0, hK⟩⟩
  exact sum_pos (fun i _ => sum_pos (fun κ _ => pw_pos _) univ_nonempty) ⟨0, mem_range.mpr hn⟩

/-- The softmax weight of key `κ` of block `i` among the first `n` blocks. -/
def soft (n : ℕ) (i : ℕ) (κ : Fin K) : ℝ := pw (s i κ) / wsum s n 0

/-- The weighted sum over the sum of weights is the softmax-weighted sum, whatever `M`. -/
theorem asum_div (n : ℕ) (M : ℝ) (hn : 0 < n) (hK : 0 < K) :
    asum s v n M * ((1 / wsum s n M : ℝ) : EReal) = ∑ i ∈ range n, ∑ κ, v i κ * ((soft s n i κ : ℝ) : EReal) := by
  have hpos : 0 < 1 / wsum s n M := one_div_pos.mpr (wsum_pos s n M hn hK)
  unfold asum
  rw [mul_comm, coe_mul_sum _ hpos.le]
  refine sum_congr rfl fun i _ => ?_
  rw [coe_mul_sum _ hpos.le]
  refine sum_congr rfl fun κ _ => ?_
  rw [mul_left_comm, ← EReal.coe_mul]
  congr 2
  have hW := wsum_rescale s n 0 M
  have h0 := (wsum_pos s n 0 hn hK).ne'
  have hp := (pw_pos (0 - M)).ne'
  have e : pw (s i κ - M) = pw (0 - M) * pw (s i κ) := by rw [pw_add]; congr 1; ring
  unfold soft
  rw [← hW, e]
  field_simp

/-- The same quotient with the natural exponential of `s ln 2 - m`. -/
theorem exp_soft (n : ℕ) (m : ℝ) (hn : 0 < n) (hK : 0 < K) (i : ℕ) (κ : Fin K) :
    Real.exp (s i κ * Real.log 2 - m) / ∑ i' ∈ range n, ∑ κ', Real.exp (s i' κ' * Real.log 2 - m) = soft s n i κ := by
  have e : ∀ x : ℝ, Real.exp (x * Real.log 2 - m) = Real.exp (-m) * pw (x - 0) := by
    intro x
    show _ = _ * (2 : ℝ) ^ (x - 0)
    rw [Real.rpow_def_of_pos two_pos, ← Real.exp_add]
    congr 1; ring
  have h0 := (wsum_pos s n 0 hn hK).ne'
  have hm := (Real.exp_pos (-m)).ne'
  simp only [e, ← mul_sum]
  unfold soft
  rw [show (∑ i' ∈ range n, ∑ κ', pw (s i' κ' - 0)) = wsum s n 0 from rfl, sub_zero]
  field_simp

end Cert.Softmax

end
-- ==== Proof.Mla.At.lean ====
/- The recursion of `Model.lean` read at one query, on the extended reals.

   Where the scores of a query are real numbers, the running maximum is real, the running sum of weights is
   `wsum`, the running weighted sum of values is `asum`, both against that maximum, and so the group's
   result is the softmax-weighted sum of the values. -/
module

public import proofs.«01_k».proof.Proof.Mla.Model
public import proofs.«01_k».proof.Proof.Mla.OnlineSoftmax

@[expose] public section

set_option maxRecDepth 16384

noncomputable section

namespace Cert.KernelIdeal.Mla

open Cert.KernelIdeal Cert.KernelIdeal.Gen Cert.Softmax Idealize.ShloMosaic Idealize.ShloMosaic.TcCoe

/-- A score is a product over the 256 numbers of a key. -/
theorem score_apply (q : Vec Ideal S1x256x512 .bf16) (k : Vec Ideal S1x1x1024x128 .bf16) (r : Vec Ideal S1x1024x128 .bf16)
    (κ : Fin 1024) (n : Fin 512) :
    score (F := Ideal) q k r (ValueIdx.ix2 κ n) = ∑ x : Fin 256, keys (F := Ideal) k r (ValueIdx.ix2 κ x) * q (ValueIdx.ix3 0 x n) := by
  unfold score
  generalize keys k r = y
  pointwise
  rfl

theorem keys_apply (k : Vec Ideal S1x1x1024x128 .bf16) (r : Vec Ideal S1x1024x128 .bf16) (κ : Fin 1024) (x : Fin 256) :
    keys (F := Ideal) k r (ValueIdx.ix2 κ x)
      = if h : x.val < 128 then k (ValueIdx.ix4 0 0 κ ⟨x.val, h⟩) else r (ValueIdx.ix3 0 κ ⟨x.val - 128, by omega⟩) := by
  unfold keys
  pointwise
  rfl

/-- The same product as two, one for each half of the key. -/
theorem score_halves (q : Vec Ideal S1x256x512 .bf16) (k : Vec Ideal S1x1x1024x128 .bf16) (r : Vec Ideal S1x1024x128 .bf16)
    (κ : Fin 1024) (n : Fin 512) :
    score (F := Ideal) q k r (ValueIdx.ix2 κ n)
      = ∑ d : Fin 128, k (ValueIdx.ix4 0 0 κ d) * q (ValueIdx.ix3 0 ⟨d.val, by omega⟩ n)
        + ∑ d : Fin 128, r (ValueIdx.ix3 0 κ d) * q (ValueIdx.ix3 0 ⟨128 + d.val, by omega⟩ n) := by
  rw [score_apply]
  refine (Fin.sum_univ_add (a := 128) (b := 128) fun x : Fin 256 => keys (F := Ideal) k r (ValueIdx.ix2 κ x) * q (ValueIdx.ix3 0 x n)).trans ?_
  refine congrArg₂ (· + ·) (Finset.sum_congr rfl fun d _ => ?_) (Finset.sum_congr rfl fun d _ => ?_)
  · rw [keys_apply, dif_pos (show (Fin.castAdd 128 d).val < 128 from d.isLt)]
    rfl
  · rw [keys_apply, dif_neg (show ¬ (Fin.natAdd 128 d).val < 128 by simp)]
    have e : (⟨(Fin.natAdd 128 d).val - 128, by have := d.isLt; simp⟩ : Fin 128) = d := Fin.ext (by simp)
    rw [e]
    rfl

theorem top_apply (s : FVec Ideal S1024x512 .f32) (n : Fin 512) :
    top (F := Ideal) s (ValueIdx.ix2 0 n)
      = Finset.fold max (Ideal.ofBits FTy.f32 0xFF800000#32) (fun κ => s (ValueIdx.ix2 κ n)) Finset.univ := by
  unfold top
  pointwise
  rfl

theorem weight_apply (s : FVec Ideal S1024x512 .f32) (m : FVec Ideal S1x512 .f32) (κ : Fin 1024) (n : Fin 512) :
    weight (F := Ideal) s m (ValueIdx.ix2 κ n) = Ideal.exp2 (s (ValueIdx.ix2 κ n) - m (ValueIdx.ix2 0 n)) := by
  unfold weight
  pointwise
  rfl

theorem total_apply (s : FVec Ideal S1024x512 .f32) (n : Fin 512) :
    total (F := Ideal) s (ValueIdx.ix2 0 n) = ∑ κ : Fin 1024, s (ValueIdx.ix2 κ n) := by
  unfold total
  pointwise
  rfl

theorem mix_apply (v : Vec Ideal S1x1x128x1024 .bf16) (s : FVec Ideal S1024x512 .f32) (d : Fin 128) (n : Fin 512) :
    mix (F := Ideal) v s (ValueIdx.ix2 d n) = ∑ κ : Fin 1024, v (ValueIdx.ix4 0 0 d κ) * s (ValueIdx.ix2 κ n) := by
  unfold mix
  pointwise
  rfl

theorem carry_apply (f : FVec Ideal S1x512 .f32) (a : Vec Ideal S1x128x512 .f32) (b : FVec Ideal S128x512 .f32) (d : Fin 128) (n : Fin 512) :
    carry (F := Ideal) f a b (ValueIdx.ix2 d n) = f (ValueIdx.ix2 0 n) * a (ValueIdx.ix3 0 d n) + b (ValueIdx.ix2 d n) := by
  unfold carry
  pointwise
  rfl

theorem plane_apply (b : FVec Ideal S128x512 .f32) (d : Fin 128) (n : Fin 512) :
    (shapeCast S1x128x512 b shapeCasts_S128x512_S1x128x512 : FVec Ideal S1x128x512 .f32) (ValueIdx.ix3 0 d n) = b (ValueIdx.ix2 d n) := by
  pointwise
  rfl

theorem rows_apply (a l : FVec Ideal S128x512 .f32) (n : Fin 512) (d : Fin 128) :
    (shapeCast S1x512x128 (transpose S512x128 [1, 0] (divf a l) transposes_S128x512_p1_0_S512x128) shapeCasts_S512x128_S1x512x128
      : FVec Ideal S1x512x128 .f32) (ValueIdx.ix3 0 n d) = Ideal.div (a (ValueIdx.ix2 d n)) (l (ValueIdx.ix2 d n)) := by
  pointwise
  rfl

theorem spread_apply (l : FVec Ideal S1x512 .f32) (n : Fin 512) (d : Fin 128) :
    (broadcastTo S128x512 l broadcasts_S1x512_S128x512 : FVec Ideal S128x512 .f32) (ValueIdx.ix2 d n) = l (ValueIdx.ix2 0 n) := by
  pointwise
  rfl

section Held

variable {F : FTy → Type} [FloatOps F]
variable (q : Vec F S1x256x512 .bf16) (k : ℕ → Vec F S1x1x1024x128 .bf16) (r : ℕ → Vec F S1x1024x128 .bf16)
  (v : ℕ → Vec F S1x1x128x1024 .bf16)

/-- The group's plane of the scratch buffer after key block `j`. -/
def held (j : ℕ) : FVec F S1x128x512 .f32 :=
  Nat.rec (shapeCast S1x128x512 (mix (v 0) (wts q k r 0)) shapeCasts_S128x512_S1x128x512)
    (fun i a => shapeCast S1x128x512 (carry (factor q k r i) a (mix (v (i + 1)) (wts q k r (i + 1)))) shapeCasts_S128x512_S1x128x512) j

/-- A load of the plane gives what was last stored there. -/
theorem read_stored {sp : Space} (w : View sig .tc sp S4x128x512 .f32) (g : ℕ)
    (hg : ∀ a, ![g, 0, 0] a + S1x128x512.size a ≤ S4x128x512.size a) (L : List (View.Piece (Elt F) S4x128x512 .f32)) (j : ℕ) :
    w.readCov (stored q k r v w g hg L j) (planeAt g hg).toLoadRect = held q k r v j := by
  induction j with
  | zero => exact View.readCov_cons_toLoadRect w (planeAt g hg) _ L
  | succ j ih =>
    refine (View.readCov_cons_toLoadRect w (planeAt g hg) _ (stored q k r v w g hg L j)).trans ?_
    exact congrArg (fun a => (shapeCast S1x128x512 (carry (factor q k r j) a (mix (v (j + 1)) (wts q k r (j + 1)))) shapeCasts_S128x512_S1x128x512 : FVec F S1x128x512 .f32)) ih

end Held

section One

variable (q : Vec Ideal S1x256x512 .bf16) (k : ℕ → Vec Ideal S1x1x1024x128 .bf16) (r : ℕ → Vec Ideal S1x1024x128 .bf16)
  (v : ℕ → Vec Ideal S1x1x128x1024 .bf16) (n : Fin 512) (S : ℕ → Fin 1024 → ℝ)
  (hS : ∀ i κ, score (F := Ideal) q (k i) (r i) (ValueIdx.ix2 κ n) = ((S i κ : ℝ) : EReal))

include hS

theorem top_real (i : ℕ) : ∃ M : ℝ, top (F := Ideal) (score (F := Ideal) q (k i) (r i)) (ValueIdx.ix2 0 n) = (M : EReal) := by
  rw [top_apply]
  rw [show Ideal.ofBits FTy.f32 0xFF800000#32 = (⊥ : EReal) by simp [Ideal.ofBits, Ideal.ieee]]
  exact fold_max_coe _ Finset.univ_nonempty _ (S i) (hS i)

theorem runMax_real (j : ℕ) : ∃ M : ℝ, runMax (F := Ideal) q k r j (ValueIdx.ix2 0 n) = (M : EReal) := by
  induction j with
  | zero => exact top_real q k r n S hS 0
  | succ j ih =>
    obtain ⟨M, hM⟩ := ih
    obtain ⟨M', hM'⟩ := top_real q k r n S hS (j + 1)
    refine ⟨max M M', ?_⟩
    show max (runMax (F := Ideal) q k r j (ValueIdx.ix2 0 n)) (top (F := Ideal) (score (F := Ideal) q (k (j + 1)) (r (j + 1))) (ValueIdx.ix2 0 n)) = _
    rw [hM, hM']
    exact (EReal.coe_strictMono.monotone.map_max).symm

variable (M : ℕ → ℝ) (hM : ∀ j, runMax (F := Ideal) q k r j (ValueIdx.ix2 0 n) = ((M j : ℝ) : EReal))

include hM

theorem wts_apply (j : ℕ) (κ : Fin 1024) : wts (F := Ideal) q k r j (ValueIdx.ix2 κ n) = ((pw (S j κ - M j) : ℝ) : EReal) := by
  unfold wts
  rw [weight_apply, hS, hM, ← EReal.coe_sub]
  rfl

omit hS in
theorem factor_apply (j : ℕ) : factor (F := Ideal) q k r j (ValueIdx.ix2 0 n) = ((pw (M j - M (j + 1)) : ℝ) : EReal) := by
  show Ideal.exp2 (runMax (F := Ideal) q k r j (ValueIdx.ix2 0 n) - runMax (F := Ideal) q k r (j + 1) (ValueIdx.ix2 0 n)) = _
  rw [hM, hM, ← EReal.coe_sub]
  rfl

theorem total_wts (j : ℕ) : total (F := Ideal) (wts (F := Ideal) q k r j) (ValueIdx.ix2 0 n) = ((∑ κ, pw (S j κ - M j) : ℝ) : EReal) := by
  rw [total_apply, coe_sum]
  exact Finset.sum_congr rfl fun κ _ => wts_apply q k r n S hS M hM j κ

theorem runSum_apply (j : ℕ) : runSum (F := Ideal) q k r j (ValueIdx.ix2 0 n) = ((wsum S (j + 1) (M j) : ℝ) : EReal) := by
  induction j with
  | zero =>
    refine (total_wts q k r n S hS M hM 0).trans ?_
    unfold wsum
    rw [Finset.sum_range_one]
  | succ j ih =>
    show factor (F := Ideal) q k r j (ValueIdx.ix2 0 n) * runSum (F := Ideal) q k r j (ValueIdx.ix2 0 n)
      + total (F := Ideal) (wts (F := Ideal) q k r (j + 1)) (ValueIdx.ix2 0 n) = _
    rw [ih, factor_apply q k r n M hM, total_wts q k r n S hS M hM, ← EReal.coe_mul, wsum_rescale, ← EReal.coe_add]
    unfold wsum
    rw [Finset.sum_range_succ _ (j + 1)]

theorem mix_wts (j : ℕ) (d : Fin 128) : mix (F := Ideal) (v j) (wts (F := Ideal) q k r j) (ValueIdx.ix2 d n)
    = ∑ κ, v j (ValueIdx.ix4 0 0 d κ) * ((pw (S j κ - M j) : ℝ) : EReal) := by
  rw [mix_apply]
  exact Finset.sum_congr rfl fun κ _ => by rw [wts_apply q k r n S hS M hM j κ]

/-- One more block carries the weighted sum on. -/
theorem carry_step (a : Vec Ideal S1x128x512 .f32) (j : ℕ) (d : Fin 128)
    (ha : a (ValueIdx.ix3 0 d n) = asum S (fun i κ => v i (ValueIdx.ix4 0 0 d κ)) (j + 1) (M j)) :
    carry (F := Ideal) (factor (F := Ideal) q k r j) a (mix (F := Ideal) (v (j + 1)) (wts (F := Ideal) q k r (j + 1))) (ValueIdx.ix2 d n)
      = asum S (fun i κ => v i (ValueIdx.ix4 0 0 d κ)) (j + 1 + 1) (M (j + 1)) := by
  rw [carry_apply, ha, factor_apply q k r n M hM, mix_wts q k r v n S hS M hM, asum_rescale]
  unfold asum
  rw [Finset.sum_range_succ _ (j + 1)]

theorem held_apply (j : ℕ) (d : Fin 128) : held (F := Ideal) q k r v j (ValueIdx.ix3 0 d n)
    = asum S (fun i κ => v i (ValueIdx.ix4 0 0 d κ)) (j + 1) (M j) := by
  induction j with
  | zero =>
    refine (plane_apply _ d n).trans ((mix_wts q k r v n S hS M hM 0 d).trans ?_)
    unfold asum
    rw [Finset.sum_range_one]
  | succ j ih => exact (plane_apply _ d n).trans (carry_step q k r v n S hS M hM _ j d ih)

omit hM in
/-- The group's result at a query and a value lane. -/
theorem result_apply (d : Fin 128) : result (F := Ideal) q k r v (held (F := Ideal) q k r v 6) (ValueIdx.ix3 0 n d)
    = ∑ i ∈ Finset.range 8, ∑ κ, v i (ValueIdx.ix4 0 0 d κ) * ((soft S 8 i κ : ℝ) : EReal) := by
  choose M hM using runMax_real q k r n S hS
  unfold result
  rw [rows_apply, spread_apply, runSum_apply q k r n S hS M hM,
    carry_step q k r v n S hS M hM _ 6 d (held_apply q k r v n S hS M hM 6 d),
    Ideal.div_coe (wsum_pos S 8 (M 7) (by decide) (by decide)).ne']
  exact asum_div S _ 8 (M 7) (by decide) (by decide)

end One

/-- Group `g`'s result at a query and a value lane. -/
theorem group_apply (q : ℕ → Vec Ideal S1x256x512 .bf16) (k : ℕ → Vec Ideal S1x1x1024x128 .bf16) (r : ℕ → Vec Ideal S1x1024x128 .bf16)
    (v : ℕ → Vec Ideal S1x1x128x1024 .bf16) {sp : Space} (w : View sig .tc sp S4x128x512 .f32) (g : ℕ) (n : Fin 512) (S : ℕ → Fin 1024 → ℝ)
    (hS : ∀ i κ, score (F := Ideal) (q g) (k i) (r i) (ValueIdx.ix2 κ n) = ((S i κ : ℝ) : EReal)) (d : Fin 128) :
    group (F := Ideal) q k r v w g (ValueIdx.ix3 0 n d)
      = ∑ i ∈ Finset.range 8, ∑ κ, v i (ValueIdx.ix4 0 0 d κ) * ((soft S 8 i κ : ℝ) : EReal) := by
  unfold group
  rw [show w.readCov (storedAll (F := Ideal) q k r v w g) (planeAt (g % 4) (inb_s g)).toLoadRect = held (F := Ideal) (q g) k r v 6 from by
    cases g with
    | zero => exact read_stored (q 0) k r v w _ _ _ 6
    | succ g => exact read_stored (q (g + 1)) k r v w _ _ _ 6]
  exact result_apply (q g) k r v n S hS d

end Cert.KernelIdeal.Mla

end
-- ==== Proof.Mla.Block.lean ====
/- What one grid point leaves in its output block, on the extended reals: for every query of the block and
   every value lane, the softmax-weighted sum of the values, where the query's scores are real. -/
module

public import proofs.«01_k».proof.Proof.Mla.Unroll
public import proofs.«01_k».proof.Proof.Mla.At

@[expose] public section

set_option maxRecDepth 16384

noncomputable section

namespace Cert.KernelIdeal.Mla

open Cert.KernelIdeal Cert.KernelIdeal.Gen Cert.Softmax Idealize.ShloMosaic Idealize.ShloMosaic.TcCoe

/-- The place of key `κ` of block `j` among the 8192. -/
abbrev keyAt (j : ℕ) (κ : Fin 1024) : Fin 8192 := ⟨1024 * (j % 8) + κ.val, by have := Nat.mod_lt j (show 0 < 8 by decide); omega⟩

/-- The score of query `a` of a block against key `κ` of key block `j`. -/
def blockScore (x0 : Vec Ideal S1x256x2048 .bf16) (x1 : Vec Ideal S1x1x8192x128 .bf16) (x2 : Vec Ideal S1x8192x128 .bf16)
    (a : Fin 2048) (j : ℕ) (κ : Fin 1024) : EReal :=
  ∑ d : Fin 128, x1 (ValueIdx.ix4 0 0 (keyAt j κ) d) * x0 (ValueIdx.ix3 0 ⟨d.val, by omega⟩ a)
    + ∑ d : Fin 128, x2 (ValueIdx.ix3 0 (keyAt j κ) d) * x0 (ValueIdx.ix3 0 ⟨128 + d.val, by omega⟩ a)

theorem qAt_apply (b : Memref sig .tc .vmem S1x256x2048 .bf16) (hb : b.IsWhole) (x : Vec Ideal S1x256x2048 .bf16) (g : ℕ)
    (c : Fin 256) (n : Fin 512) (a : Fin 2048) (ha : a.val = 512 * (g % 4) + n.val) :
    qAt (F := Ideal) b.view (hb.unread x) g (ValueIdx.ix3 0 c n) = x (ValueIdx.ix3 0 c a) := by
  unfold qAt
  rw [View.readAt_apply, hb.read_unread]
  refine congrArg x (funext fun e => Fin.ext ?_)
  refine (Rect.idx_unit_val _ _ (inb_q g) _ e).trans ?_
  match e with
  | ⟨0, _⟩ => rfl
  | ⟨1, _⟩ => exact Nat.zero_add _
  | ⟨2, _⟩ => exact ha.symm

theorem kAt_apply (b : Memref sig .tc .vmem S1x1x8192x128 .bf16) (hb : b.IsWhole) (x : Vec Ideal S1x1x8192x128 .bf16) (j : ℕ)
    (κ : Fin 1024) (d : Fin 128) : kAt (F := Ideal) b.view (hb.unread x) j (ValueIdx.ix4 0 0 κ d) = x (ValueIdx.ix4 0 0 (keyAt j κ) d) := by
  unfold kAt
  rw [View.readAt_apply, hb.read_unread]
  refine congrArg x (funext fun e => Fin.ext ?_)
  refine (Rect.idx_unit_val _ _ (inb_k j) _ e).trans ?_
  match e with
  | ⟨0, _⟩ => rfl
  | ⟨1, _⟩ => rfl
  | ⟨2, _⟩ => rfl
  | ⟨3, _⟩ => exact Nat.zero_add _

theorem rAt_apply (b : Memref sig .tc .vmem S1x8192x128 .bf16) (hb : b.IsWhole) (x : Vec Ideal S1x8192x128 .bf16) (j : ℕ)
    (κ : Fin 1024) (d : Fin 128) : rAt (F := Ideal) b.view (hb.unread x) j (ValueIdx.ix3 0 κ d) = x (ValueIdx.ix3 0 (keyAt j κ) d) := by
  unfold rAt
  rw [View.readAt_apply, hb.read_unread]
  refine congrArg x (funext fun e => Fin.ext ?_)
  refine (Rect.idx_unit_val _ _ (inb_r j) _ e).trans ?_
  match e with
  | ⟨0, _⟩ => rfl
  | ⟨1, _⟩ => rfl
  | ⟨2, _⟩ => exact Nat.zero_add _

theorem vAt_apply (b : Memref sig .tc .vmem S1x1x128x8192 .bf16) (hb : b.IsWhole) (x : Vec Ideal S1x1x128x8192 .bf16) (j : ℕ)
    (d : Fin 128) (κ : Fin 1024) : vAt (F := Ideal) b.view (hb.unread x) j (ValueIdx.ix4 0 0 d κ) = x (ValueIdx.ix4 0 0 d (keyAt j κ)) := by
  unfold vAt
  rw [View.readAt_apply, hb.read_unread]
  refine congrArg x (funext fun e => Fin.ext ?_)
  refine (Rect.idx_unit_val _ _ (inb_v j) _ e).trans ?_
  match e with
  | ⟨0, _⟩ => rfl
  | ⟨1, _⟩ => rfl
  | ⟨2, _⟩ => exact Nat.zero_add _
  | ⟨3, _⟩ => rfl

section

variable (arg3 : Memref sig .tc .vmem S1x256x2048 .bf16) (harg3 : arg3.IsWhole)
    (arg4 : Memref sig .tc .vmem S1x1x8192x128 .bf16) (harg4 : arg4.IsWhole) (arg5 : Memref sig .tc .vmem S1x8192x128 .bf16) (harg5 : arg5.IsWhole)
    (arg6 : Memref sig .tc .vmem S1x1x128x8192 .bf16) (harg6 : arg6.IsWhole)
    {sp : Space} (w : View sig .tc sp S4x128x512 .f32)
    (x0 : Vec Ideal S1x256x2048 .bf16) (x1 : Vec Ideal S1x1x8192x128 .bf16) (x2 : Vec Ideal S1x8192x128 .bf16) (x3 : Vec Ideal S1x1x128x8192 .bf16)
    (S : Fin 2048 → ℕ → Fin 1024 → ℝ) (hS : ∀ a j κ, blockScore x0 x1 x2 a j κ = ((S a j κ : ℝ) : EReal))

/-- The block's result at a query and a value lane. -/
def blockOut (S : Fin 2048 → ℕ → Fin 1024 → ℝ) (x3 : Vec Ideal S1x1x128x8192 .bf16) (a : Fin 2048) (d : Fin 128) : EReal :=
  ∑ i ∈ Finset.range 8, ∑ κ, x3 (ValueIdx.ix4 0 0 d (keyAt i κ)) * ((soft (S a) 8 i κ : ℝ) : EReal)

include hS

/-- A group's rows hold the block's result. -/
theorem row_apply (g : ℕ) (x : S1x512x128.Idx) (a : Fin 2048) (e : Fin 128)
    (h1 : a.val = 512 * (g % 4) + (x 1).val) (h2 : e.val = (x 2).val) :
    group (F := Ideal) (qAt arg3.view (harg3.unread x0)) (kAt arg4.view (harg4.unread x1)) (rAt arg5.view (harg5.unread x2))
      (vAt arg6.view (harg6.unread x3)) w g x = blockOut S x3 a e := by
  obtain ⟨n, d, rfl⟩ : ∃ (n : Fin 512) (d : Fin 128), x = ValueIdx.ix3 0 n d :=
    ⟨x 1, x 2, funext fun e => by
      match e with
      | ⟨0, _⟩ => exact Fin.ext (Nat.lt_one_iff.mp (x 0).isLt)
      | ⟨1, _⟩ => rfl
      | ⟨2, _⟩ => rfl⟩
  rw [group_apply _ _ _ _ w g n (S a) _ d]
  · unfold blockOut
    refine Finset.sum_congr rfl fun i _ => Finset.sum_congr rfl fun κ _ => ?_
    rw [vAt_apply]
    exact congrArg (fun e => x3 (ValueIdx.ix4 0 0 e (keyAt i κ)) * ((soft (S a) 8 i κ : ℝ) : EReal)) (Fin.ext h2.symm)
  · intro i κ
    rw [score_halves, ← hS]
    unfold blockScore
    refine congrArg₂ (· + ·) (Finset.sum_congr rfl fun e _ => ?_) (Finset.sum_congr rfl fun e _ => ?_)
    · rw [kAt_apply, qAt_apply _ _ _ _ _ _ a h1]
    · rw [rAt_apply, qAt_apply _ _ _ _ _ _ a h1]

/-- The output block after the body. -/
theorem out_apply (c : Dev nD) (i : grid0.Coords) (arg7 : Memref sig .tc .vmem S1x2048x128 .f32) (harg7 : arg7.IsWhole)
    (arg8 : Memref sig .tc .vmem S4x128x512 .f32) (harg8 : arg8.IsWhole) (y : S1x2048x128.Idx) :
    out0_A_4 (F := Ideal) c i arg3 harg3 arg4 harg4 arg5 harg5 arg6 harg6 arg7 harg7 arg8 harg8 x0 x1 x2 x3 y
      = blockOut S x3 (y 1) (y 2) := by
  unfold out0_A_4
  rw [View.read_writes_junk_eq_canon]
  have hc := cover0_A_4 (F := Ideal) c i arg3 harg3 arg4 harg4 arg5 harg5 arg6 harg6 arg7 harg7 arg8 harg8 x0 x1 x2 x3 y
  rw [run_eq] at hc ⊢
  refine View.canon_eq_of_allAt _ y _ hc fun p hp x hx => ?_
  have key : ∀ g : ℕ, p = row (F := Ideal) (qAt arg3.view (harg3.unread x0)) (kAt arg4.view (harg4.unread x1)) (rAt arg5.view (harg5.unread x2))
      (vAt arg6.view (harg6.unread x3)) arg8.view g → p.2 x = blockOut S x3 (y 1) (y 2) := by
    rintro g rfl
    refine row_apply arg3 harg3 arg4 harg4 arg5 harg5 arg6 harg6 arg8.view x0 x1 x2 x3 S hS g x (y 1) (y 2) ?_ ?_
    · rw [← hx]; exact Rect.idx_unit_val _ _ (inb_o g) x 1
    · rw [← hx]; exact (Rect.idx_unit_val _ _ (inb_o g) x 2).trans (Nat.zero_add _)
  simp only [List.mem_cons, List.not_mem_nil, or_false] at hp
  rcases hp with h | h | h | h
  · exact key 3 h
  · exact key 2 h
  · exact key 1 h
  · exact key 0 h

end

end Cert.KernelIdeal.Mla

end
-- ==== Proof.Mla.Array.lean ====
/- What the attention kernel's run leaves in its result array, on the extended reals. -/
module

public import proofs.«01_k».proof.Proof.Mla.Block

@[expose] public section

set_option maxRecDepth 16384

noncomputable section

namespace Cert.KernelIdeal.Mla

open Cert.KernelIdeal Cert.KernelIdeal.Gen Cert.Softmax Idealize.ShloMosaic Idealize.ShloMosaic.TcCoe
open Idealize.ShloMosaic.Pipeline (Dat)

/-- The score of query `y` of head `h` in batch `b` against key `κ` of key block `j`. -/
def arrScore (x0 : Vec Ideal S4x2048x8192 .bf16) (x1 : Vec Ideal S4x8x8192x128 .bf16) (x2 : Vec Ideal S4x8192x128 .bf16)
    (b : Fin 4) (h : Fin 8) (y : Fin 8192) (j : ℕ) (κ : Fin 1024) : EReal :=
  ∑ d : Fin 128, x1 (ValueIdx.ix4 b h (keyAt j κ) d) * x0 (ValueIdx.ix3 b ⟨256 * h.val + d.val, by omega⟩ y)
    + ∑ d : Fin 128, x2 (ValueIdx.ix3 b (keyAt j κ) d) * x0 (ValueIdx.ix3 b ⟨256 * h.val + (128 + d.val), by omega⟩ y)

/-- The attention's result: at query `y` and lane `d` of head `h`, the softmax-weighted sum of the values. -/
def attention (S : Fin 4 → Fin 8 → Fin 8192 → ℕ → Fin 1024 → ℝ) (x3 : Vec Ideal S4x8x128x8192 .bf16)
    (b : Fin 4) (h : Fin 8) (y : Fin 8192) (d : Fin 128) : EReal :=
  ∑ i ∈ Finset.range 8, ∑ κ, x3 (ValueIdx.ix4 b h d (keyAt i κ)) * ((soft (S b h y) 8 i κ : ℝ) : EReal)

/-- The result array: the lanes of head `h` stand at `128 h`. -/
def result4 (S : Fin 4 → Fin 8 → Fin 8192 → ℕ → Fin 1024 → ℝ) (x3 : Vec Ideal S4x8x128x8192 .bf16) : Vec Ideal S4x8192x1024 .f32 :=
  fun i => attention S x3 (i 0) ⟨(i 2).val / 128, Nat.div_lt_of_lt_mul (i 2).isLt⟩ (i 1) ⟨(i 2).val % 128, Nat.mod_lt _ (by decide)⟩

theorem idx0 : ∀ t, win0_0.index t = ![(grid0.coords t 0).val, (grid0.coords t 1).val, (grid0.coords t 2).val] :=
  (by decide +kernel : ∀ t : Fin grid0.N, win0_0.index t = ![(grid0.coords t 0).val, (grid0.coords t 1).val, (grid0.coords t 2).val])

theorem idx1 : ∀ t, win0_1.index t = ![(grid0.coords t 0).val, (grid0.coords t 1).val, 0, 0] :=
  (by decide +kernel : ∀ t : Fin grid0.N, win0_1.index t = ![(grid0.coords t 0).val, (grid0.coords t 1).val, 0, 0])

theorem idx2 : ∀ t, win0_2.index t = ![(grid0.coords t 0).val, 0, 0] :=
  (by decide +kernel : ∀ t : Fin grid0.N, win0_2.index t = ![(grid0.coords t 0).val, 0, 0])

theorem idx3 : ∀ t, win0_3.index t = ![(grid0.coords t 0).val, (grid0.coords t 1).val, 0, 0] :=
  (by decide +kernel : ∀ t : Fin grid0.N, win0_3.index t = ![(grid0.coords t 0).val, (grid0.coords t 1).val, 0, 0])

theorem idx4 : ∀ t, win0_4.index t = ![(grid0.coords t 0).val, (grid0.coords t 2).val, (grid0.coords t 1).val] :=
  (by decide +kernel : ∀ t : Fin grid0.N, win0_4.index t = ![(grid0.coords t 0).val, (grid0.coords t 2).val, (grid0.coords t 1).val])

variable (m : (ℓ : Loc nD τ sig) → Buf (Elt Ideal) ℓ) (c : Dev nD)

theorem iblk0_apply (t : Fin cfg0.N) (y : S1x256x2048.Idx) (i : S4x2048x8192.Idx)
    (h0 : (i 0).val = (grid0.coords t 0).val) (h1 : (i 1).val = (grid0.coords t 1).val * 256 + (y 1).val)
    (h2 : (i 2).val = (grid0.coords t 2).val * 2048 + (y 2).val) :
    iblk m c 0 t y = m ((c : Thread nD τ).loc main_arg0) i := by
  blk_simp [iblk, V, idx0]
  refine congrArg (m ((c : Thread nD τ).loc main_arg0)) (funext fun a => Fin.ext ?_)
  match a with
  | ⟨0, _⟩ => blk_simp [idx0]; exact h0.symm
  | ⟨1, _⟩ => blk_simp [idx0]; exact (show (grid0.coords t 1).val * 256 + (y 1).val = (i 1).val by omega)
  | ⟨2, _⟩ => blk_simp [idx0]; exact (show (grid0.coords t 2).val * 2048 + (y 2).val = (i 2).val by omega)

theorem iblk1_apply (t : Fin cfg0.N) (y : S1x1x8192x128.Idx) (i : S4x8x8192x128.Idx)
    (h0 : (i 0).val = (grid0.coords t 0).val) (h1 : (i 1).val = (grid0.coords t 1).val) (h2 : (i 2).val = (y 2).val)
    (h3 : (i 3).val = (y 3).val) :
    iblk m c 1 t y = m ((c : Thread nD τ).loc main_arg1) i := by
  blk_simp [iblk, V, idx1]
  refine congrArg (m ((c : Thread nD τ).loc main_arg1)) (funext fun a => Fin.ext ?_)
  match a with
  | ⟨0, _⟩ => blk_simp [idx1]; exact h0.symm
  | ⟨1, _⟩ => blk_simp [idx1]; exact h1.symm
  | ⟨2, _⟩ => blk_simp [idx1]; exact (show (y 2).val = (i 2).val by omega)
  | ⟨3, _⟩ => blk_simp [idx1]; exact (show (y 3).val = (i 3).val by omega)

theorem iblk2_apply (t : Fin cfg0.N) (y : S1x8192x128.Idx) (i : S4x8192x128.Idx)
    (h0 : (i 0).val = (grid0.coords t 0).val) (h1 : (i 1).val = (y 1).val) (h2 : (i 2).val = (y 2).val) :
    iblk m c 2 t y = m ((c : Thread nD τ).loc main_arg2) i := by
  blk_simp [iblk, V, idx2]
  refine congrArg (m ((c : Thread nD τ).loc main_arg2)) (funext fun a => Fin.ext ?_)
  match a with
  | ⟨0, _⟩ => blk_simp [idx2]; exact h0.symm
  | ⟨1, _⟩ => blk_simp [idx2]; exact (show (y 1).val = (i 1).val by omega)
  | ⟨2, _⟩ => blk_simp [idx2]; exact (show (y 2).val = (i 2).val by omega)

theorem iblk3_apply (t : Fin cfg0.N) (y : S1x1x128x8192.Idx) (i : S4x8x128x8192.Idx)
    (h0 : (i 0).val = (grid0.coords t 0).val) (h1 : (i 1).val = (grid0.coords t 1).val) (h2 : (i 2).val = (y 2).val)
    (h3 : (i 3).val = (y 3).val) :
    iblk m c 3 t y = m ((c : Thread nD τ).loc main_arg3) i := by
  blk_simp [iblk, V, idx3]
  refine congrArg (m ((c : Thread nD τ).loc main_arg3)) (funext fun a => Fin.ext ?_)
  match a with
  | ⟨0, _⟩ => blk_simp [idx3]; exact h0.symm
  | ⟨1, _⟩ => blk_simp [idx3]; exact h1.symm
  | ⟨2, _⟩ => blk_simp [idx3]; exact (show (y 2).val = (i 2).val by omega)
  | ⟨3, _⟩ => blk_simp [idx3]; exact (show (y 3).val = (i 3).val by omega)

/-- Query `a` of grid point `t`'s block, in the array. -/
abbrev queryAt (t : Fin cfg0.N) (a : Fin 2048) : Fin 8192 :=
  ⟨(grid0.coords t 2).val * 2048 + a.val, by have h : (grid0.coords t 2).val < 4 := (grid0.coords t 2).isLt; omega⟩

/-- A block's scores are the array's. -/
theorem blockScore_eq (t : Fin cfg0.N) (a : Fin 2048) (j : ℕ) (κ : Fin 1024) :
    blockScore (iblk m c 0 t) (iblk m c 1 t) (iblk m c 2 t) a j κ
      = arrScore (m ((c : Thread nD τ).loc main_arg0)) (m ((c : Thread nD τ).loc main_arg1)) (m ((c : Thread nD τ).loc main_arg2))
          (grid0.coords t 0) (grid0.coords t 1) (queryAt t a) j κ := by
  unfold blockScore arrScore
  refine congrArg₂ (· + ·) (Finset.sum_congr rfl fun d _ => ?_) (Finset.sum_congr rfl fun d _ => ?_)
  · exact congrArg₂ (· * ·) (iblk1_apply m c t _ _ rfl rfl rfl rfl) (iblk0_apply m c t _ _ rfl (by show 256 * _ + _ = _ * 256 + _; rw [Nat.mul_comm]) rfl)
  · exact congrArg₂ (· * ·) (iblk2_apply m c t _ _ rfl rfl rfl) (iblk0_apply m c t _ _ rfl (by show 256 * _ + _ = _ * 256 + _; rw [Nat.mul_comm]) rfl)

/-- The result array after the run, where the scores are real. -/
theorem array_eq (S : Fin 4 → Fin 8 → Fin 8192 → ℕ → Fin 1024 → ℝ)
    (hS : ∀ b h y j κ, arrScore (m ((c : Thread nD τ).loc main_arg0)) (m ((c : Thread nD τ).loc main_arg1)) (m ((c : Thread nD τ).loc main_arg2))
      b h y j κ = ((S b h y j κ : ℝ) : EReal)) :
    (dats m 0 c).arrAt 4 cfg0.N = result4 S (m ((c : Thread nD τ).loc main_arg3)) := by
  refine (dats m 0 c).arrAt_eq_of_covers 4 _ (by decide +kernel) fun t hf y => ?_
  blk_simp
  rw [after0_4]
  unfold outsAt0
  rw [out_apply (hS := fun a j κ => (blockScore_eq m c t a j κ).trans (hS _ _ _ j κ))]
  have b1 : (y 1).val < 2048 := (y 1).isLt
  have b2 : (y 2).val < 128 := (y 2).isLt
  have e0 : ((win0_4.blk t).view.emb y 0).val = (grid0.coords t 0).val := by blk_simp [idx4]
  have e1 : ((win0_4.blk t).view.emb y 1).val = (grid0.coords t 2).val * 2048 + (y 1).val := by blk_simp [idx4]
  have e2 : ((win0_4.blk t).view.emb y 2).val = (grid0.coords t 1).val * 128 + (y 2).val := by blk_simp [idx4]
  generalize (win0_4.blk t).view.emb y = i at e0 e1 e2 ⊢
  have f0 : (i 0) = (grid0.coords t 0) := Fin.ext e0
  have f1 : (i 1) = queryAt t (y 1) := Fin.ext e1
  have f2 : (⟨(i 2).val / 128, Nat.div_lt_of_lt_mul (i 2).isLt⟩ : Fin 8) = grid0.coords t 1 := Fin.ext (by show (i 2).val / 128 = _; omega)
  have f3 : (⟨(i 2).val % 128, Nat.mod_lt _ (by decide)⟩ : Fin 128) = y 2 := Fin.ext (by show (i 2).val % 128 = _; omega)
  show _ = attention S _ (i 0) ⟨(i 2).val / 128, _⟩ (i 1) ⟨(i 2).val % 128, _⟩
  rw [f0, f1, f2, f3]
  unfold blockOut attention
  exact Finset.sum_congr rfl fun j _ => Finset.sum_congr rfl fun κ _ => congrArg (· * _) (iblk3_apply m c t _ _ rfl rfl rfl rfl)

end Cert.KernelIdeal.Mla

end
-- ==== Proof.Mla.Finite.lean ====
/- What the precondition says of the queries and the keys: every entry is a real number, so every score is one. -/
module

public import proofs.«01_k».proof.Proof.Mla.Array
public import proofs.«01_k».proof.Proof.Gen.Pre_finite_scores_inputs
public import proofs.«01_k».proof.Defs

@[expose] public section

set_option maxRecDepth 16384

noncomputable section

namespace Cert.KernelIdeal.Mla

open Cert.KernelIdeal Cert.KernelIdeal.Gen Cert.Softmax Idealize.ShloMosaic Idealize.ShloMosaic.TcCoe

/-- An extended real whose absolute value is below infinity is real. -/
theorem real_of_abs_lt (x : EReal) (h : Ideal.cmp .olt (max x (-x)) (⊤ : EReal) = 1#1) : ∃ r : ℝ, x = (r : EReal) := by
  unfold Ideal.cmp at h
  induction x with
  | bot => simp at h
  | top => simp at h
  | coe r => exact ⟨r, rfl⟩

/-- The float bits of infinity are read as infinity. -/
theorem bits_inf : Ideal.ofBits FTy.f32 0x7F800000#32 = (⊤ : EReal) := by simp [Ideal.ofBits, Ideal.ieee]

variable (x0 : Vec Ideal S4x2048x8192 .bf16) (x1 : Vec Ideal S4x8x8192x128 .bf16) (x2 : Vec Ideal S4x8192x128 .bf16)

/-- Where queries and keys are real, so is every score. -/
theorem real_score (h0 : ∀ i, ∃ r : ℝ, x0 i = (r : EReal)) (h1 : ∀ i, ∃ r : ℝ, x1 i = (r : EReal)) (h2 : ∀ i, ∃ r : ℝ, x2 i = (r : EReal)) :
    ∃ S : Fin 4 → Fin 8 → Fin 8192 → ℕ → Fin 1024 → ℝ, ∀ b h y j κ, arrScore x0 x1 x2 b h y j κ = (S b h y j κ : EReal) := by
  choose q hq using h0
  choose k hk using h1
  choose r hr using h2
  refine ⟨fun b h y j κ => ∑ d : Fin 128, k (ValueIdx.ix4 b h (keyAt j κ) d) * q (ValueIdx.ix3 b ⟨256 * h.val + d.val, by omega⟩ y)
    + ∑ d : Fin 128, r (ValueIdx.ix3 b (keyAt j κ) d) * q (ValueIdx.ix3 b ⟨256 * h.val + (128 + d.val), by omega⟩ y), fun b h y j κ => ?_⟩
  unfold arrScore
  rw [EReal.coe_add, coe_sum, coe_sum]
  simp only [hq, hk, hr, EReal.coe_mul]

/-- The precondition says of every query and key that it is real; so every score is. -/
theorem pre_score (m : (ℓ : Loc nD τ sig) → Buf (Elt Ideal) ℓ) (hm : Cert.Pre_KernelIdeal_finite_scores_inputs m) (c : Dev nD) :
    ∃ S : Fin 4 → Fin 8 → Fin 8192 → ℕ → Fin 1024 → ℝ, ∀ b h y j κ,
      arrScore (m ((c : Thread nD τ).loc main_arg0)) (m ((c : Thread nD τ).loc main_arg1)) (m ((c : Thread nD τ).loc main_arg2)) b h y j κ
        = (S b h y j κ : EReal) := by
  refine real_score _ _ _ (fun i => ?_) (fun i => ?_) (fun i => ?_)
  · refine real_of_abs_lt _ ?_
    rw [← bits_inf]
    exact congrFun (hm c).1 i
  · refine real_of_abs_lt _ ?_
    rw [← bits_inf]
    exact congrFun (hm c).2.1 i
  · refine real_of_abs_lt _ ?_
    rw [← bits_inf]
    exact congrFun (hm c).2.2 i

end Cert.KernelIdeal.Mla

end
-- ==== Proof.Mla.Reference.lean ====
/- What the reference computes, on the extended reals: where the scores are real, the same
   softmax-weighted sum of the values as the kernel, in one pass over all keys and with the natural
   exponential. -/
module

public import proofs.«01_k».proof.Proof.Mla.Array
public import proofs.«01_k».proof.Proof.Gen.ReferenceIdeal.Read
public import Idealize.ShloMosaic.Lib.KernelVsHost

@[expose] public section

set_option maxRecDepth 16384

noncomputable section

namespace Cert.ReferenceIdeal.Mla

open Cert.ReferenceIdeal Cert.ReferenceIdeal.Gen Cert.ReferenceIdeal.Read Cert.Softmax Idealize.ShloMosaic Idealize.ShloMosaic.TcCoe
open Cert.KernelIdeal.Mla (keyAt arrScore attention result4)

/-- A sum over the 8192 keys as a sum over eight blocks of 1024. -/
theorem sum_keys {M : Type*} [AddCommMonoid M] (f : Fin 8192 → M) :
    ∑ k, f k = ∑ i ∈ Finset.range 8, ∑ κ : Fin 1024, f (keyAt i κ) := by
  let g : ℕ → M := fun k => if h : k < 8192 then f ⟨k, h⟩ else 0
  have e : ∀ k : Fin 8192, f k = g k.val := fun k => by
    show f k = if h : k.val < 8192 then f ⟨k.val, h⟩ else 0
    rw [dif_pos k.isLt]
  rw [Finset.sum_congr rfl fun k _ => e k, Fin.sum_univ_eq_sum_range g 8192, show 8192 = 8 * 1024 from rfl, Finset.sum_range_mul_split]
  refine Finset.sum_congr rfl fun i hi => ?_
  rw [← Fin.sum_univ_eq_sum_range (fun b => g (i * 1024 + b)) 1024]
  refine Finset.sum_congr rfl fun κ _ => ?_
  rw [e (keyAt i κ)]
  refine congrArg g ?_
  have := Finset.mem_range.mp hi
  show i * 1024 + κ.val = 1024 * (i % 8) + κ.val
  omega

/-- The block and the place in the block of a key. -/
theorem keyAt_div_mod (k : Fin 8192) : keyAt (k.val / 1024) ⟨k.val % 1024, Nat.mod_lt _ (by decide)⟩ = k := by
  have := k.isLt
  refine Fin.ext ?_
  show 1024 * (k.val / 1024 % 8) + k.val % 1024 = k.val
  omega

section

variable (x0 : Vec Ideal S4x2048x8192 .bf16) (x1 : Vec Ideal S4x8x8192x128 .bf16) (x2 : Vec Ideal S4x8192x128 .bf16)
  (x3 : Vec Ideal S4x8x128x8192 .bf16)

/-- The queries, read through the transpose and the reshape. -/
theorem query_apply (b : Fin 4) (y : Fin 8192) (h : Fin 8) (d : Fin 256) :
    val_main_v2 (F := Ideal) x0 (ValueIdx.ix4 b y h d) = x0 (ValueIdx.ix3 b ⟨256 * h.val + d.val, by omega⟩ y) := by
  rw [val_main_v2_apply, val_main_v1_apply]
  refine congrArg x0 (funext fun a => Fin.ext ?_)
  have hb := b.isLt; have hy := y.isLt; have hh := h.isLt; have hd := d.isLt
  match a with
  | ⟨0, _⟩ => show (((b.val * 8192 + y.val) * 8 + h.val) * 256 + d.val) / 16777216 = b.val; omega
  | ⟨1, _⟩ => show (((b.val * 8192 + y.val) * 8 + h.val) * 256 + d.val) % 2048 = 256 * h.val + d.val; omega
  | ⟨2, _⟩ => show (((b.val * 8192 + y.val) * 8 + h.val) * 256 + d.val) / 2048 % 8192 = y.val; omega

/-- The reference's scores are the kernel's. -/
theorem scores_apply (b : Fin 4) (h : Fin 8) (y k : Fin 8192) :
    val_main_v10 (F := Ideal) x0 x1 x2 (ValueIdx.ix4 b h y k)
      = arrScore x0 x1 x2 b h y (k.val / 1024) ⟨k.val % 1024, Nat.mod_lt _ (by decide)⟩ := by
  rw [val_main_v10_apply, val_main_v7_apply, val_main_v9_apply, val_main_v8_apply]
  unfold arrScore
  rw [keyAt_div_mod]
  refine congrArg₂ (· + ·) (Finset.sum_congr rfl fun d _ => ?_) (Finset.sum_congr rfl fun d _ => ?_)
  · rw [val_main_v3_apply, val_main_v5_apply, mul_comm]
    refine congrArg₂ (· * ·) (congrArg x1 (funext fun a => ?_)) (Eq.trans (congrArg (val_main_v2 (F := Ideal) x0) (funext fun a => ?_))
      (query_apply x0 b y h ⟨d.val, by omega⟩))
    · match a with | ⟨0, _⟩ => rfl | ⟨1, _⟩ => rfl | ⟨2, _⟩ => rfl | ⟨3, _⟩ => rfl
    · match a with | ⟨0, _⟩ => rfl | ⟨1, _⟩ => rfl | ⟨2, _⟩ => rfl | ⟨3, _⟩ => rfl
  · rw [val_main_v4_apply, val_main_v6_apply]
    refine congrArg₂ (· * ·) (congrArg x2 (funext fun a => ?_)) (Eq.trans (congrArg (val_main_v2 (F := Ideal) x0) (funext fun a => ?_))
      (query_apply x0 b y h ⟨128 + d.val, by omega⟩))
    · match a with | ⟨0, _⟩ => rfl | ⟨1, _⟩ => rfl | ⟨2, _⟩ => rfl
    · match a with | ⟨0, _⟩ => rfl | ⟨1, _⟩ => rfl | ⟨2, _⟩ => rfl | ⟨3, _⟩ => rfl

variable (S : Fin 4 → Fin 8 → Fin 8192 → ℕ → Fin 1024 → ℝ)
  (hS : ∀ b h y j κ, arrScore x0 x1 x2 b h y j κ = ((S b h y j κ : ℝ) : EReal))

/-- The factor `ln 2`. -/
theorem ln2_apply (i : S4x8x8192x8192.Idx) : val_main_v12 (F := Ideal) i = ((Real.log 2 : ℝ) : EReal) := by
  rw [val_main_v12_apply, val_main_v11_apply, val_main_cst_apply]
  show Ideal.log (Ideal.ofBits .f32 0x40000000#32) = _
  rw [show Ideal.ofBits .f32 0x40000000#32 = ((2 : ℝ) : EReal) by
    simp only [Ideal.ofBits, Ideal.ieee]
    simp
    rw [← EReal.coe_mul]
    norm_num, Ideal.log_coe]
  rw [if_neg (by norm_num)]

/-- The real score of a key. -/
abbrev sc (b : Fin 4) (h : Fin 8) (y k : Fin 8192) : ℝ := S b h y (k.val / 1024) ⟨k.val % 1024, Nat.mod_lt _ (by decide)⟩

theorem sc_keyAt (b : Fin 4) (h : Fin 8) (y : Fin 8192) (i : ℕ) (hi : i < 8) (κ : Fin 1024) : sc S b h y (keyAt i κ) = S b h y i κ := by
  have hκ := κ.isLt
  have e1 : (keyAt i κ).val / 1024 = i := by show (1024 * (i % 8) + κ.val) / 1024 = i; omega
  have e2 : (⟨(keyAt i κ).val % 1024, Nat.mod_lt _ (by decide)⟩ : Fin 1024) = κ :=
    Fin.ext (by show (1024 * (i % 8) + κ.val) % 1024 = κ.val; omega)
  show S b h y ((keyAt i κ).val / 1024) ⟨(keyAt i κ).val % 1024, _⟩ = _
  rw [e1, e2]

include hS

theorem scaled_apply (b : Fin 4) (h : Fin 8) (y k : Fin 8192) :
    val_main_v13 (F := Ideal) x0 x1 x2 (ValueIdx.ix4 b h y k) = ((sc S b h y k * Real.log 2 : ℝ) : EReal) := by
  rw [val_main_v13_apply, ln2_apply, scores_apply, hS]
  exact (EReal.coe_mul _ _).symm

omit hS in
theorem reduces_keys : S4x8x8192x8192.Reduces [3] S4x8x8192 := by decide

omit hS in
/-- The greatest entry along the keys, as a fold over the keys. -/
theorem max_keys (z : FVec Ideal S4x8x8192x8192 .f32) (b : Fin 4) (h : Fin 8) (y : Fin 8192) :
    Host.reduce FloatOps.maximumf z (constant (F := Ideal) S_ .f32 0xFF800000#32) reducesTo_S4x8x8192x8192_S4x8x8192_d3 h_S_ (ValueIdx.ix3 b h y)
      = (Finset.univ : Finset (Fin (S4x8x8192x8192.size 3))).fold max (⊥ : EReal) (fun k => z (reduces_keys.lift (ValueIdx.ix3 b h y) k)) := by
  have hb : Ideal.ofBits FTy.f32 0xFF800000#32 = (⊥ : EReal) := by simp [Ideal.ofBits, Ideal.ieee]
  refine (congrFun (hostReduce_maximumf_eq_multiReduction z 0xFF800000#32
      reducesTo_S4x8x8192x8192_S4x8x8192_d3 h_S_ reduces_keys (.inl rfl) rfl) (ValueIdx.ix3 b h y)).trans ?_
  refine (Ideal.multiReduction_maximumf_single z _ reduces_keys (.inl rfl) rfl _).trans ?_
  exact congrArg (fun e => Finset.fold max e (z ∘ reduces_keys.lift (ValueIdx.ix3 b h y)) Finset.univ) hb

/-- The greatest scaled score is real. -/
theorem max_real (b : Fin 4) (h : Fin 8) (y : Fin 8192) :
    ∃ M : ℝ, val_main_v16 (F := Ideal) x0 x1 x2 (ValueIdx.ix3 b h y) = (M : EReal) := by
  have hb : Ideal.ofBits FTy.f32 0xFF800000#32 = (⊥ : EReal) := by simp [Ideal.ofBits, Ideal.ieee]
  have e := max_keys (val_main_v13 (F := Ideal) x0 x1 x2) b h y
  rw [val_main_v16_apply, val_main_v15_apply, val_main_cst_1_apply]
  unfold val_main_v14 val_main_cst_0
  rw [e]
  show ∃ M : ℝ, max (Ideal.ofBits FTy.f32 0xFF800000#32) (Finset.fold max (⊥ : EReal) _ _) = _
  rw [hb, max_eq_right bot_le]
  haveI : Nonempty (Fin (S4x8x8192x8192.size 3)) := ⟨⟨0, by decide⟩⟩
  refine fold_max_coe _ Finset.univ_nonempty _ (fun k => sc S b h y k * Real.log 2) fun k => ?_
  refine Eq.trans (congrArg (val_main_v13 (F := Ideal) x0 x1 x2) (funext fun a => ?_)) (scaled_apply x0 x1 x2 S hS b h y k)
  match a with | ⟨0, _⟩ => rfl | ⟨1, _⟩ => rfl | ⟨2, _⟩ => rfl | ⟨3, _⟩ => rfl

/-- The reference's weights are the softmax weights. -/
theorem weights_apply (b : Fin 4) (h : Fin 8) (y k : Fin 8192) :
    val_main_v24 (F := Ideal) x0 x1 x2 (ValueIdx.ix4 b h y k)
      = ((soft (S b h y) 8 (k.val / 1024) ⟨k.val % 1024, Nat.mod_lt _ (by decide)⟩ : ℝ) : EReal) := by
  obtain ⟨M, hM⟩ := max_real x0 x1 x2 S hS b h y
  have hexp : ∀ k' : Fin 8192, val_main_v20 (F := Ideal) x0 x1 x2 (ValueIdx.ix4 b h y k')
      = ((Real.exp (sc S b h y k' * Real.log 2 - M) : ℝ) : EReal) := by
    intro k'
    rw [val_main_v20_apply, val_main_v19_apply, val_main_v18_apply, val_main_v17_apply, scaled_apply x0 x1 x2 S hS]
    rw [show idx_main_v17 (idx_main_v18 (ValueIdx.ix4 b h y k')) = ValueIdx.ix3 b h y from
      funext fun a => by match a with | ⟨0, _⟩ => rfl | ⟨1, _⟩ => rfl | ⟨2, _⟩ => rfl, hM]
    show Ideal.exp (((sc S b h y k' * Real.log 2 : ℝ) : EReal) - (M : EReal)) = _
    rw [← EReal.coe_sub]
    rfl
  have hsum : val_main_v23 (F := Ideal) x0 x1 x2 (ValueIdx.ix4 b h y k)
      = ((∑ i' ∈ Finset.range 8, ∑ κ' : Fin 1024, Real.exp (S b h y i' κ' * Real.log 2 - M) : ℝ) : EReal) := by
    rw [val_main_v23_apply, val_main_v22_apply, val_main_v21_apply, val_main_cst_2_apply]
    rw [show (FloatOps.ofBits (F := Ideal) FTy.f32 0x00000000#32 : EReal) = 0 by
      show Ideal.ofBits FTy.f32 0x00000000#32 = 0; simp [Ideal.ofBits, Ideal.ieee]]
    rw [zero_add, coe_sum]
    rw [sum_keys]
    refine Finset.sum_congr rfl fun i hi => ?_
    rw [coe_sum]
    refine Finset.sum_congr rfl fun κ _ => ?_
    refine Eq.trans (congrArg (val_main_v20 (F := Ideal) x0 x1 x2) (funext fun a => ?_)) ((hexp (keyAt i κ)).trans ?_)
    · match a with | ⟨0, _⟩ => rfl | ⟨1, _⟩ => rfl | ⟨2, _⟩ => rfl | ⟨3, _⟩ => rfl
    · rw [sc_keyAt S b h y i (Finset.mem_range.mp hi)]
  rw [val_main_v24_apply, hexp, hsum]
  rw [← exp_soft (S b h y) 8 M (by decide) (by decide)]
  have hne : (∑ i' ∈ Finset.range 8, ∑ κ' : Fin 1024, Real.exp (S b h y i' κ' * Real.log 2 - M)) ≠ 0 :=
    (Finset.sum_pos (fun i _ => Finset.sum_pos (fun κ _ => Real.exp_pos _) Finset.univ_nonempty) ⟨0, by decide⟩).ne'
  show Ideal.div _ _ = _
  rw [Ideal.div_coe hne, ← EReal.coe_mul, mul_one_div]

/-- The reference's result. -/
theorem result_eq : val_main_v28 (F := Ideal) x0 x1 x2 x3 = result4 S x3 := by
  funext i
  have h0 : (i 0).val < 4 := (i 0).isLt
  have h1 : (i 1).val < 8192 := (i 1).isLt
  have h2 : (i 2).val < 1024 := (i 2).isLt
  rw [val_main_v28_apply, val_main_v27_apply, val_main_v26_apply, sum_keys]
  unfold result4 attention
  refine Finset.sum_congr rfl fun j hj => Finset.sum_congr rfl fun κ _ => ?_
  have hj' := Finset.mem_range.mp hj
  refine congrArg₂ (· * ·) (Eq.trans (val_main_v25_apply (F := Ideal) x3 _) (congrArg x3 (funext fun a => Fin.ext ?_)))
    (Eq.trans (congrArg (val_main_v24 (F := Ideal) x0 x1 x2) (funext fun a => Fin.ext ?_))
      ((weights_apply x0 x1 x2 S hS (i 0) ⟨(i 2).val / 128, Nat.div_lt_of_lt_mul (i 2).isLt⟩ (i 1) (keyAt j κ)).trans ?_))
  · match a with
    | ⟨0, _⟩ => show (((i 0).val * 8192 + (i 1).val) * 1024 + (i 2).val) / 8388608 = (i 0).val; omega
    | ⟨1, _⟩ => show (((i 0).val * 8192 + (i 1).val) * 1024 + (i 2).val) / 128 % 8 = (i 2).val / 128; omega
    | ⟨2, _⟩ => show (((i 0).val * 8192 + (i 1).val) * 1024 + (i 2).val) % 128 = (i 2).val % 128; omega
    | ⟨3, _⟩ => rfl
  · match a with
    | ⟨0, _⟩ => show (((i 0).val * 8192 + (i 1).val) * 1024 + (i 2).val) / 8388608 = (i 0).val; omega
    | ⟨1, _⟩ => show (((i 0).val * 8192 + (i 1).val) * 1024 + (i 2).val) / 128 % 8 = (i 2).val / 128; omega
    | ⟨2, _⟩ => show (((i 0).val * 8192 + (i 1).val) * 1024 + (i 2).val) / 1024 % 8192 = (i 1).val; omega
    | ⟨3, _⟩ => rfl
  · have hκ := κ.isLt
    have e1 : (keyAt j κ).val / 1024 = j := by show (1024 * (j % 8) + κ.val) / 1024 = j; omega
    have e2 : (⟨(keyAt j κ).val % 1024, Nat.mod_lt _ (by decide)⟩ : Fin 1024) = κ :=
      Fin.ext (by show (1024 * (j % 8) + κ.val) % 1024 = κ.val; omega)
    rw [e1, e2]

end

end Cert.ReferenceIdeal.Mla

end
-- ==== Proof.Pre.Block.lean ====
/- The vector operations of the projection kernel's body read at an index, on the extended reals. -/
module

public import proofs.«01_k».proof.Proof.Gen.Kernel2Ideal.Frame
public import Idealize.ShloMosaic.Lib.Pipeline.ValueKit
public import Idealize.ShloMosaic.PureOps.Ideal.Laws

@[expose] public section

set_option maxRecDepth 16384

noncomputable section

namespace Cert.Kernel2Ideal.Pre

open Cert.Kernel2Ideal Cert.Kernel2Ideal.Gen Idealize.ShloMosaic Idealize.ShloMosaic.TcCoe

/-- One over the root of a mean of squares `ss / n`, with the small constant under the root. -/
def inv (n : BitVec 32) (ss : EReal) : EReal :=
  Ideal.rsqrt (Ideal.div ss (Ideal.ofBits .f32 n) + Ideal.ofBits .f32 0x358637BD#32)

/-- Row `s` of a block of tokens, normalised, scaled and shifted. -/
def blockRow (P0 : Vec Ideal S1x256x2048 .f32) (P1 : Vec Ideal S1x2048 .f32) (P2 P3 : Vec Ideal S1x1x2048 .f32)
    (s : Fin 256) (d : Fin 2048) : EReal :=
  P0 (ValueIdx.ix3 0 s d) * inv 0x45000000#32 (∑ e : Fin 2048, P0 (ValueIdx.ix3 0 s e) * P0 (ValueIdx.ix3 0 s e)) * P1 (ValueIdx.ix2 0 d)
    * (1 + P2 (ValueIdx.ix3 0 0 d)) + P3 (ValueIdx.ix3 0 0 d)

theorem pay2_apply (P0 : Vec Ideal S1x256x2048 .f32) (P1 : Vec Ideal S1x2048 .f32) (P2 P3 : Vec Ideal S1x1x2048 .f32)
    (P4 : Vec Ideal S2048x2560 .bf16) (s : Fin 256) (f : Fin 2560) :
    k0_pay2 (F := Ideal) P0 P1 P2 P3 P4 (ValueIdx.ix2 s f)
      = ∑ d : Fin 2048, blockRow P0 P1 P2 P3 s d * P4 (ValueIdx.ix2 d f) := by
  unfold k0_pay2
  pointwise
  rfl

/-- Lane `r` of the key-value part of a projected row, normalised. -/
theorem pay8_apply (Y : FVec Ideal S256x2560 .f32) (s r : Fin 256) :
    k0_pay8 (F := Ideal) Y (ValueIdx.ix2 s r)
      = Y (ValueIdx.ix2 s ⟨512 + r.val, by omega⟩)
        * inv 0x43800000#32 (∑ e : Fin 256, Y (ValueIdx.ix2 s ⟨512 + e.val, by omega⟩) * Y (ValueIdx.ix2 s ⟨512 + e.val, by omega⟩)) := by
  unfold k0_pay8
  pointwise
  rfl

theorem pay9_apply (G : Vec Ideal S1x256 .f32) (s r : Fin 256) : k0_pay9 (F := Ideal) G (ValueIdx.ix2 s r) = G (ValueIdx.ix2 0 r) := by
  unfold k0_pay9
  pointwise
  rfl

/-- The keys' up-projection. -/
theorem pay11_apply (V G : FVec Ideal S256x256 .f32) (W : Vec Ideal S256x1024 .bf16) (s : Fin 256) (f : Fin 1024) :
    k0_pay11 (F := Ideal) V G W (ValueIdx.ix2 s f)
      = ∑ r : Fin 256, V (ValueIdx.ix2 s r) * G (ValueIdx.ix2 s r) * W (ValueIdx.ix2 r f) := by
  unfold k0_pay11 k0_pay10
  pointwise
  rfl

/-- The values' up-projection, transposed. -/
theorem pay12_apply (V G : FVec Ideal S256x256 .f32) (W : Vec Ideal S1024x256 .bf16) (f : Fin 1024) (s : Fin 256) :
    k0_pay12 (F := Ideal) V G W (ValueIdx.ix2 f s)
      = ∑ r : Fin 256, W (ValueIdx.ix2 f r) * (V (ValueIdx.ix2 s r) * G (ValueIdx.ix2 s r)) := by
  unfold k0_pay12 k0_pay10
  pointwise
  rfl

theorem pay31_apply (Y : FVec Ideal S256x2560 .f32) (s : Fin 256) (r : Fin 512) :
    k0_pay31 (F := Ideal) Y (ValueIdx.ix2 s r) = Y (ValueIdx.ix2 s ⟨r.val, by omega⟩) := by
  unfold k0_pay31
  pointwise
  rfl

theorem pay33_apply (Y : FVec Ideal S256x2560 .f32) (s : Fin 256) (r : Fin 512) :
    k0_pay33 (F := Ideal) Y (ValueIdx.ix2 s r) = Y (ValueIdx.ix2 s ⟨r.val, by omega⟩) * Y (ValueIdx.ix2 s ⟨r.val, by omega⟩) := by
  unfold k0_pay33 k0_pay31
  pointwise
  rfl

theorem pay32_apply (G : Vec Ideal S1x512 .f32) (r : Fin 512) : k0_pay32 (F := Ideal) G (ValueIdx.ix2 0 r) = G (ValueIdx.ix2 0 r) := by
  unfold k0_pay32
  pointwise

/-- The queries' up-projection, transposed. -/
theorem pay34_apply (U : FVec Ideal S256x512 .f32) (G : FVec Ideal S1x512 .f32) (U2 : FVec Ideal S256x512 .f32) (W : Vec Ideal S3072x512 .bf16)
    (f : Fin 3072) (s : Fin 256) :
    k0_pay34 (F := Ideal) U G U2 W (ValueIdx.ix2 f s)
      = ∑ r : Fin 512, W (ValueIdx.ix2 f r)
          * (U (ValueIdx.ix2 s r) * inv 0x44000000#32 (∑ e : Fin 512, U2 (ValueIdx.ix2 s e)) * G (ValueIdx.ix2 0 r)) := by
  unfold k0_pay34
  pointwise
  rfl

/-- A projected row of the kernel's columns. -/
def kproj (P0 : Vec Ideal S1x256x2048 .f32) (P1 : Vec Ideal S1x2048 .f32) (P2 P3 : Vec Ideal S1x1x2048 .f32)
    (P4 : Vec Ideal S2048x2560 .bf16) (s : Fin 256) (f : Fin 2560) : EReal :=
  ∑ d : Fin 2048, blockRow P0 P1 P2 P3 s d * P4 (ValueIdx.ix2 d f)

section

variable (P0 : Vec Ideal S1x256x2048 .f32) (P1 : Vec Ideal S1x2048 .f32) (P2 P3 : Vec Ideal S1x1x2048 .f32)
  (P4 : Vec Ideal S2048x2560 .bf16)

/-- The keys of a block. -/
theorem keys_apply (G : Vec Ideal S1x256 .f32) (W : Vec Ideal S256x1024 .bf16) (s : Fin 256) (f : Fin 1024) :
    k0_pay11 (F := Ideal) (k0_pay8 (k0_pay2 P0 P1 P2 P3 P4)) (k0_pay9 G) W (ValueIdx.ix2 s f)
      = ∑ r : Fin 256, kproj P0 P1 P2 P3 P4 s ⟨512 + r.val, by omega⟩
          * inv 0x43800000#32 (∑ e : Fin 256, kproj P0 P1 P2 P3 P4 s ⟨512 + e.val, by omega⟩ * kproj P0 P1 P2 P3 P4 s ⟨512 + e.val, by omega⟩)
          * G (ValueIdx.ix2 0 r) * W (ValueIdx.ix2 r f) := by
  rw [pay11_apply]
  refine Finset.sum_congr rfl fun r _ => ?_
  rw [pay8_apply, pay9_apply]
  simp only [pay2_apply]
  rfl

/-- The values of a block. -/
theorem values_apply (G : Vec Ideal S1x256 .f32) (W : Vec Ideal S1024x256 .bf16) (f : Fin 1024) (s : Fin 256) :
    k0_pay12 (F := Ideal) (k0_pay8 (k0_pay2 P0 P1 P2 P3 P4)) (k0_pay9 G) W (ValueIdx.ix2 f s)
      = ∑ r : Fin 256, W (ValueIdx.ix2 f r) * (kproj P0 P1 P2 P3 P4 s ⟨512 + r.val, by omega⟩
          * inv 0x43800000#32 (∑ e : Fin 256, kproj P0 P1 P2 P3 P4 s ⟨512 + e.val, by omega⟩ * kproj P0 P1 P2 P3 P4 s ⟨512 + e.val, by omega⟩)
          * G (ValueIdx.ix2 0 r)) := by
  rw [pay12_apply]
  refine Finset.sum_congr rfl fun r _ => ?_
  rw [pay8_apply, pay9_apply]
  simp only [pay2_apply]
  rfl

/-- The queries of a block, in the kernel's row order. -/
def kquery (G : Vec Ideal S1x512 .f32) (W : Vec Ideal S3072x512 .bf16) (f : Fin 3072) (s : Fin 256) : EReal :=
  ∑ r : Fin 512, W (ValueIdx.ix2 f r) * (kproj P0 P1 P2 P3 P4 s ⟨r.val, by omega⟩
    * inv 0x44000000#32 (∑ e : Fin 512, kproj P0 P1 P2 P3 P4 s ⟨e.val, by omega⟩ * kproj P0 P1 P2 P3 P4 s ⟨e.val, by omega⟩)
    * G (ValueIdx.ix2 0 r))

theorem queries_apply (G : Vec Ideal S1x512 .f32) (W : Vec Ideal S3072x512 .bf16) (f : Fin 3072) (s : Fin 256) :
    k0_pay34 (F := Ideal) (k0_pay31 (k0_pay2 P0 P1 P2 P3 P4)) (k0_pay32 G) (k0_pay33 (k0_pay2 P0 P1 P2 P3 P4)) W (ValueIdx.ix2 f s)
      = kquery P0 P1 P2 P3 P4 G W f s := by
  rw [pay34_apply]
  refine Finset.sum_congr rfl fun r _ => ?_
  rw [pay31_apply, pay32_apply]
  simp only [pay33_apply, pay2_apply]
  rfl

end

end Cert.Kernel2Ideal.Pre

end
-- ==== Proof.Pre.Host.lean ====
/- The arrays the host prepares for the projection kernel, as functions of the arguments. -/
module

public import proofs.«01_k».proof.Proof.Pre.Block

@[expose] public section

set_option maxRecDepth 16384

noncomputable section

namespace Cert.Kernel2Ideal.Pre

open Cert.Kernel2Ideal Cert.Kernel2Ideal.Gen Idealize.ShloMosaic Idealize.ShloMosaic.TcCoe

/-- The input projection's weights with the columns of the rotated keys spread out: the 64 columns and 64 zeros,
    the same columns with halves exchanged and the first negated and 64 zeros. -/
def winV (w : Vec Ideal S2048x2368 .f32) : Vec Ideal S2048x2560 .bf16 :=
  truncf (F := Ideal) .bf16 (concatenate S2048x2560 1
    [⟨S2048x832, extractStridedSlice S2048x832 ![0, 0] w slices_S2048x2368_S2048x832_0_0⟩,
     ⟨S2048x64, broadcastInDim S2048x64 ![] bcast_S_S2048x64 (constant (F := Ideal) S_ .f32 0x00000000#32)⟩,
     ⟨S2048x32, Host.negf (F := Ideal) (φ := .f32) (extractStridedSlice S2048x32 ![0, 800] w slices_S2048x2368_S2048x32_0_800)⟩,
     ⟨S2048x32, extractStridedSlice S2048x32 ![0, 768] w slices_S2048x2368_S2048x32_0_768⟩,
     ⟨S2048x64, broadcastInDim S2048x64 ![] bcast_S_S2048x64 (constant (F := Ideal) S_ .f32 0x00000000#32)⟩,
     ⟨S2048x1536, extractStridedSlice S2048x1536 ![0, 832] w slices_S2048x2368_S2048x1536_0_832⟩]
    concatenates_S2048x832_S2048x64_S2048x32_S2048x32_S2048x64_S2048x1536_S2048x2560_d1) bitsLt_bf16_f32

/-- The queries' rotated columns of each head. -/
def wrotV (w : Vec Ideal S512x1536 .f32) : Vec Ideal S512x8x64 .f32 :=
  extractStridedSlice S512x8x64 ![0, 0, 128] (shapeCast S512x8x192 w shapeCasts_S512x1536_S512x8x192) slices_S512x8x192_S512x8x64_0_0_128

/-- The plain columns of the queries' weights, head by head. -/
def wplainV (w : Vec Ideal S512x1536 .f32) : Vec Ideal S512x1024 .f32 :=
  shapeCast S512x1024 (extractStridedSlice S512x8x128 ![0, 0, 0] (shapeCast S512x8x192 w shapeCasts_S512x1536_S512x8x192)
    slices_S512x8x192_S512x8x128_0_0_0) shapeCasts_S512x8x128_S512x1024

/-- 64 zero columns for each head. -/
def zerosV : Vec Ideal S512x8x64 .f32 := broadcastInDim S512x8x64 ![] bcast_S_S512x8x64 (constant (F := Ideal) S_ .f32 0x00000000#32)

/-- The rotated columns, each head's followed by 64 zeros. -/
def wcosV (r : Vec Ideal S512x8x64 .f32) : Vec Ideal S512x1024 .f32 :=
  shapeCast S512x1024 (concatenate S512x8x128 2 [⟨S512x8x64, r⟩, ⟨S512x8x64, zerosV⟩] concatenates_S512x8x64_S512x8x64_S512x8x128_d2)
    shapeCasts_S512x8x128_S512x1024

/-- The rotated columns with halves exchanged and the first negated, each head's followed by 64 zeros. -/
def wsinV (r : Vec Ideal S512x8x64 .f32) : Vec Ideal S512x1024 .f32 :=
  shapeCast S512x1024 (concatenate S512x8x128 2
    [⟨S512x8x32, Host.negf (F := Ideal) (φ := .f32) (extractStridedSlice S512x8x32 ![0, 0, 32] r slices_S512x8x64_S512x8x32_0_0_32)⟩,
     ⟨S512x8x32, extractStridedSlice S512x8x32 ![0, 0, 0] r slices_S512x8x64_S512x8x32_0_0_0⟩,
     ⟨S512x8x64, zerosV⟩] concatenates_S512x8x32_S512x8x32_S512x8x64_S512x8x128_d2)
    shapeCasts_S512x8x128_S512x1024

/-- The queries' weights, transposed. -/
def wqtV (w : Vec Ideal S512x1536 .f32) : Vec Ideal S3072x512 .bf16 :=
  truncf (F := Ideal) .bf16 (transpose S3072x512 [1, 0] (concatenate S512x3072 1
    [⟨S512x1024, wplainV w⟩, ⟨S512x1024, wcosV (wrotV w)⟩, ⟨S512x1024, wsinV (wrotV w)⟩]
    concatenates_S512x1024_S512x1024_S512x1024_S512x3072_d1) transposes_S512x3072_S3072x512_1_0) bitsLt_bf16_f32

/-- The keys' and values' weights, cast and head by head. -/
def wkvV (w : Vec Ideal S256x2048 .f32) : Vec Ideal S256x8x256 .bf16 :=
  shapeCast S256x8x256 (truncf (F := Ideal) .bf16 w bitsLt_bf16_f32) shapeCasts_S256x2048_S256x8x256

/-- The keys' weights. -/
def wknV (w : Vec Ideal S256x2048 .f32) : Vec Ideal S256x1024 .bf16 :=
  shapeCast S256x1024 (extractStridedSlice S256x8x128 ![0, 0, 0] (wkvV w) slices_S256x8x256_S256x8x128_0_0_0) shapeCasts_S256x8x128_S256x1024

/-- The values' weights, transposed. -/
def wvtV (w : Vec Ideal S256x2048 .f32) : Vec Ideal S1024x256 .bf16 :=
  transpose S1024x256 [1, 0] (shapeCast S256x1024 (extractStridedSlice S256x8x128 ![0, 0, 128] (wkvV w) slices_S256x8x256_S256x8x128_0_0_128)
    shapeCasts_S256x8x128_S256x1024) transposes_S256x1024_S1024x256_1_0

/-- The angle of each position and lane. -/
def anglesV : Vec Ideal S8192x32 .f32 :=
  mulf (F := Ideal)
    (broadcastInDim S8192x32 ![0, 1] bcast_S8192x1_S8192x32_0_1 (broadcastInDim S8192x1 ![0] bcast_S8192_S8192x1_0
      (sitofp (F := Ideal) .f32 (iotaInDim S8192 32 0))))
    (broadcastInDim S8192x32 ![0, 1] bcast_S1x32_S8192x32_0_1 (broadcastInDim S1x32 ![1] bcast_S32_S1x32_1
      (Host.powf (F := Ideal) (broadcastInDim S32 ![] bcast_S_S32 (constant (F := Ideal) S_ .f32 0x461C4000#32))
        (Host.divf (F := Ideal) (Host.negf (F := Ideal) (sitofp (F := Ideal) .f32 (iotaInDim S32 32 0)))
          (broadcastInDim S32 ![] bcast_S_S32 (constant (F := Ideal) S_ .f32 0x42000000#32))))))

/-- A table of 32 lanes laid out on 128: twice, then 64 zeros. -/
def tableV (a : Vec Ideal S8192x32 .f32) : Vec Ideal S8192x128 .f32 :=
  concatenate S8192x128 1 [⟨S8192x32, a⟩, ⟨S8192x32, a⟩,
    ⟨S8192x64, broadcastInDim S8192x64 ![] bcast_S_S8192x64 (constant (F := Ideal) S_ .f32 0x00000000#32)⟩]
    concatenates_S8192x32_S8192x32_S8192x64_S8192x128_d1

def cosV : Vec Ideal S8192x32 .f32 := Host.cos (F := Ideal) (φ := .f32) anglesV

def sinV : Vec Ideal S8192x32 .f32 := Host.sin (F := Ideal) (φ := .f32) anglesV

theorem winV_apply (w : Vec Ideal S2048x2368 .f32) (d : Fin 2048) (f : Fin 2560) :
    winV w (ValueIdx.ix2 d f)
      = if h : f.val < 832 then w (ValueIdx.ix2 d ⟨f.val, by omega⟩)
        else if h : f.val - 832 < 64 then 0
        else if h : f.val - 832 - 64 < 32 then -w (ValueIdx.ix2 d ⟨800 + (f.val - 832 - 64), by omega⟩)
        else if h : f.val - 832 - 64 - 32 < 32 then w (ValueIdx.ix2 d ⟨768 + (f.val - 832 - 64 - 32), by omega⟩)
        else if h : f.val - 832 - 64 - 32 - 32 < 64 then 0
        else w (ValueIdx.ix2 d ⟨832 + (f.val - 832 - 64 - 32 - 32 - 64), by omega⟩) := by
  unfold winV
  pointwise
  rfl

theorem wplainV_apply (w : Vec Ideal S512x1536 .f32) (r : Fin 512) (f : Fin 1024) :
    wplainV w (ValueIdx.ix2 r f) = w (ValueIdx.ix2 r ⟨192 * (f.val / 128) + f.val % 128, by omega⟩) := by
  unfold wplainV
  pointwise
  exact congrArg w (congrArg (ValueIdx.ix2 r) (Fin.ext (show f.val / 128 * 192 + f.val % 128 = 192 * (f.val / 128) + f.val % 128 by omega)))

theorem wrotV_apply (w : Vec Ideal S512x1536 .f32) (r : Fin 512) (h : Fin 8) (l : Fin 64) :
    wrotV w (ValueIdx.ix3 r h l) = w (ValueIdx.ix2 r ⟨192 * h.val + 128 + l.val, by omega⟩) := by
  unfold wrotV
  pointwise
  exact congrArg w (congrArg (ValueIdx.ix2 r) (Fin.ext (show h.val * 192 + (128 + l.val) = 192 * h.val + 128 + l.val by omega)))

theorem wcosV_apply (w : Vec Ideal S512x8x64 .f32) (r : Fin 512) (f : Fin 1024) :
    wcosV w (ValueIdx.ix2 r f) = if h : f.val % 128 < 64 then w (ValueIdx.ix3 r ⟨f.val / 128, by omega⟩ ⟨f.val % 128, h⟩) else 0 := by
  unfold wcosV zerosV
  pointwise
  rfl

theorem wsinV_apply (w : Vec Ideal S512x8x64 .f32) (r : Fin 512) (f : Fin 1024) :
    wsinV w (ValueIdx.ix2 r f)
      = if h : f.val % 128 < 32 then -w (ValueIdx.ix3 r ⟨f.val / 128, by omega⟩ ⟨32 + f.val % 128, by omega⟩)
        else if h : f.val % 128 - 32 < 32 then w (ValueIdx.ix3 r ⟨f.val / 128, by omega⟩ ⟨f.val % 128 - 32, by omega⟩) else 0 := by
  unfold wsinV zerosV
  pointwise
  rfl

theorem wqtV_apply (w : Vec Ideal S512x1536 .f32) (f : Fin 3072) (r : Fin 512) :
    wqtV w (ValueIdx.ix2 f r)
      = if h : f.val < 1024 then wplainV w (ValueIdx.ix2 r ⟨f.val, h⟩)
        else if h : f.val - 1024 < 1024 then wcosV (wrotV w) (ValueIdx.ix2 r ⟨f.val - 1024, h⟩)
        else wsinV (wrotV w) (ValueIdx.ix2 r ⟨f.val - 1024 - 1024, by omega⟩) := by
  unfold wqtV
  generalize wcosV (wrotV w) = a
  generalize wsinV (wrotV w) = b
  generalize wplainV w = e
  pointwise
  rfl

theorem wknV_apply (w : Vec Ideal S256x2048 .f32) (r : Fin 256) (f : Fin 1024) :
    wknV w (ValueIdx.ix2 r f) = w (ValueIdx.ix2 r ⟨256 * (f.val / 128) + f.val % 128, by omega⟩) := by
  unfold wknV wkvV
  pointwise
  exact congrArg w (congrArg (ValueIdx.ix2 r) (Fin.ext (show f.val / 128 * 256 + f.val % 128 = 256 * (f.val / 128) + f.val % 128 by omega)))

theorem wvtV_apply (w : Vec Ideal S256x2048 .f32) (f : Fin 1024) (r : Fin 256) :
    wvtV w (ValueIdx.ix2 f r) = w (ValueIdx.ix2 r ⟨256 * (f.val / 128) + 128 + f.val % 128, by omega⟩) := by
  unfold wvtV wkvV
  pointwise
  exact congrArg w (congrArg (ValueIdx.ix2 r) (Fin.ext (show f.val / 128 * 256 + (128 + f.val % 128) = 256 * (f.val / 128) + 128 + f.val % 128 by omega)))

theorem tableV_apply (a : Vec Ideal S8192x32 .f32) (s : Fin 8192) (l : Fin 128) :
    tableV a (ValueIdx.ix2 s l)
      = if h : l.val < 32 then a (ValueIdx.ix2 s ⟨l.val, h⟩) else if h : l.val - 32 < 32 then a (ValueIdx.ix2 s ⟨l.val - 32, h⟩) else 0 := by
  unfold tableV
  pointwise
  rfl

end Cert.Kernel2Ideal.Pre

end
-- ==== Proof.Pre.State.lean ====
/- What the host part leaves in the arrays the call takes. -/
module

public import proofs.«01_k».proof.Proof.Pre.Host

@[expose] public section

set_option maxRecDepth 16384

noncomputable section

open Cert.Kernel2Ideal Cert.Kernel2Ideal.Gen Idealize.ShloMosaic Idealize.ShloMosaic.TcCoe

namespace Cert.Kernel2Ideal.Pre

section

variable (m : (ℓ : Loc nD τ sig) → Buf (Elt Ideal) ℓ) (c : Dev nD)

theorem V_win : V m c main_v7 = winV (m ((c : Thread nD τ).loc main_arg4)) := by
  show StableHlo.after hostOps0 _ _ = _
  after_results_simp <;> (try dsimp only [Matrix.cons_val]) <;> (try after_results_simp) <;> rfl

theorem V_wqt : V m c main_v22 = wqtV (m ((c : Thread nD τ).loc main_arg7)) := by
  show StableHlo.after hostOps0 _ _ = _
  after_results_simp <;> (try dsimp only [Matrix.cons_val]) <;> (try after_results_simp) <;> rfl

theorem V_wkn : V m c main_v26 = wknV (m ((c : Thread nD τ).loc main_arg8)) := by
  show StableHlo.after hostOps0 _ _ = _
  after_results_simp <;> (try dsimp only [Matrix.cons_val]) <;> (try after_results_simp) <;> rfl

theorem V_wvt : V m c main_v29 = wvtV (m ((c : Thread nD τ).loc main_arg8)) := by
  show StableHlo.after hostOps0 _ _ = _
  after_results_simp <;> (try dsimp only [Matrix.cons_val]) <;> (try after_results_simp) <;> rfl

theorem V_cos : V m c main_v46 = tableV cosV := by
  show StableHlo.after hostOps0 _ _ = _
  after_results_simp <;> (try dsimp only [Matrix.cons_val]) <;> (try after_results_simp) <;> rfl

theorem V_sin : V m c main_v47 = tableV sinV := by
  show StableHlo.after hostOps0 _ _ = _
  after_results_simp <;> (try dsimp only [Matrix.cons_val]) <;> (try after_results_simp) <;> rfl

theorem V_cost : V m c main_v48 = transpose S128x8192 [1, 0] (tableV cosV) transposes_S8192x128_S128x8192_1_0 := by
  show StableHlo.after hostOps0 _ _ = _
  after_results_simp <;> (try dsimp only [Matrix.cons_val]) <;> (try after_results_simp) <;> rfl

theorem V_sint : V m c main_v49 = transpose S128x8192 [1, 0] (tableV sinV) transposes_S8192x128_S128x8192_1_0 := by
  show StableHlo.after hostOps0 _ _ = _
  after_results_simp <;> (try dsimp only [Matrix.cons_val]) <;> (try after_results_simp) <;> rfl

theorem V_norm1 : V m c main_v50 = shapeCast S1x2048 (m ((c : Thread nD τ).loc main_arg3)) shapeCasts_S2048_S1x2048 := by
  show StableHlo.after hostOps0 _ _ = _
  after_results_simp <;> (try dsimp only [Matrix.cons_val]) <;> (try after_results_simp) <;> rfl

theorem V_qnorm : V m c main_v51 = shapeCast S1x512 (m ((c : Thread nD τ).loc main_arg5)) shapeCasts_S512_S1x512 := by
  show StableHlo.after hostOps0 _ _ = _
  after_results_simp <;> (try dsimp only [Matrix.cons_val]) <;> (try after_results_simp) <;> rfl

theorem V_kvnorm : V m c main_v52 = shapeCast S1x256 (m ((c : Thread nD τ).loc main_arg6)) shapeCasts_S256_S1x256 := by
  show StableHlo.after hostOps0 _ _ = _
  after_results_simp <;> (try dsimp only [Matrix.cons_val]) <;> (try after_results_simp) <;> rfl

end

end Cert.Kernel2Ideal.Pre

end
-- ==== Proof.Pre.Queries.lean ====
/- The block of queries the projection kernel stores: sixteen pieces, for each head its plain lanes and
   then its rotated lanes. -/
module

public import proofs.«01_k».proof.Proof.Pre.Block

@[expose] public section

set_option maxRecDepth 16384

noncomputable section

namespace Cert.Kernel2Ideal.Pre

open Cert.Kernel2Ideal Cert.Kernel2Ideal.Gen Idealize.ShloMosaic Idealize.ShloMosaic.TcCoe

/-- The queries' factor, as its bits. -/
abbrev qscale : EReal := Ideal.ofBits .f32 0x3DD53B95#32

section

variable (Q : FVec Ideal S3072x256 .f32) (C S : Vec Ideal S128x256 .f32)

/-- A plain lane of a head. -/
def plain (f : Fin 3072) (s : Fin 256) : EReal := Q (ValueIdx.ix2 f s) * qscale

/-- A rotated lane of a head. -/
def turned (f g : Fin 3072) (l : Fin 128) (s : Fin 256) : EReal :=
  (Q (ValueIdx.ix2 f s) * C (ValueIdx.ix2 l s) + Q (ValueIdx.ix2 g s) * S (ValueIdx.ix2 l s)) * qscale

/-- Entry `f`, `s` of the block of queries. -/
def qent (f : Fin 2048) (s : Fin 256) : EReal :=
  if h : f.val % 256 < 128 then plain Q ⟨128 * (f.val / 256) + f.val % 256, by omega⟩ s
  else turned Q C S ⟨1024 + 128 * (f.val / 256) + (f.val % 256 - 128), by omega⟩ ⟨2048 + 128 * (f.val / 256) + (f.val % 256 - 128), by omega⟩
    ⟨f.val % 256 - 128, by omega⟩ s

theorem qent_plain (f : Fin 2048) (s s' : Fin 256) (h : ℕ) (d : Fin 128) (g : Fin 3072) (hf : f.val = 256 * h + d.val) (hg : g.val = 128 * h + d.val)
    (hs : s'.val = s.val) : plain Q g s = qent Q C S f s' := by
  obtain rfl : s' = s := Fin.ext hs
  have hd := d.isLt
  rw [qent, dif_pos (by omega)]
  exact congrArg (plain Q · s') (Fin.ext (by show g.val = 128 * (f.val / 256) + f.val % 256; omega))

theorem qent_turned (f : Fin 2048) (s s' : Fin 256) (h : ℕ) (l : Fin 128) (g g' : Fin 3072) (hf : f.val = 256 * h + 128 + l.val)
    (hg : g.val = 1024 + 128 * h + l.val) (hg' : g'.val = 2048 + 128 * h + l.val)
    (hs : s'.val = s.val) : turned Q C S g g' l s = qent Q C S f s' := by
  obtain rfl : s' = s := Fin.ext hs
  have hd := l.isLt
  rw [qent, dif_neg (by omega)]
  have e0 : l = ⟨f.val % 256 - 128, by omega⟩ := Fin.ext (by show l.val = f.val % 256 - 128; omega)
  have e1 : g = ⟨1024 + 128 * (f.val / 256) + (f.val % 256 - 128), by omega⟩ :=
    Fin.ext (by show g.val = 1024 + 128 * (f.val / 256) + (f.val % 256 - 128); omega)
  have e2 : g' = ⟨2048 + 128 * (f.val / 256) + (f.val % 256 - 128), by omega⟩ :=
    Fin.ext (by show g'.val = 2048 + 128 * (f.val / 256) + (f.val % 256 - 128); omega)
  rw [← e0, ← e1, ← e2]

/-- The block of queries. -/
def qblock : Vec Ideal S1x2048x256 .bf16 := fun y => qent Q C S (y 1) (y 2)

end

section

variable (U : FVec Ideal S256x512 .f32) (G : FVec Ideal S1x512 .f32) (U2 : FVec Ideal S256x512 .f32) (W : Vec Ideal S3072x512 .bf16)
  (Q : FVec Ideal S3072x256 .f32) (C S : Vec Ideal S128x256 .f32)

theorem plain0 (a : Fin 1) (d : Fin 128) (s : Fin 256) :
    (k0_pay37 U G U2 W : FVec Ideal S1x128x256 .bf16) (ValueIdx.ix3 a d s) = plain (k0_pay34 (F := Ideal) U G U2 W) ⟨0 + d.val, by omega⟩ s := by
  unfold k0_pay37
  generalize k0_pay34 (F := Ideal) U G U2 W = Q
  pointwise
  rfl

theorem turned0 (a : Fin 1) (l : Fin 128) (s : Fin 256) :
    (k0_pay38 U G U2 W C S : FVec Ideal S1x128x256 .bf16) (ValueIdx.ix3 a l s)
      = turned (k0_pay34 (F := Ideal) U G U2 W) C S ⟨1024 + l.val, by omega⟩ ⟨2048 + l.val, by omega⟩ l s := by
  unfold k0_pay38 k0_pay35 k0_pay36
  generalize k0_pay34 (F := Ideal) U G U2 W = Q
  pointwise
  rfl

theorem plain1 (a : Fin 1) (d : Fin 128) (s : Fin 256) :
    (k0_pay42 (k0_pay39 U G U2 W) : FVec Ideal S1x128x256 .bf16) (ValueIdx.ix3 a d s) = plain (k0_pay34 (F := Ideal) U G U2 W) ⟨128 + d.val, by omega⟩ s := by
  unfold k0_pay42 k0_pay39
  generalize k0_pay34 (F := Ideal) U G U2 W = Q
  pointwise
  rfl

theorem turned1 (a : Fin 1) (l : Fin 128) (s : Fin 256) :
    (k0_pay43 (k0_pay35 C) (k0_pay36 S) (k0_pay40 U G U2 W) (k0_pay41 U G U2 W) : FVec Ideal S1x128x256 .bf16) (ValueIdx.ix3 a l s)
      = turned (k0_pay34 (F := Ideal) U G U2 W) C S ⟨1152 + l.val, by omega⟩ ⟨2176 + l.val, by omega⟩ l s := by
  unfold k0_pay43 k0_pay40 k0_pay41 k0_pay35 k0_pay36
  generalize k0_pay34 (F := Ideal) U G U2 W = Q
  pointwise
  rfl

theorem plain2 (a : Fin 1) (d : Fin 128) (s : Fin 256) :
    (k0_pay44 Q : FVec Ideal S1x128x256 .bf16) (ValueIdx.ix3 a d s) = plain Q ⟨256 + d.val, by omega⟩ s := by
  unfold k0_pay44
  pointwise
  rfl

theorem turned2 (a : Fin 1) (l : Fin 128) (s : Fin 256) :
    (k0_pay45 Q (k0_pay35 C) (k0_pay36 S) : FVec Ideal S1x128x256 .bf16) (ValueIdx.ix3 a l s)
      = turned Q C S ⟨1280 + l.val, by omega⟩ ⟨2304 + l.val, by omega⟩ l s := by
  unfold k0_pay45 k0_pay35 k0_pay36
  pointwise
  rfl

theorem plain3 (a : Fin 1) (d : Fin 128) (s : Fin 256) :
    (k0_pay49 (k0_pay48 Q) : FVec Ideal S1x128x256 .bf16) (ValueIdx.ix3 a d s) = plain Q ⟨384 + d.val, by omega⟩ s := by
  unfold k0_pay49 k0_pay48
  pointwise
  rfl

theorem turned3 (a : Fin 1) (l : Fin 128) (s : Fin 256) :
    (k0_pay50 (k0_pay35 C) (k0_pay36 S) (k0_pay46 Q) (k0_pay47 Q) : FVec Ideal S1x128x256 .bf16) (ValueIdx.ix3 a l s)
      = turned Q C S ⟨1408 + l.val, by omega⟩ ⟨2432 + l.val, by omega⟩ l s := by
  unfold k0_pay50 k0_pay46 k0_pay47 k0_pay35 k0_pay36
  pointwise
  rfl

theorem plain4 (a : Fin 1) (d : Fin 128) (s : Fin 256) :
    (k0_pay51 Q : FVec Ideal S1x128x256 .bf16) (ValueIdx.ix3 a d s) = plain Q ⟨512 + d.val, by omega⟩ s := by
  unfold k0_pay51
  pointwise
  rfl

theorem turned4 (a : Fin 1) (l : Fin 128) (s : Fin 256) :
    (k0_pay52 Q (k0_pay35 C) (k0_pay36 S) : FVec Ideal S1x128x256 .bf16) (ValueIdx.ix3 a l s)
      = turned Q C S ⟨1536 + l.val, by omega⟩ ⟨2560 + l.val, by omega⟩ l s := by
  unfold k0_pay52 k0_pay35 k0_pay36
  pointwise
  rfl

theorem plain5 (a : Fin 1) (d : Fin 128) (s : Fin 256) :
    (k0_pay56 (k0_pay55 Q) : FVec Ideal S1x128x256 .bf16) (ValueIdx.ix3 a d s) = plain Q ⟨640 + d.val, by omega⟩ s := by
  unfold k0_pay56 k0_pay55
  pointwise
  rfl

theorem turned5 (a : Fin 1) (l : Fin 128) (s : Fin 256) :
    (k0_pay57 (k0_pay35 C) (k0_pay36 S) (k0_pay53 Q) (k0_pay54 Q) : FVec Ideal S1x128x256 .bf16) (ValueIdx.ix3 a l s)
      = turned Q C S ⟨1664 + l.val, by omega⟩ ⟨2688 + l.val, by omega⟩ l s := by
  unfold k0_pay57 k0_pay53 k0_pay54 k0_pay35 k0_pay36
  pointwise
  rfl

theorem plain6 (a : Fin 1) (d : Fin 128) (s : Fin 256) :
    (k0_pay58 Q : FVec Ideal S1x128x256 .bf16) (ValueIdx.ix3 a d s) = plain Q ⟨768 + d.val, by omega⟩ s := by
  unfold k0_pay58
  pointwise
  rfl

theorem turned6 (a : Fin 1) (l : Fin 128) (s : Fin 256) :
    (k0_pay59 Q (k0_pay35 C) (k0_pay36 S) : FVec Ideal S1x128x256 .bf16) (ValueIdx.ix3 a l s)
      = turned Q C S ⟨1792 + l.val, by omega⟩ ⟨2816 + l.val, by omega⟩ l s := by
  unfold k0_pay59 k0_pay35 k0_pay36
  pointwise
  rfl

theorem plain7 (a : Fin 1) (d : Fin 128) (s : Fin 256) :
    (k0_pay61 Q : FVec Ideal S1x128x256 .bf16) (ValueIdx.ix3 a d s) = plain Q ⟨896 + d.val, by omega⟩ s := by
  unfold k0_pay61
  pointwise
  rfl

theorem turned7 (a : Fin 1) (l : Fin 128) (s : Fin 256) :
    (k0_pay1 (k0_pay36 S) (k0_pay60 Q) (k0_pay62 Q (k0_pay35 C)) : FVec Ideal S1x128x256 .bf16) (ValueIdx.ix3 a l s)
      = turned Q C S ⟨1920 + l.val, by omega⟩ ⟨2944 + l.val, by omega⟩ l s := by
  unfold k0_pay1 k0_pay60 k0_pay62 k0_pay35 k0_pay36
  pointwise
  rfl

/-- The sixteen pieces leave the block of queries. -/
theorem canon14_eq (y : S1x2048x256.Idx) :
    View.canon ([⟨r0_45, k0_pay1 (k0_pay36 S) (k0_pay60 (k0_pay34 U G U2 W)) (k0_pay62 (k0_pay34 U G U2 W) (k0_pay35 C))⟩,
      ⟨r0_44, k0_pay61 (k0_pay34 U G U2 W)⟩,
      ⟨r0_43, k0_pay59 (k0_pay34 U G U2 W) (k0_pay35 C) (k0_pay36 S)⟩,
      ⟨r0_42, k0_pay58 (k0_pay34 U G U2 W)⟩,
      ⟨r0_41, k0_pay57 (k0_pay35 C) (k0_pay36 S) (k0_pay53 (k0_pay34 U G U2 W)) (k0_pay54 (k0_pay34 U G U2 W))⟩,
      ⟨r0_40, k0_pay56 (k0_pay55 (k0_pay34 U G U2 W))⟩,
      ⟨r0_39, k0_pay52 (k0_pay34 U G U2 W) (k0_pay35 C) (k0_pay36 S)⟩,
      ⟨r0_38, k0_pay51 (k0_pay34 U G U2 W)⟩,
      ⟨r0_37, k0_pay50 (k0_pay35 C) (k0_pay36 S) (k0_pay46 (k0_pay34 U G U2 W)) (k0_pay47 (k0_pay34 U G U2 W))⟩,
      ⟨r0_36, k0_pay49 (k0_pay48 (k0_pay34 U G U2 W))⟩,
      ⟨r0_35, k0_pay45 (k0_pay34 U G U2 W) (k0_pay35 C) (k0_pay36 S)⟩,
      ⟨r0_34, k0_pay44 (k0_pay34 U G U2 W)⟩,
      ⟨r0_33, k0_pay43 (k0_pay35 C) (k0_pay36 S) (k0_pay40 U G U2 W) (k0_pay41 U G U2 W)⟩,
      ⟨r0_32, k0_pay42 (k0_pay39 U G U2 W)⟩,
      ⟨r0_31, k0_pay38 U G U2 W C S⟩,
      ⟨r0_30, k0_pay37 U G U2 W⟩] : List (View.Piece (Elt Ideal) S1x2048x256 .bf16)) y
      = qblock (k0_pay34 (F := Ideal) U G U2 W) C S y := by
  refine View.canon_apply_of_pieces (qblock (k0_pay34 (F := Ideal) U G U2 W) C S) _ ?_ y (cover0_14 _ _ _ _ _ _ _ _ _ _ _ _ _ _ _ _ y)
  intro pc hpc
  rcases List.mem_cons.mp hpc with rfl | hpc
  · exact fun x => ((congrArg _ (ValueIdx.eq_ix3 x)).trans (turned7 (k0_pay34 (F := Ideal) U G U2 W) C S (x 0) (x 1) (x 2))).trans
      (qent_turned _ C S _ _ _ 7 (x 1) _ _ (by show 1920 + 1 * (x 1).val = _; omega) (by show _ + (x 1).val = _; omega) (by show _ + (x 1).val = _; omega) (by show 0 + 1 * (x 2).val = _; omega))
  rcases List.mem_cons.mp hpc with rfl | hpc
  · exact fun x => ((congrArg _ (ValueIdx.eq_ix3 x)).trans (plain7 (k0_pay34 (F := Ideal) U G U2 W) (x 0) (x 1) (x 2))).trans
      (qent_plain _ C S _ _ _ 7 (x 1) _ (by show 1792 + 1 * (x 1).val = _; omega) (by show 1792 / 2 + (x 1).val = _; omega) (by show 0 + 1 * (x 2).val = _; omega))
  rcases List.mem_cons.mp hpc with rfl | hpc
  · exact fun x => ((congrArg _ (ValueIdx.eq_ix3 x)).trans (turned6 (k0_pay34 (F := Ideal) U G U2 W) C S (x 0) (x 1) (x 2))).trans
      (qent_turned _ C S _ _ _ 6 (x 1) _ _ (by show 1664 + 1 * (x 1).val = _; omega) (by show _ + (x 1).val = _; omega) (by show _ + (x 1).val = _; omega) (by show 0 + 1 * (x 2).val = _; omega))
  rcases List.mem_cons.mp hpc with rfl | hpc
  · exact fun x => ((congrArg _ (ValueIdx.eq_ix3 x)).trans (plain6 (k0_pay34 (F := Ideal) U G U2 W) (x 0) (x 1) (x 2))).trans
      (qent_plain _ C S _ _ _ 6 (x 1) _ (by show 1536 + 1 * (x 1).val = _; omega) (by show 1536 / 2 + (x 1).val = _; omega) (by show 0 + 1 * (x 2).val = _; omega))
  rcases List.mem_cons.mp hpc with rfl | hpc
  · exact fun x => ((congrArg _ (ValueIdx.eq_ix3 x)).trans (turned5 (k0_pay34 (F := Ideal) U G U2 W) C S (x 0) (x 1) (x 2))).trans
      (qent_turned _ C S _ _ _ 5 (x 1) _ _ (by show 1408 + 1 * (x 1).val = _; omega) (by show _ + (x 1).val = _; omega) (by show _ + (x 1).val = _; omega) (by show 0 + 1 * (x 2).val = _; omega))
  rcases List.mem_cons.mp hpc with rfl | hpc
  · exact fun x => ((congrArg _ (ValueIdx.eq_ix3 x)).trans (plain5 (k0_pay34 (F := Ideal) U G U2 W) (x 0) (x 1) (x 2))).trans
      (qent_plain _ C S _ _ _ 5 (x 1) _ (by show 1280 + 1 * (x 1).val = _; omega) (by show 1280 / 2 + (x 1).val = _; omega) (by show 0 + 1 * (x 2).val = _; omega))
  rcases List.mem_cons.mp hpc with rfl | hpc
  · exact fun x => ((congrArg _ (ValueIdx.eq_ix3 x)).trans (turned4 (k0_pay34 (F := Ideal) U G U2 W) C S (x 0) (x 1) (x 2))).trans
      (qent_turned _ C S _ _ _ 4 (x 1) _ _ (by show 1152 + 1 * (x 1).val = _; omega) (by show _ + (x 1).val = _; omega) (by show _ + (x 1).val = _; omega) (by show 0 + 1 * (x 2).val = _; omega))
  rcases List.mem_cons.mp hpc with rfl | hpc
  · exact fun x => ((congrArg _ (ValueIdx.eq_ix3 x)).trans (plain4 (k0_pay34 (F := Ideal) U G U2 W) (x 0) (x 1) (x 2))).trans
      (qent_plain _ C S _ _ _ 4 (x 1) _ (by show 1024 + 1 * (x 1).val = _; omega) (by show 1024 / 2 + (x 1).val = _; omega) (by show 0 + 1 * (x 2).val = _; omega))
  rcases List.mem_cons.mp hpc with rfl | hpc
  · exact fun x => ((congrArg _ (ValueIdx.eq_ix3 x)).trans (turned3 (k0_pay34 (F := Ideal) U G U2 W) C S (x 0) (x 1) (x 2))).trans
      (qent_turned _ C S _ _ _ 3 (x 1) _ _ (by show 896 + 1 * (x 1).val = _; omega) (by show _ + (x 1).val = _; omega) (by show _ + (x 1).val = _; omega) (by show 0 + 1 * (x 2).val = _; omega))
  rcases List.mem_cons.mp hpc with rfl | hpc
  · exact fun x => ((congrArg _ (ValueIdx.eq_ix3 x)).trans (plain3 (k0_pay34 (F := Ideal) U G U2 W) (x 0) (x 1) (x 2))).trans
      (qent_plain _ C S _ _ _ 3 (x 1) _ (by show 768 + 1 * (x 1).val = _; omega) (by show 768 / 2 + (x 1).val = _; omega) (by show 0 + 1 * (x 2).val = _; omega))
  rcases List.mem_cons.mp hpc with rfl | hpc
  · exact fun x => ((congrArg _ (ValueIdx.eq_ix3 x)).trans (turned2 (k0_pay34 (F := Ideal) U G U2 W) C S (x 0) (x 1) (x 2))).trans
      (qent_turned _ C S _ _ _ 2 (x 1) _ _ (by show 640 + 1 * (x 1).val = _; omega) (by show _ + (x 1).val = _; omega) (by show _ + (x 1).val = _; omega) (by show 0 + 1 * (x 2).val = _; omega))
  rcases List.mem_cons.mp hpc with rfl | hpc
  · exact fun x => ((congrArg _ (ValueIdx.eq_ix3 x)).trans (plain2 (k0_pay34 (F := Ideal) U G U2 W) (x 0) (x 1) (x 2))).trans
      (qent_plain _ C S _ _ _ 2 (x 1) _ (by show 512 + 1 * (x 1).val = _; omega) (by show 512 / 2 + (x 1).val = _; omega) (by show 0 + 1 * (x 2).val = _; omega))
  rcases List.mem_cons.mp hpc with rfl | hpc
  · exact fun x => ((congrArg _ (ValueIdx.eq_ix3 x)).trans (turned1 U G U2 W C S (x 0) (x 1) (x 2))).trans
      (qent_turned _ C S _ _ _ 1 (x 1) _ _ (by show 384 + 1 * (x 1).val = _; omega) (by show _ + (x 1).val = _; omega) (by show _ + (x 1).val = _; omega) (by show 0 + 1 * (x 2).val = _; omega))
  rcases List.mem_cons.mp hpc with rfl | hpc
  · exact fun x => ((congrArg _ (ValueIdx.eq_ix3 x)).trans (plain1 U G U2 W (x 0) (x 1) (x 2))).trans
      (qent_plain _ C S _ _ _ 1 (x 1) _ (by show 256 + 1 * (x 1).val = _; omega) (by show 256 / 2 + (x 1).val = _; omega) (by show 0 + 1 * (x 2).val = _; omega))
  rcases List.mem_cons.mp hpc with rfl | hpc
  · exact fun x => ((congrArg _ (ValueIdx.eq_ix3 x)).trans (turned0 U G U2 W C S (x 0) (x 1) (x 2))).trans
      (qent_turned _ C S _ _ _ 0 (x 1) _ _ (by show 128 + 1 * (x 1).val = _; omega) (by show _ + (x 1).val = _; omega) (by show _ + (x 1).val = _; omega) (by show 0 + 1 * (x 2).val = _; omega))
  rcases List.mem_cons.mp hpc with rfl | hpc
  · exact fun x => ((congrArg _ (ValueIdx.eq_ix3 x)).trans (plain0 U G U2 W (x 0) (x 1) (x 2))).trans
      (qent_plain _ C S _ _ _ 0 (x 1) _ (by show 0 + 1 * (x 1).val = _; omega) (by show 0 / 2 + (x 1).val = _; omega) (by show 0 + 1 * (x 2).val = _; omega))
  nomatch hpc

end

end Cert.Kernel2Ideal.Pre

end
-- ==== Proof.Pre.Out.lean ====
/- The blocks the projection kernel stores, entry by entry. -/
module

public import proofs.«01_k».proof.Proof.Pre.Queries
public import proofs.«01_k».proof.Proof.Gen.Kernel2Ideal.Value

@[expose] public section

set_option maxRecDepth 16384

noncomputable section

namespace Cert.Kernel2Ideal.Pre

open Cert.Kernel2Ideal Cert.Kernel2Ideal.Gen Idealize.ShloMosaic Idealize.ShloMosaic.TcCoe

variable (x0 : Vec Ideal S1x256x2048 .f32) (x1 x2 : Vec Ideal S1x1x2048 .f32) (x3 : Vec Ideal S1x2048 .f32) (x4 : Vec Ideal S2048x2560 .bf16)
  (x5 : Vec Ideal S1x512 .f32) (x6 : Vec Ideal S1x256 .f32) (x7 : Vec Ideal S3072x512 .bf16) (x8 : Vec Ideal S256x1024 .bf16)
  (x9 : Vec Ideal S1024x256 .bf16) (x10 x11 : Vec Ideal S256x128 .f32) (x12 x13 : Vec Ideal S128x256 .f32)

theorem out14_apply (y : S1x2048x256.Idx) :
    out0_14 (F := Ideal) x0 x1 x2 x3 x4 x5 x6 x7 x8 x9 x10 x11 x12 x13 y
      = qblock (k0_pay34 (F := Ideal) (k0_pay31 (k0_pay2 x0 x3 x2 x1 x4)) (k0_pay32 x5) (k0_pay33 (k0_pay2 x0 x3 x2 x1 x4)) x7) x12 x13 y := by
  unfold_out out0_14
  simp (disch := decide) only [View.ld_unit_lit']
  exact canon14_eq _ _ _ _ _ _ y

theorem out15_apply (y : S1x8x256x128.Idx) :
    out0_15 (F := Ideal) x0 x1 x2 x3 x4 x5 x6 x7 x8 x9 x10 x11 x12 x13 y
      = k0_pay11 (F := Ideal) (k0_pay8 (k0_pay2 x0 x3 x2 x1 x4)) (k0_pay9 x6) x8 (Value.ix15_0 y) := by
  unfold_out out0_15
  simp (disch := decide) only [View.ld_unit_lit']
  exact Value.canon15_eq _ _ _ _ _ _ _ y

theorem out16_apply (y : S1x256x128.Idx) :
    out0_16 (F := Ideal) x0 x1 x2 x3 x4 x5 x6 x7 x8 x9 x10 x11 x12 x13 y
      = k0_pay2 (F := Ideal) x0 x3 x2 x1 x4 (Value.ix16_0 y) * x10 (Value.ix16_1 y)
        + k0_pay2 (F := Ideal) x0 x3 x2 x1 x4 (Value.ix16_2 y) * x11 (Value.ix16_3 y) := by
  unfold_out out0_16
  simp (disch := decide) only [View.ld_unit_lit']
  exact Value.canon16_eq _ _ _ _ _ _ _ y

theorem out17_apply (y : S1x8x128x256.Idx) :
    out0_17 (F := Ideal) x0 x1 x2 x3 x4 x5 x6 x7 x8 x9 x10 x11 x12 x13 y
      = k0_pay12 (F := Ideal) (k0_pay8 (k0_pay2 x0 x3 x2 x1 x4)) (k0_pay9 x6) x9 (Value.ix17_0 y) := by
  unfold_out out0_17
  simp (disch := decide) only [View.ld_unit_lit']
  exact Value.canon17_eq _ _ _ _ _ _ _ y

theorem out18_apply (y : S1x256x1024.Idx) :
    out0_18 (F := Ideal) x0 x1 x2 x3 x4 x5 x6 x7 x8 x9 x10 x11 x12 x13 y
      = k0_pay2 (F := Ideal) x0 x3 x2 x1 x4 (Value.ix18_0 y) * Ideal.ofBits .f32 0x3DB504F3#32 := by
  unfold_out out0_18
  simp (disch := decide) only [View.ld_unit_lit']
  exact Value.canon18_eq _ _ _ _ _ y

theorem out19_apply (y : S1x256x256.Idx) :
    out0_19 (F := Ideal) x0 x1 x2 x3 x4 x5 x6 x7 x8 x9 x10 x11 x12 x13 y = k0_pay2 (F := Ideal) x0 x3 x2 x1 x4 (Value.ix19_0 y) := by
  unfold_out out0_19
  simp (disch := decide) only [View.ld_unit_lit']
  exact Value.canon19_eq _ _ _ _ _ y

theorem out20_apply (y : S1x256x256.Idx) :
    out0_20 (F := Ideal) x0 x1 x2 x3 x4 x5 x6 x7 x8 x9 x10 x11 x12 x13 y = k0_pay2 (F := Ideal) x0 x3 x2 x1 x4 (Value.ix20_0 y) := by
  unfold_out out0_20
  simp (disch := decide) only [View.ld_unit_lit']
  exact Value.canon20_eq _ _ _ _ _ y

end Cert.Kernel2Ideal.Pre

end
-- ==== Proof.Pre.Model.lean ====
/- The projections before the attention as functions of the call's arguments, token by token: what the
   kernel computes (over its own columns of weights) and what the reference computes. -/
module

public import proofs.«01_k».proof.Proof.Pre.Queries
public import proofs.«01_k».proof.Proof.Pre.Host

@[expose] public section

set_option maxRecDepth 16384

noncomputable section

namespace Cert.Kernel2Ideal.Pre

open Cert.Kernel2Ideal Cert.Kernel2Ideal.Gen Idealize.ShloMosaic Idealize.ShloMosaic.TcCoe

/-- The call's arguments. -/
structure Args where
  x : Vec Ideal S4x8192x2048 .f32
  sh : Vec Ideal S4x1x2048 .f32
  sc : Vec Ideal S4x1x2048 .f32
  g1 : Vec Ideal S2048 .f32
  win : Vec Ideal S2048x2368 .f32
  gq : Vec Ideal S512 .f32
  gk : Vec Ideal S256 .f32
  wq : Vec Ideal S512x1536 .f32
  wk : Vec Ideal S256x2048 .f32

/-- Sixty-four lanes `v`, those below 32 turned with those above by the angles of position `s`, then zeros. -/
def rotAt (v : Fin 64 → EReal) (s : Fin 8192) (l : Fin 128) : EReal :=
  if h : l.val < 32 then v ⟨l.val, by omega⟩ * cosV (ValueIdx.ix2 s ⟨l.val, h⟩) - v ⟨32 + l.val, by omega⟩ * sinV (ValueIdx.ix2 s ⟨l.val, h⟩)
  else if h : l.val - 32 < 32 then
    v ⟨l.val - 32, by omega⟩ * sinV (ValueIdx.ix2 s ⟨l.val - 32, h⟩) + v ⟨32 + (l.val - 32), by omega⟩ * cosV (ValueIdx.ix2 s ⟨l.val - 32, h⟩)
  else 0

namespace Args

variable (A : Args)

/-- A token, normalised, scaled and shifted. -/
def row (b : Fin 4) (s : Fin 8192) (d : Fin 2048) : EReal :=
  A.x (ValueIdx.ix3 b s d) * inv 0x45000000#32 (∑ e : Fin 2048, A.x (ValueIdx.ix3 b s e) * A.x (ValueIdx.ix3 b s e)) * A.g1 (ValueIdx.ix1 d)
    * (1 + A.sc (ValueIdx.ix3 b 0 d)) + A.sh (ValueIdx.ix3 b 0 d)

/-- A token projected on the columns of the weights. -/
def proj (b : Fin 4) (s : Fin 8192) (f : Fin 2368) : EReal := ∑ d : Fin 2048, A.row b s d * A.win (ValueIdx.ix2 d f)

/-- The queries' compressed lanes, normalised. -/
def cq (b : Fin 4) (s : Fin 8192) (r : Fin 512) : EReal :=
  A.proj b s ⟨r.val, by omega⟩ * inv 0x44000000#32 (∑ e : Fin 512, A.proj b s ⟨e.val, by omega⟩ * A.proj b s ⟨e.val, by omega⟩) * A.gq (ValueIdx.ix1 r)

/-- The keys' and values' compressed lanes, normalised. -/
def ckv (b : Fin 4) (s : Fin 8192) (r : Fin 256) : EReal :=
  A.proj b s ⟨512 + r.val, by omega⟩ * inv 0x43800000#32 (∑ e : Fin 256, A.proj b s ⟨512 + e.val, by omega⟩ * A.proj b s ⟨512 + e.val, by omega⟩)
    * A.gk (ValueIdx.ix1 r)

/-- The queries. -/
def query (b : Fin 4) (s : Fin 8192) (f : Fin 1536) : EReal := ∑ r : Fin 512, A.cq b s r * A.wq (ValueIdx.ix2 r f)

/-- The keys and values. -/
def kv (b : Fin 4) (s : Fin 8192) (f : Fin 2048) : EReal := ∑ r : Fin 256, A.ckv b s r * A.wk (ValueIdx.ix2 r f)

/-- A token projected on the kernel's columns of the weights. -/
def kcol (b : Fin 4) (s : Fin 8192) (f : Fin 2560) : EReal := ∑ d : Fin 2048, A.row b s d * winV A.win (ValueIdx.ix2 d f)

/-- The queries in the kernel's row order. -/
def kquery (f : Fin 3072) (b : Fin 4) (s : Fin 8192) : EReal := ∑ r : Fin 512, wqtV A.wq (ValueIdx.ix2 f r) * A.cq b s r

theorem kcol_low (b : Fin 4) (s : Fin 8192) (f : Fin 2560) (g : Fin 2368) (hf : f.val < 832) (hg : g.val = f.val) : A.kcol b s f = A.proj b s g := by
  refine Finset.sum_congr rfl fun d _ => congrArg (A.row b s d * ·) ?_
  rw [winV_apply, dif_pos hf]
  exact congrArg A.win (congrArg (ValueIdx.ix2 d) (Fin.ext hg.symm))

theorem kcol_high (b : Fin 4) (s : Fin 8192) (f : Fin 2560) (g : Fin 2368) (hf : 1024 ≤ f.val) (hg : g.val + 192 = f.val) :
    A.kcol b s f = A.proj b s g := by
  refine Finset.sum_congr rfl fun d _ => congrArg (A.row b s d * ·) ?_
  rw [winV_apply, dif_neg (by omega), dif_neg (by omega), dif_neg (by omega), dif_neg (by omega), dif_neg (by omega)]
  exact congrArg A.win (congrArg (ValueIdx.ix2 d) (Fin.ext (by show 832 + (f.val - 832 - 64 - 32 - 32 - 64) = g.val; omega)))

/-- The columns of zeros. -/
theorem kcol_zero (b : Fin 4) (s : Fin 8192) (f : Fin 2560) (hf : 832 ≤ f.val) (h : f.val < 896 ∨ 960 ≤ f.val ∧ f.val < 1024) : A.kcol b s f = 0 := by
  refine Finset.sum_eq_zero fun d _ => ?_
  have e : winV A.win (ValueIdx.ix2 d f) = 0 := by
    rw [winV_apply, dif_neg (by omega)]
    rcases h with h | h
    · rw [dif_pos (by omega)]
    · rw [dif_neg (by omega), dif_neg (by omega), dif_neg (by omega), dif_pos (by omega)]
  rw [e, mul_zero]

/-- The second half's columns, moved to the first. -/
theorem kcol_moved (b : Fin 4) (s : Fin 8192) (f : Fin 2560) (g : Fin 2368) (hf : 928 ≤ f.val) (hf' : f.val < 960) (hg : g.val + 160 = f.val) :
    A.kcol b s f = A.proj b s g := by
  refine Finset.sum_congr rfl fun d _ => congrArg (A.row b s d * ·) ?_
  rw [winV_apply, dif_neg (by omega), dif_neg (by omega), dif_neg (by omega), dif_pos (by omega)]
  exact congrArg A.win (congrArg (ValueIdx.ix2 d) (Fin.ext (by show 768 + (f.val - 832 - 64 - 32) = g.val; omega)))

/-- The first half's columns, negated. -/
theorem kcol_negated (b : Fin 4) (s : Fin 8192) (f : Fin 2560) (g : Fin 2368) (hf : 896 ≤ f.val) (hf' : f.val < 928) (hg : g.val + 96 = f.val) :
    A.kcol b s f = ∑ d : Fin 2048, A.row b s d * -A.win (ValueIdx.ix2 d g) := by
  refine Finset.sum_congr rfl fun d _ => congrArg (A.row b s d * ·) ?_
  rw [winV_apply, dif_neg (by omega), dif_neg (by omega), dif_pos (by omega)]
  exact congrArg (fun j => -A.win j) (congrArg (ValueIdx.ix2 d) (Fin.ext (by show 800 + (f.val - 832 - 64) = g.val; omega)))

/-- A plain lane of a head's queries. -/
theorem kquery_plain (b : Fin 4) (s : Fin 8192) (f : Fin 3072) (g : Fin 1536) (hf : f.val < 1024) (hg : g.val = 192 * (f.val / 128) + f.val % 128) :
    A.kquery f b s = A.query b s g := by
  refine Finset.sum_congr rfl fun r _ => ?_
  rw [wqtV_apply, dif_pos hf, wplainV_apply, mul_comm]
  exact congrArg (A.cq b s r * A.wq ·) (congrArg (ValueIdx.ix2 r) (Fin.ext hg.symm))

theorem kquery_cos (b : Fin 4) (s : Fin 8192) (f : Fin 3072) (g : Fin 1536) (hf : 1024 ≤ f.val) (hf' : f.val < 2048) (hl : f.val % 128 < 64)
    (hg : g.val = 192 * ((f.val - 1024) / 128) + 128 + f.val % 128) : A.kquery f b s = A.query b s g := by
  refine Finset.sum_congr rfl fun r _ => ?_
  rw [wqtV_apply, dif_neg (by omega), dif_pos (by omega), wcosV_apply, dif_pos (by show (f.val - 1024) % 128 < 64; omega), wrotV_apply, mul_comm]
  exact congrArg (A.cq b s r * A.wq ·) (congrArg (ValueIdx.ix2 r) (Fin.ext
    (by show 192 * ((f.val - 1024) / 128) + 128 + (f.val - 1024) % 128 = g.val; omega)))

theorem kquery_sin_moved (b : Fin 4) (s : Fin 8192) (f : Fin 3072) (g : Fin 1536) (hf : 2048 ≤ f.val) (hl : 32 ≤ f.val % 128) (hl' : f.val % 128 < 64)
    (hg : g.val + 32 = 192 * ((f.val - 2048) / 128) + 128 + f.val % 128) : A.kquery f b s = A.query b s g := by
  refine Finset.sum_congr rfl fun r _ => ?_
  rw [wqtV_apply, dif_neg (by omega), dif_neg (by omega), wsinV_apply, dif_neg (by show ¬(f.val - 1024 - 1024) % 128 < 32; omega),
    dif_pos (by show (f.val - 1024 - 1024) % 128 - 32 < 32; omega), wrotV_apply, mul_comm]
  exact congrArg (A.cq b s r * A.wq ·) (congrArg (ValueIdx.ix2 r) (Fin.ext
    (by show 192 * ((f.val - 1024 - 1024) / 128) + 128 + ((f.val - 1024 - 1024) % 128 - 32) = g.val; omega)))

theorem kquery_sin_negated (b : Fin 4) (s : Fin 8192) (f : Fin 3072) (g : Fin 1536) (hf : 2048 ≤ f.val) (hl : f.val % 128 < 32)
    (hg : g.val = 192 * ((f.val - 2048) / 128) + 160 + f.val % 128) :
    A.kquery f b s = ∑ r : Fin 512, A.cq b s r * -A.wq (ValueIdx.ix2 r g) := by
  refine Finset.sum_congr rfl fun r _ => ?_
  rw [wqtV_apply, dif_neg (by omega), dif_neg (by omega), wsinV_apply, dif_pos (by show (f.val - 1024 - 1024) % 128 < 32; omega), wrotV_apply, mul_comm]
  exact congrArg (A.cq b s r * -A.wq ·) (congrArg (ValueIdx.ix2 r) (Fin.ext
    (by show 192 * ((f.val - 1024 - 1024) / 128) + 128 + (32 + (f.val - 1024 - 1024) % 128) = g.val; omega)))

theorem kquery_zero (b : Fin 4) (s : Fin 8192) (f : Fin 3072) (hf : 1024 ≤ f.val) (hl : 64 ≤ f.val % 128) : A.kquery f b s = 0 := by
  refine Finset.sum_eq_zero fun r _ => ?_
  have e : wqtV A.wq (ValueIdx.ix2 f r) = 0 := by
    rw [wqtV_apply, dif_neg (by omega)]
    split
    · rw [wcosV_apply, dif_neg (by show ¬(f.val - 1024) % 128 < 64; omega)]
    · rw [wsinV_apply, dif_neg (by show ¬(f.val - 1024 - 1024) % 128 < 32; omega), dif_neg (by show ¬(f.val - 1024 - 1024) % 128 - 32 < 32; omega)]
  rw [e, zero_mul]

/-- The rotated lanes of a head's queries, before they are turned. -/
def qlane (b : Fin 4) (s : Fin 8192) (h : Fin 8) (j : Fin 64) : EReal := A.query b s ⟨h.val * 192 + (128 + j.val), by omega⟩

/-- The keys' rotated lanes, before they are turned. -/
def klane (b : Fin 4) (s : Fin 8192) (j : Fin 64) : EReal := A.proj b s ⟨768 + j.val, by omega⟩

/-- Row `f` of the reference's array of queries. -/
def qtAt (b : Fin 4) (f : Fin 2048) (s : Fin 8192) : EReal :=
  (if h : f.val % 256 < 128 then A.query b s ⟨f.val / 256 * 192 + f.val % 256, by omega⟩
    else rotAt (A.qlane b s ⟨f.val / 256, by omega⟩) s ⟨f.val % 256 - 128, by omega⟩) * qscale

/-- The reference's array of queries. -/
def qt : Vec Ideal S4x2048x8192 .bf16 := fun y => A.qtAt (y 0) (y 1) (y 2)

/-- The reference's keys' rotated part. -/
def kr : Vec Ideal S4x8192x128 .bf16 := fun y => rotAt (A.klane (y 0) (y 1)) (y 1) (y 2)

/-- Row `f` of the kernel's array of queries. -/
def kqtAt (b : Fin 4) (f : Fin 2048) (s : Fin 8192) : EReal :=
  if h : f.val % 256 < 128 then A.kquery ⟨128 * (f.val / 256) + f.val % 256, by omega⟩ b s * qscale
  else (A.kquery ⟨1024 + 128 * (f.val / 256) + (f.val % 256 - 128), by omega⟩ b s
          * tableV cosV (ValueIdx.ix2 s ⟨f.val % 256 - 128, by omega⟩)
      + A.kquery ⟨2048 + 128 * (f.val / 256) + (f.val % 256 - 128), by omega⟩ b s
          * tableV sinV (ValueIdx.ix2 s ⟨f.val % 256 - 128, by omega⟩)) * qscale

/-- The kernel's array of queries. -/
def kqt : Vec Ideal S4x2048x8192 .bf16 := fun y => A.kqtAt (y 0) (y 1) (y 2)

/-- The keys' plain lanes. -/
def kn : Vec Ideal S4x8x8192x128 .bf16 := fun y => A.kv (y 0) (y 2) ⟨(y 1).val * 256 + (y 3).val, by
  have h1 : (y 1).val < 8 := (y 1).isLt; have h3 : (y 3).val < 128 := (y 3).isLt; omega⟩

/-- Lane `l` of the kernel's keys' rotated part. -/
def kkrAt (b : Fin 4) (s : Fin 8192) (l : Fin 128) : EReal :=
  A.kcol b s ⟨l.val + 768, by omega⟩ * tableV cosV (ValueIdx.ix2 s l) + A.kcol b s ⟨l.val + 896, by omega⟩ * tableV sinV (ValueIdx.ix2 s l)

/-- The kernel's keys' rotated part. -/
def kkr : Vec Ideal S4x8192x128 .bf16 := fun y => A.kkrAt (y 0) (y 1) (y 2)

/-- The values, transposed. -/
def vt : Vec Ideal S4x8x128x8192 .bf16 := fun y => A.kv (y 0) (y 3) ⟨(y 1).val * 256 + (128 + (y 2).val), by
  have h1 : (y 1).val < 8 := (y 1).isLt; have h3 : (y 2).val < 128 := (y 2).isLt; omega⟩

/-- The second attention's queries, scaled. -/
def qb : Vec Ideal S4x8192x1024 .bf16 := fun y => A.proj (y 0) (y 1) ⟨832 + (y 2).val, by
  have h : (y 2).val < 1024 := (y 2).isLt; omega⟩ * Ideal.ofBits .f32 0x3DB504F3#32

/-- The second attention's keys. -/
def kb : Vec Ideal S4x8192x256 .bf16 := fun y => A.proj (y 0) (y 1) ⟨1856 + (y 2).val, by
  have h : (y 2).val < 256 := (y 2).isLt; omega⟩

/-- The second attention's values. -/
def vb : Vec Ideal S4x8192x256 .bf16 := fun y => A.proj (y 0) (y 1) ⟨2112 + (y 2).val, by
  have h : (y 2).val < 256 := (y 2).isLt; omega⟩

end Args

end Cert.Kernel2Ideal.Pre

end
-- ==== Proof.Pre.Blocks.lean ====
/- The blocks the projection kernel takes, as entries of the call's arguments and of the arrays the host
   prepares. -/
module

public import proofs.«01_k».proof.Proof.Pre.State
public import proofs.«01_k».proof.Proof.Pre.Out
public import proofs.«01_k».proof.Proof.Pre.Model

@[expose] public section

set_option maxRecDepth 16384

noncomputable section

namespace Cert.Kernel2Ideal.Pre

open Cert.Kernel2Ideal Cert.Kernel2Ideal.Gen Idealize.ShloMosaic Idealize.ShloMosaic.TcCoe
open Idealize.ShloMosaic.Pipeline (Dat)

theorem idx0 : ∀ t, win0_0.index t = ![(grid0.coords t 0).val, (grid0.coords t 1).val, 0] :=
  (by decide +kernel : ∀ t : Fin grid0.N, win0_0.index t = ![(grid0.coords t 0).val, (grid0.coords t 1).val, 0])

theorem idx1 : ∀ t, win0_1.index t = ![(grid0.coords t 0).val, 0, 0] :=
  (by decide +kernel : ∀ t : Fin grid0.N, win0_1.index t = ![(grid0.coords t 0).val, 0, 0])

theorem idx2 : ∀ t, win0_2.index t = ![(grid0.coords t 0).val, 0, 0] :=
  (by decide +kernel : ∀ t : Fin grid0.N, win0_2.index t = ![(grid0.coords t 0).val, 0, 0])

theorem idx3 : ∀ t, win0_3.index t = ![0, 0] :=
  (by decide +kernel : ∀ t : Fin grid0.N, win0_3.index t = ![0, 0])

theorem idx4 : ∀ t, win0_4.index t = ![0, 0] :=
  (by decide +kernel : ∀ t : Fin grid0.N, win0_4.index t = ![0, 0])

theorem idx5 : ∀ t, win0_5.index t = ![0, 0] :=
  (by decide +kernel : ∀ t : Fin grid0.N, win0_5.index t = ![0, 0])

theorem idx6 : ∀ t, win0_6.index t = ![0, 0] :=
  (by decide +kernel : ∀ t : Fin grid0.N, win0_6.index t = ![0, 0])

theorem idx7 : ∀ t, win0_7.index t = ![0, 0] :=
  (by decide +kernel : ∀ t : Fin grid0.N, win0_7.index t = ![0, 0])

theorem idx8 : ∀ t, win0_8.index t = ![0, 0] :=
  (by decide +kernel : ∀ t : Fin grid0.N, win0_8.index t = ![0, 0])

theorem idx9 : ∀ t, win0_9.index t = ![0, 0] :=
  (by decide +kernel : ∀ t : Fin grid0.N, win0_9.index t = ![0, 0])

theorem idx10 : ∀ t, win0_10.index t = ![(grid0.coords t 1).val, 0] :=
  (by decide +kernel : ∀ t : Fin grid0.N, win0_10.index t = ![(grid0.coords t 1).val, 0])

theorem idx11 : ∀ t, win0_11.index t = ![(grid0.coords t 1).val, 0] :=
  (by decide +kernel : ∀ t : Fin grid0.N, win0_11.index t = ![(grid0.coords t 1).val, 0])

theorem idx12 : ∀ t, win0_12.index t = ![0, (grid0.coords t 1).val] :=
  (by decide +kernel : ∀ t : Fin grid0.N, win0_12.index t = ![0, (grid0.coords t 1).val])

theorem idx13 : ∀ t, win0_13.index t = ![0, (grid0.coords t 1).val] :=
  (by decide +kernel : ∀ t : Fin grid0.N, win0_13.index t = ![0, (grid0.coords t 1).val])

theorem idx14 : ∀ t, win0_14.index t = ![(grid0.coords t 0).val, 0, (grid0.coords t 1).val] :=
  (by decide +kernel : ∀ t : Fin grid0.N, win0_14.index t = ![(grid0.coords t 0).val, 0, (grid0.coords t 1).val])

theorem idx15 : ∀ t, win0_15.index t = ![(grid0.coords t 0).val, 0, (grid0.coords t 1).val, 0] :=
  (by decide +kernel : ∀ t : Fin grid0.N, win0_15.index t = ![(grid0.coords t 0).val, 0, (grid0.coords t 1).val, 0])

theorem idx16 : ∀ t, win0_16.index t = ![(grid0.coords t 0).val, (grid0.coords t 1).val, 0] :=
  (by decide +kernel : ∀ t : Fin grid0.N, win0_16.index t = ![(grid0.coords t 0).val, (grid0.coords t 1).val, 0])

theorem idx17 : ∀ t, win0_17.index t = ![(grid0.coords t 0).val, 0, 0, (grid0.coords t 1).val] :=
  (by decide +kernel : ∀ t : Fin grid0.N, win0_17.index t = ![(grid0.coords t 0).val, 0, 0, (grid0.coords t 1).val])

theorem idx18 : ∀ t, win0_18.index t = ![(grid0.coords t 0).val, (grid0.coords t 1).val, 0] :=
  (by decide +kernel : ∀ t : Fin grid0.N, win0_18.index t = ![(grid0.coords t 0).val, (grid0.coords t 1).val, 0])

theorem idx19 : ∀ t, win0_19.index t = ![(grid0.coords t 0).val, (grid0.coords t 1).val, 0] :=
  (by decide +kernel : ∀ t : Fin grid0.N, win0_19.index t = ![(grid0.coords t 0).val, (grid0.coords t 1).val, 0])

theorem idx20 : ∀ t, win0_20.index t = ![(grid0.coords t 0).val, (grid0.coords t 1).val, 0] :=
  (by decide +kernel : ∀ t : Fin grid0.N, win0_20.index t = ![(grid0.coords t 0).val, (grid0.coords t 1).val, 0])

/-- Token `s` of grid point `t`'s block, in the array. -/
abbrev tok (t : Fin cfg0.N) (s : Fin 256) : Fin 8192 :=
  ⟨(grid0.coords t 1).val * 256 + s.val, by have h : (grid0.coords t 1).val < 32 := (grid0.coords t 1).isLt; omega⟩

variable (m : (ℓ : Loc nD τ sig) → Buf (Elt Ideal) ℓ) (c : Dev nD)

/-- The call's arguments in memory. -/
def argsOf : Args where
  x := m ((c : Thread nD τ).loc main_arg0)
  sh := m ((c : Thread nD τ).loc main_arg1)
  sc := m ((c : Thread nD τ).loc main_arg2)
  g1 := m ((c : Thread nD τ).loc main_arg3)
  win := m ((c : Thread nD τ).loc main_arg4)
  gq := m ((c : Thread nD τ).loc main_arg5)
  gk := m ((c : Thread nD τ).loc main_arg6)
  wq := m ((c : Thread nD τ).loc main_arg7)
  wk := m ((c : Thread nD τ).loc main_arg8)

theorem iblk0_apply (t : Fin cfg0.N) (s : Fin 256) (d : Fin 2048) :
    iblk m c 0 t (ValueIdx.ix3 0 s d) = (argsOf m c).x (ValueIdx.ix3 (grid0.coords t 0) (tok t s) d) := by
  blk_simp [iblk, V, idx0]
  refine congrArg (m ((c : Thread nD τ).loc main_arg0)) (funext fun a => Fin.ext ?_)
  match a with
  | ⟨0, _⟩ => blk_simp [idx0]
  | ⟨1, _⟩ => blk_simp [idx0]
  | ⟨2, _⟩ => blk_simp [idx0]

theorem iblk1_apply (t : Fin cfg0.N) (d : Fin 2048) :
    iblk m c 1 t (ValueIdx.ix3 0 0 d) = (argsOf m c).sh (ValueIdx.ix3 (grid0.coords t 0) 0 d) := by
  blk_simp [iblk, V, idx1]
  refine congrArg (m ((c : Thread nD τ).loc main_arg1)) (funext fun a => Fin.ext ?_)
  match a with
  | ⟨0, _⟩ => blk_simp [idx1]
  | ⟨1, _⟩ => blk_simp [idx1]
  | ⟨2, _⟩ => blk_simp [idx1]

theorem iblk2_apply (t : Fin cfg0.N) (d : Fin 2048) :
    iblk m c 2 t (ValueIdx.ix3 0 0 d) = (argsOf m c).sc (ValueIdx.ix3 (grid0.coords t 0) 0 d) := by
  blk_simp [iblk, V, idx2]
  refine congrArg (m ((c : Thread nD τ).loc main_arg2)) (funext fun a => Fin.ext ?_)
  match a with
  | ⟨0, _⟩ => blk_simp [idx2]
  | ⟨1, _⟩ => blk_simp [idx2]
  | ⟨2, _⟩ => blk_simp [idx2]

theorem iblk3_whole (t : Fin cfg0.N) (y : S1x2048.Idx) : iblk m c 3 t y = V m c main_v50 y := by
  blk_simp [iblk, idx3]
  refine congrArg (V m c main_v50) (funext fun a => Fin.ext ?_)
  match a with
  | ⟨0, _⟩ => blk_simp [idx3]
  | ⟨1, _⟩ => blk_simp [idx3]

theorem iblk4_whole (t : Fin cfg0.N) (y : S2048x2560.Idx) : iblk m c 4 t y = V m c main_v7 y := by
  blk_simp [iblk, idx4]
  refine congrArg (V m c main_v7) (funext fun a => Fin.ext ?_)
  match a with
  | ⟨0, _⟩ => blk_simp [idx4]
  | ⟨1, _⟩ => blk_simp [idx4]

theorem iblk5_whole (t : Fin cfg0.N) (y : S1x512.Idx) : iblk m c 5 t y = V m c main_v51 y := by
  blk_simp [iblk, idx5]
  refine congrArg (V m c main_v51) (funext fun a => Fin.ext ?_)
  match a with
  | ⟨0, _⟩ => blk_simp [idx5]
  | ⟨1, _⟩ => blk_simp [idx5]

theorem iblk6_whole (t : Fin cfg0.N) (y : S1x256.Idx) : iblk m c 6 t y = V m c main_v52 y := by
  blk_simp [iblk, idx6]
  refine congrArg (V m c main_v52) (funext fun a => Fin.ext ?_)
  match a with
  | ⟨0, _⟩ => blk_simp [idx6]
  | ⟨1, _⟩ => blk_simp [idx6]

theorem iblk7_whole (t : Fin cfg0.N) (y : S3072x512.Idx) : iblk m c 7 t y = V m c main_v22 y := by
  blk_simp [iblk, idx7]
  refine congrArg (V m c main_v22) (funext fun a => Fin.ext ?_)
  match a with
  | ⟨0, _⟩ => blk_simp [idx7]
  | ⟨1, _⟩ => blk_simp [idx7]

theorem iblk8_whole (t : Fin cfg0.N) (y : S256x1024.Idx) : iblk m c 8 t y = V m c main_v26 y := by
  blk_simp [iblk, idx8]
  refine congrArg (V m c main_v26) (funext fun a => Fin.ext ?_)
  match a with
  | ⟨0, _⟩ => blk_simp [idx8]
  | ⟨1, _⟩ => blk_simp [idx8]

theorem iblk9_whole (t : Fin cfg0.N) (y : S1024x256.Idx) : iblk m c 9 t y = V m c main_v29 y := by
  blk_simp [iblk, idx9]
  refine congrArg (V m c main_v29) (funext fun a => Fin.ext ?_)
  match a with
  | ⟨0, _⟩ => blk_simp [idx9]
  | ⟨1, _⟩ => blk_simp [idx9]

theorem iblk10_apply (t : Fin cfg0.N) (s : Fin 256) (l : Fin 128) :
    iblk m c 10 t (ValueIdx.ix2 s l) = V m c main_v46 (ValueIdx.ix2 (tok t s) l) := by
  blk_simp [iblk, idx10]
  refine congrArg (V m c main_v46) (funext fun a => Fin.ext ?_)
  match a with
  | ⟨0, _⟩ => blk_simp [idx10]
  | ⟨1, _⟩ => blk_simp [idx10]

theorem iblk11_apply (t : Fin cfg0.N) (s : Fin 256) (l : Fin 128) :
    iblk m c 11 t (ValueIdx.ix2 s l) = V m c main_v47 (ValueIdx.ix2 (tok t s) l) := by
  blk_simp [iblk, idx11]
  refine congrArg (V m c main_v47) (funext fun a => Fin.ext ?_)
  match a with
  | ⟨0, _⟩ => blk_simp [idx11]
  | ⟨1, _⟩ => blk_simp [idx11]

theorem iblk12_apply (t : Fin cfg0.N) (l : Fin 128) (s : Fin 256) :
    iblk m c 12 t (ValueIdx.ix2 l s) = V m c main_v48 (ValueIdx.ix2 l (tok t s)) := by
  blk_simp [iblk, idx12]
  refine congrArg (V m c main_v48) (funext fun a => Fin.ext ?_)
  match a with
  | ⟨0, _⟩ => blk_simp [idx12]
  | ⟨1, _⟩ => blk_simp [idx12]

theorem iblk13_apply (t : Fin cfg0.N) (l : Fin 128) (s : Fin 256) :
    iblk m c 13 t (ValueIdx.ix2 l s) = V m c main_v49 (ValueIdx.ix2 l (tok t s)) := by
  blk_simp [iblk, idx13]
  refine congrArg (V m c main_v49) (funext fun a => Fin.ext ?_)
  match a with
  | ⟨0, _⟩ => blk_simp [idx13]
  | ⟨1, _⟩ => blk_simp [idx13]

end Cert.Kernel2Ideal.Pre

end
-- ==== Proof.Pre.Entries.lean ====
/- The entries of the blocks the projection kernel stores, as functions of the call's arguments. -/
module

public import proofs.«01_k».proof.Proof.Pre.Blocks

@[expose] public section

set_option maxRecDepth 16384

noncomputable section

namespace Cert.Kernel2Ideal.Pre

open Cert.Kernel2Ideal Cert.Kernel2Ideal.Gen Idealize.ShloMosaic Idealize.ShloMosaic.TcCoe
open Idealize.ShloMosaic.Pipeline (Dat)

theorem norm1_apply (g : Vec Ideal S2048 .f32) (d : Fin 2048) :
    (shapeCast S1x2048 g shapeCasts_S2048_S1x2048 : Vec Ideal S1x2048 .f32) (ValueIdx.ix2 0 d) = g (ValueIdx.ix1 d) := by
  pointwise
  rfl

theorem qnorm_apply (g : Vec Ideal S512 .f32) (d : Fin 512) :
    (shapeCast S1x512 g shapeCasts_S512_S1x512 : Vec Ideal S1x512 .f32) (ValueIdx.ix2 0 d) = g (ValueIdx.ix1 d) := by
  pointwise
  rfl

theorem kvnorm_apply (g : Vec Ideal S256 .f32) (d : Fin 256) :
    (shapeCast S1x256 g shapeCasts_S256_S1x256 : Vec Ideal S1x256 .f32) (ValueIdx.ix2 0 d) = g (ValueIdx.ix1 d) := by
  pointwise
  rfl

theorem table_transpose_apply (a : Vec Ideal S8192x128 .f32) (l : Fin 128) (s : Fin 8192) :
    (transpose S128x8192 [1, 0] a transposes_S8192x128_S128x8192_1_0 : Vec Ideal S128x8192 .f32) (ValueIdx.ix2 l s) = a (ValueIdx.ix2 s l) := by
  pointwise
  rfl

variable (m : (ℓ : Loc nD τ sig) → Buf (Elt Ideal) ℓ) (c : Dev nD)

/-- A block's tokens are the array's. -/
theorem blockRow_eq (t : Fin cfg0.N) (s : Fin 256) (d : Fin 2048) :
    blockRow (iblk m c 0 t) (iblk m c 3 t) (iblk m c 2 t) (iblk m c 1 t) s d = (argsOf m c).row (grid0.coords t 0) (tok t s) d := by
  have e3 : iblk m c 3 t (ValueIdx.ix2 0 d) = (argsOf m c).g1 (ValueIdx.ix1 d) :=
    (iblk3_whole m c t _).trans ((congrFun (V_norm1 m c) _).trans (norm1_apply _ d))
  refine congrArg₂ (· + ·) (congrArg₂ (· * ·) (congrArg₂ (· * ·) (congrArg₂ (· * ·) (iblk0_apply m c t s d) (congrArg (inv _) ?_)) e3)
    (congrArg (1 + ·) (iblk2_apply m c t d))) (iblk1_apply m c t d)
  exact Finset.sum_congr rfl fun e _ => congrArg₂ (· * ·) (iblk0_apply m c t s e) (iblk0_apply m c t s e)

theorem kproj_eq (t : Fin cfg0.N) (s : Fin 256) (f : Fin 2560) :
    kproj (iblk m c 0 t) (iblk m c 3 t) (iblk m c 2 t) (iblk m c 1 t) (iblk m c 4 t) s f
      = (argsOf m c).kcol (grid0.coords t 0) (tok t s) f :=
  Finset.sum_congr rfl fun d _ => congrArg₂ (· * ·) (blockRow_eq m c t s d) ((iblk4_whole m c t _).trans (congrFun (V_win m c) _))

/-- An entry of a block's projected rows. -/
theorem entry_eq (t : Fin cfg0.N) (s : Fin 256) (f : Fin 2560) :
    k0_pay2 (F := Ideal) (iblk m c 0 t) (iblk m c 3 t) (iblk m c 2 t) (iblk m c 1 t) (iblk m c 4 t) (ValueIdx.ix2 s f)
      = (argsOf m c).kcol (grid0.coords t 0) (tok t s) f :=
  (pay2_apply _ _ _ _ _ s f).trans (kproj_eq m c t s f)

theorem cq_eq (t : Fin cfg0.N) (s : Fin 256) (r : Fin 512) :
    kproj (iblk m c 0 t) (iblk m c 3 t) (iblk m c 2 t) (iblk m c 1 t) (iblk m c 4 t) s ⟨r.val, by omega⟩
        * inv 0x44000000#32 (∑ e : Fin 512, kproj (iblk m c 0 t) (iblk m c 3 t) (iblk m c 2 t) (iblk m c 1 t) (iblk m c 4 t) s ⟨e.val, by omega⟩
          * kproj (iblk m c 0 t) (iblk m c 3 t) (iblk m c 2 t) (iblk m c 1 t) (iblk m c 4 t) s ⟨e.val, by omega⟩)
        * iblk m c 5 t (ValueIdx.ix2 0 r)
      = (argsOf m c).cq (grid0.coords t 0) (tok t s) r := by
  have e : ∀ e : Fin 512, kproj (iblk m c 0 t) (iblk m c 3 t) (iblk m c 2 t) (iblk m c 1 t) (iblk m c 4 t) s ⟨e.val, by omega⟩
      = (argsOf m c).proj (grid0.coords t 0) (tok t s) ⟨e.val, by omega⟩ := fun e =>
    (kproj_eq m c t s _).trans ((argsOf m c).kcol_low _ _ _ _ (by show e.val < 832; omega) rfl)
  refine congrArg₂ (· * ·) (congrArg₂ (· * ·) (e r) (congrArg (inv _) (Finset.sum_congr rfl fun i _ => congrArg₂ (· * ·) (e i) (e i)))) ?_
  exact (iblk5_whole m c t _).trans ((congrFun (V_qnorm m c) _).trans (qnorm_apply _ r))

theorem ckv_eq (t : Fin cfg0.N) (s : Fin 256) (r : Fin 256) :
    kproj (iblk m c 0 t) (iblk m c 3 t) (iblk m c 2 t) (iblk m c 1 t) (iblk m c 4 t) s ⟨512 + r.val, by omega⟩
        * inv 0x43800000#32 (∑ e : Fin 256, kproj (iblk m c 0 t) (iblk m c 3 t) (iblk m c 2 t) (iblk m c 1 t) (iblk m c 4 t) s ⟨512 + e.val, by omega⟩
          * kproj (iblk m c 0 t) (iblk m c 3 t) (iblk m c 2 t) (iblk m c 1 t) (iblk m c 4 t) s ⟨512 + e.val, by omega⟩)
        * iblk m c 6 t (ValueIdx.ix2 0 r)
      = (argsOf m c).ckv (grid0.coords t 0) (tok t s) r := by
  have e : ∀ e : Fin 256, kproj (iblk m c 0 t) (iblk m c 3 t) (iblk m c 2 t) (iblk m c 1 t) (iblk m c 4 t) s ⟨512 + e.val, by omega⟩
      = (argsOf m c).proj (grid0.coords t 0) (tok t s) ⟨512 + e.val, by omega⟩ := fun e =>
    (kproj_eq m c t s _).trans ((argsOf m c).kcol_low _ _ _ _ (by show 512 + e.val < 832; omega) rfl)
  refine congrArg₂ (· * ·) (congrArg₂ (· * ·) (e r) (congrArg (inv _) (Finset.sum_congr rfl fun i _ => congrArg₂ (· * ·) (e i) (e i)))) ?_
  exact (iblk6_whole m c t _).trans ((congrFun (V_kvnorm m c) _).trans (kvnorm_apply _ r))

theorem kquery_eq (t : Fin cfg0.N) (f : Fin 3072) (s : Fin 256) :
    k0_pay34 (F := Ideal) (k0_pay31 (k0_pay2 (iblk m c 0 t) (iblk m c 3 t) (iblk m c 2 t) (iblk m c 1 t) (iblk m c 4 t))) (k0_pay32 (iblk m c 5 t))
        (k0_pay33 (k0_pay2 (iblk m c 0 t) (iblk m c 3 t) (iblk m c 2 t) (iblk m c 1 t) (iblk m c 4 t))) (iblk m c 7 t) (ValueIdx.ix2 f s)
      = (argsOf m c).kquery f (grid0.coords t 0) (tok t s) :=
  (queries_apply _ _ _ _ _ _ _ f s).trans (Finset.sum_congr rfl fun r _ =>
    congrArg₂ (· * ·) ((iblk7_whole m c t _).trans (congrFun (V_wqt m c) _)) (cq_eq m c t s r))

theorem block14 (t : Fin cfg0.N) (f : Fin 2048) (s : Fin 256) :
    out0_14 (F := Ideal) (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (ValueIdx.ix3 0 f s)
      = (argsOf m c).kqt (ValueIdx.ix3 (grid0.coords t 0) f (tok t s)) := by
  rw [out14_apply]
  show qent _ _ _ f s = (argsOf m c).kqtAt (grid0.coords t 0) f (tok t s)
  unfold qent Args.kqtAt plain turned
  split
  · exact congrArg (· * qscale) (kquery_eq m c t _ s)
  · refine congrArg (· * qscale) (congrArg₂ (· + ·) (congrArg₂ (· * ·) (kquery_eq m c t _ s) ?_) (congrArg₂ (· * ·) (kquery_eq m c t _ s) ?_))
    · exact (iblk12_apply m c t _ s).trans ((congrFun (V_cost m c) _).trans (table_transpose_apply _ _ _))
    · exact (iblk13_apply m c t _ s).trans ((congrFun (V_sint m c) _).trans (table_transpose_apply _ _ _))

theorem block15 (t : Fin cfg0.N) (h : Fin 8) (s : Fin 256) (d : Fin 128) :
    out0_15 (F := Ideal) (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (ValueIdx.ix4 0 h s d)
      = (argsOf m c).kn (ValueIdx.ix4 (grid0.coords t 0) h (tok t s) d) := by
  rw [out15_apply]
  have e : Value.ix15_0 (ValueIdx.ix4 0 h s d) = ValueIdx.ix2 s ⟨h.val * 128 + d.val, by omega⟩ :=
    funext fun a => match a with | ⟨0, _⟩ => rfl | ⟨1, _⟩ => rfl
  rw [e, keys_apply]
  show _ = (argsOf m c).kv (grid0.coords t 0) (tok t s) ⟨h.val * 256 + d.val, _⟩
  unfold Args.kv
  refine Finset.sum_congr rfl fun r _ => congrArg₂ (· * ·) (ckv_eq m c t s r) ?_
  rw [iblk8_whole, V_wkn, wknV_apply]
  refine congrArg _ (congrArg (ValueIdx.ix2 r) (Fin.ext ?_))
  show 256 * ((h.val * 128 + d.val) / 128) + (h.val * 128 + d.val) % 128 = h.val * 256 + d.val
  omega

theorem block16 (t : Fin cfg0.N) (s : Fin 256) (l : Fin 128) :
    out0_16 (F := Ideal) (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (ValueIdx.ix3 0 s l)
      = (argsOf m c).kkr (ValueIdx.ix3 (grid0.coords t 0) (tok t s) l) := by
  rw [out16_apply]
  have a0 : Value.ix16_0 (ValueIdx.ix3 0 s l) = ValueIdx.ix2 s ⟨l.val + 768, by omega⟩ := funext fun a => match a with | ⟨0, _⟩ => rfl | ⟨1, _⟩ => rfl
  have a1 : Value.ix16_1 (ValueIdx.ix3 0 s l) = ValueIdx.ix2 s l := funext fun a => match a with | ⟨0, _⟩ => rfl | ⟨1, _⟩ => rfl
  have a2 : Value.ix16_2 (ValueIdx.ix3 0 s l) = ValueIdx.ix2 s ⟨l.val + 896, by omega⟩ := funext fun a => match a with | ⟨0, _⟩ => rfl | ⟨1, _⟩ => rfl
  have a3 : Value.ix16_3 (ValueIdx.ix3 0 s l) = ValueIdx.ix2 s l := funext fun a => match a with | ⟨0, _⟩ => rfl | ⟨1, _⟩ => rfl
  rw [a0, a1, a2, a3, entry_eq, entry_eq, iblk10_apply, iblk11_apply, V_cos, V_sin]
  rfl

theorem block17 (t : Fin cfg0.N) (h : Fin 8) (d : Fin 128) (s : Fin 256) :
    out0_17 (F := Ideal) (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (ValueIdx.ix4 0 h d s)
      = (argsOf m c).vt (ValueIdx.ix4 (grid0.coords t 0) h d (tok t s)) := by
  rw [out17_apply]
  have e : Value.ix17_0 (ValueIdx.ix4 0 h d s) = ValueIdx.ix2 ⟨h.val * 128 + d.val, by omega⟩ s :=
    funext fun a => match a with | ⟨0, _⟩ => rfl | ⟨1, _⟩ => rfl
  rw [e, values_apply]
  show _ = (argsOf m c).kv (grid0.coords t 0) (tok t s) ⟨h.val * 256 + (128 + d.val), _⟩
  unfold Args.kv
  refine Finset.sum_congr rfl fun r _ => (mul_comm _ _).trans (congrArg₂ (· * ·) (ckv_eq m c t s r) ?_)
  rw [iblk9_whole, V_wvt, wvtV_apply]
  refine congrArg _ (congrArg (ValueIdx.ix2 r) (Fin.ext ?_))
  show 256 * ((h.val * 128 + d.val) / 128) + 128 + (h.val * 128 + d.val) % 128 = h.val * 256 + (128 + d.val)
  omega

theorem block18 (t : Fin cfg0.N) (s : Fin 256) (f : Fin 1024) :
    out0_18 (F := Ideal) (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (ValueIdx.ix3 0 s f)
      = (argsOf m c).qb (ValueIdx.ix3 (grid0.coords t 0) (tok t s) f) := by
  rw [out18_apply]
  have e : Value.ix18_0 (ValueIdx.ix3 0 s f) = ValueIdx.ix2 s ⟨f.val + 1024, by omega⟩ := funext fun a => match a with | ⟨0, _⟩ => rfl | ⟨1, _⟩ => rfl
  rw [e, entry_eq]
  have k := (argsOf m c).kcol_high (grid0.coords t 0) (tok t s) ⟨f.val + 1024, by omega⟩ ⟨832 + f.val, by omega⟩ (by show 1024 ≤ f.val + 1024; omega)
    (by show 832 + f.val + 192 = f.val + 1024; omega)
  exact congrArg (· * Ideal.ofBits .f32 0x3DB504F3#32) k

theorem block19 (t : Fin cfg0.N) (s : Fin 256) (f : Fin 256) :
    out0_19 (F := Ideal) (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (ValueIdx.ix3 0 s f)
      = (argsOf m c).kb (ValueIdx.ix3 (grid0.coords t 0) (tok t s) f) := by
  rw [out19_apply]
  have e : Value.ix19_0 (ValueIdx.ix3 0 s f) = ValueIdx.ix2 s ⟨f.val + 2048, by omega⟩ := funext fun a => match a with | ⟨0, _⟩ => rfl | ⟨1, _⟩ => rfl
  rw [e, entry_eq]
  have k := (argsOf m c).kcol_high (grid0.coords t 0) (tok t s) ⟨f.val + 2048, by omega⟩ ⟨1856 + f.val, by omega⟩ (by show 1024 ≤ f.val + 2048; omega)
    (by show 1856 + f.val + 192 = f.val + 2048; omega)
  exact k

theorem block20 (t : Fin cfg0.N) (s : Fin 256) (f : Fin 256) :
    out0_20 (F := Ideal) (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (ValueIdx.ix3 0 s f)
      = (argsOf m c).vb (ValueIdx.ix3 (grid0.coords t 0) (tok t s) f) := by
  rw [out20_apply]
  have e : Value.ix20_0 (ValueIdx.ix3 0 s f) = ValueIdx.ix2 s ⟨f.val + 2304, by omega⟩ := funext fun a => match a with | ⟨0, _⟩ => rfl | ⟨1, _⟩ => rfl
  rw [e, entry_eq]
  have k := (argsOf m c).kcol_high (grid0.coords t 0) (tok t s) ⟨f.val + 2304, by omega⟩ ⟨2112 + f.val, by omega⟩ (by show 1024 ≤ f.val + 2304; omega)
    (by show 2112 + f.val + 192 = f.val + 2304; omega)
  exact k

end Cert.Kernel2Ideal.Pre

end
-- ==== Proof.Pre.Array.lean ====
/- What the projection kernel's run leaves in its seven result arrays, on the extended reals. -/
module

public import proofs.«01_k».proof.Proof.Pre.Entries

@[expose] public section

set_option maxRecDepth 16384

noncomputable section

namespace Cert.Kernel2Ideal.Pre

open Cert.Kernel2Ideal Cert.Kernel2Ideal.Gen Idealize.ShloMosaic Idealize.ShloMosaic.TcCoe
open Idealize.ShloMosaic.Pipeline (Dat)

variable (m : (ℓ : Loc nD τ sig) → Buf (Elt Ideal) ℓ) (c : Dev nD)

/-- Where the entries of point `t`'s block stand in the array. -/
theorem emb14 (t : Fin cfg0.N) (y : S1x2048x256.Idx) : (win0_14.blk t).view.emb y = ValueIdx.ix3 (grid0.coords t 0) (y 1) (tok t (y 2)) := by
  refine funext fun a => Fin.ext ?_
  match a with
  | ⟨0, _⟩ => blk_simp [idx14]
  | ⟨1, _⟩ => blk_simp [idx14]; rfl
  | ⟨2, _⟩ => blk_simp [idx14]; rfl

theorem head14 (y : S1x2048x256.Idx) : y = ValueIdx.ix3 0 (y 1) (y 2) := by
  refine funext fun a => ?_
  match a with
  | ⟨0, _⟩ => exact Fin.ext (by have h : (y 0).val < 1 := (y 0).isLt; show (y 0).val = 0; omega)
  | ⟨1, _⟩ => rfl
  | ⟨2, _⟩ => rfl

theorem entry14 (t : Fin cfg0.N) (y : S1x2048x256.Idx) :
    out0_14 (F := Ideal) (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) y
      = (argsOf m c).kqt (ValueIdx.ix3 (grid0.coords t 0) (y 1) (tok t (y 2))) :=
  (congrArg (out0_14 (F := Ideal) (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t)) (head14 y)).trans
    (block14 m c t (y 1) (y 2))

theorem array14_eq : (dats m 0 c).arrAt 14 cfg0.N = (argsOf m c).kqt := by
  refine (dats m 0 c).arrAt_eq_of_covers 14 _ (by decide +kernel) fun t hf y => ?_
  blk_simp
  rw [after0_14]
  generalize hi : (win0_14.blk t).view.emb y = i
  rw [emb14] at hi
  subst hi
  exact entry14 m c t y

/-- Where the entries of point `t`'s block stand in the array. -/
theorem emb15 (t : Fin cfg0.N) (y : S1x8x256x128.Idx) : (win0_15.blk t).view.emb y = ValueIdx.ix4 (grid0.coords t 0) (y 1) (tok t (y 2)) (y 3) := by
  refine funext fun a => Fin.ext ?_
  match a with
  | ⟨0, _⟩ => blk_simp [idx15]
  | ⟨1, _⟩ => blk_simp [idx15]; rfl
  | ⟨2, _⟩ => blk_simp [idx15]; rfl
  | ⟨3, _⟩ => blk_simp [idx15]; rfl

theorem head15 (y : S1x8x256x128.Idx) : y = ValueIdx.ix4 0 (y 1) (y 2) (y 3) := by
  refine funext fun a => ?_
  match a with
  | ⟨0, _⟩ => exact Fin.ext (by have h : (y 0).val < 1 := (y 0).isLt; show (y 0).val = 0; omega)
  | ⟨1, _⟩ => rfl
  | ⟨2, _⟩ => rfl
  | ⟨3, _⟩ => rfl

theorem entry15 (t : Fin cfg0.N) (y : S1x8x256x128.Idx) :
    out0_15 (F := Ideal) (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) y
      = (argsOf m c).kn (ValueIdx.ix4 (grid0.coords t 0) (y 1) (tok t (y 2)) (y 3)) :=
  (congrArg (out0_15 (F := Ideal) (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t)) (head15 y)).trans
    (block15 m c t (y 1) (y 2) (y 3))

theorem array15_eq : (dats m 0 c).arrAt 15 cfg0.N = (argsOf m c).kn := by
  refine (dats m 0 c).arrAt_eq_of_covers 15 _ (by decide +kernel) fun t hf y => ?_
  blk_simp
  rw [after0_15]
  generalize hi : (win0_15.blk t).view.emb y = i
  rw [emb15] at hi
  subst hi
  exact entry15 m c t y

/-- Where the entries of point `t`'s block stand in the array. -/
theorem emb16 (t : Fin cfg0.N) (y : S1x256x128.Idx) : (win0_16.blk t).view.emb y = ValueIdx.ix3 (grid0.coords t 0) (tok t (y 1)) (y 2) := by
  refine funext fun a => Fin.ext ?_
  match a with
  | ⟨0, _⟩ => blk_simp [idx16]
  | ⟨1, _⟩ => blk_simp [idx16]; rfl
  | ⟨2, _⟩ => blk_simp [idx16]; rfl

theorem head16 (y : S1x256x128.Idx) : y = ValueIdx.ix3 0 (y 1) (y 2) := by
  refine funext fun a => ?_
  match a with
  | ⟨0, _⟩ => exact Fin.ext (by have h : (y 0).val < 1 := (y 0).isLt; show (y 0).val = 0; omega)
  | ⟨1, _⟩ => rfl
  | ⟨2, _⟩ => rfl

theorem entry16 (t : Fin cfg0.N) (y : S1x256x128.Idx) :
    out0_16 (F := Ideal) (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) y
      = (argsOf m c).kkr (ValueIdx.ix3 (grid0.coords t 0) (tok t (y 1)) (y 2)) :=
  (congrArg (out0_16 (F := Ideal) (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t)) (head16 y)).trans
    (block16 m c t (y 1) (y 2))

theorem array16_eq : (dats m 0 c).arrAt 16 cfg0.N = (argsOf m c).kkr := by
  refine (dats m 0 c).arrAt_eq_of_covers 16 _ (by decide +kernel) fun t hf y => ?_
  blk_simp
  rw [after0_16]
  generalize hi : (win0_16.blk t).view.emb y = i
  rw [emb16] at hi
  subst hi
  exact entry16 m c t y

/-- Where the entries of point `t`'s block stand in the array. -/
theorem emb17 (t : Fin cfg0.N) (y : S1x8x128x256.Idx) : (win0_17.blk t).view.emb y = ValueIdx.ix4 (grid0.coords t 0) (y 1) (y 2) (tok t (y 3)) := by
  refine funext fun a => Fin.ext ?_
  match a with
  | ⟨0, _⟩ => blk_simp [idx17]
  | ⟨1, _⟩ => blk_simp [idx17]; rfl
  | ⟨2, _⟩ => blk_simp [idx17]; rfl
  | ⟨3, _⟩ => blk_simp [idx17]; rfl

theorem head17 (y : S1x8x128x256.Idx) : y = ValueIdx.ix4 0 (y 1) (y 2) (y 3) := by
  refine funext fun a => ?_
  match a with
  | ⟨0, _⟩ => exact Fin.ext (by have h : (y 0).val < 1 := (y 0).isLt; show (y 0).val = 0; omega)
  | ⟨1, _⟩ => rfl
  | ⟨2, _⟩ => rfl
  | ⟨3, _⟩ => rfl

theorem entry17 (t : Fin cfg0.N) (y : S1x8x128x256.Idx) :
    out0_17 (F := Ideal) (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) y
      = (argsOf m c).vt (ValueIdx.ix4 (grid0.coords t 0) (y 1) (y 2) (tok t (y 3))) :=
  (congrArg (out0_17 (F := Ideal) (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t)) (head17 y)).trans
    (block17 m c t (y 1) (y 2) (y 3))

theorem array17_eq : (dats m 0 c).arrAt 17 cfg0.N = (argsOf m c).vt := by
  refine (dats m 0 c).arrAt_eq_of_covers 17 _ (by decide +kernel) fun t hf y => ?_
  blk_simp
  rw [after0_17]
  generalize hi : (win0_17.blk t).view.emb y = i
  rw [emb17] at hi
  subst hi
  exact entry17 m c t y

/-- Where the entries of point `t`'s block stand in the array. -/
theorem emb18 (t : Fin cfg0.N) (y : S1x256x1024.Idx) : (win0_18.blk t).view.emb y = ValueIdx.ix3 (grid0.coords t 0) (tok t (y 1)) (y 2) := by
  refine funext fun a => Fin.ext ?_
  match a with
  | ⟨0, _⟩ => blk_simp [idx18]
  | ⟨1, _⟩ => blk_simp [idx18]; rfl
  | ⟨2, _⟩ => blk_simp [idx18]; rfl

theorem head18 (y : S1x256x1024.Idx) : y = ValueIdx.ix3 0 (y 1) (y 2) := by
  refine funext fun a => ?_
  match a with
  | ⟨0, _⟩ => exact Fin.ext (by have h : (y 0).val < 1 := (y 0).isLt; show (y 0).val = 0; omega)
  | ⟨1, _⟩ => rfl
  | ⟨2, _⟩ => rfl

theorem entry18 (t : Fin cfg0.N) (y : S1x256x1024.Idx) :
    out0_18 (F := Ideal) (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) y
      = (argsOf m c).qb (ValueIdx.ix3 (grid0.coords t 0) (tok t (y 1)) (y 2)) :=
  (congrArg (out0_18 (F := Ideal) (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t)) (head18 y)).trans
    (block18 m c t (y 1) (y 2))

theorem array18_eq : (dats m 0 c).arrAt 18 cfg0.N = (argsOf m c).qb := by
  refine (dats m 0 c).arrAt_eq_of_covers 18 _ (by decide +kernel) fun t hf y => ?_
  blk_simp
  rw [after0_18]
  generalize hi : (win0_18.blk t).view.emb y = i
  rw [emb18] at hi
  subst hi
  exact entry18 m c t y

/-- Where the entries of point `t`'s block stand in the array. -/
theorem emb19 (t : Fin cfg0.N) (y : S1x256x256.Idx) : (win0_19.blk t).view.emb y = ValueIdx.ix3 (grid0.coords t 0) (tok t (y 1)) (y 2) := by
  refine funext fun a => Fin.ext ?_
  match a with
  | ⟨0, _⟩ => blk_simp [idx19]
  | ⟨1, _⟩ => blk_simp [idx19]; rfl
  | ⟨2, _⟩ => blk_simp [idx19]; rfl

theorem head19 (y : S1x256x256.Idx) : y = ValueIdx.ix3 0 (y 1) (y 2) := by
  refine funext fun a => ?_
  match a with
  | ⟨0, _⟩ => exact Fin.ext (by have h : (y 0).val < 1 := (y 0).isLt; show (y 0).val = 0; omega)
  | ⟨1, _⟩ => rfl
  | ⟨2, _⟩ => rfl

theorem entry19 (t : Fin cfg0.N) (y : S1x256x256.Idx) :
    out0_19 (F := Ideal) (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) y
      = (argsOf m c).kb (ValueIdx.ix3 (grid0.coords t 0) (tok t (y 1)) (y 2)) :=
  (congrArg (out0_19 (F := Ideal) (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t)) (head19 y)).trans
    (block19 m c t (y 1) (y 2))

theorem array19_eq : (dats m 0 c).arrAt 19 cfg0.N = (argsOf m c).kb := by
  refine (dats m 0 c).arrAt_eq_of_covers 19 _ (by decide +kernel) fun t hf y => ?_
  blk_simp
  rw [after0_19]
  generalize hi : (win0_19.blk t).view.emb y = i
  rw [emb19] at hi
  subst hi
  exact entry19 m c t y

/-- Where the entries of point `t`'s block stand in the array. -/
theorem emb20 (t : Fin cfg0.N) (y : S1x256x256.Idx) : (win0_20.blk t).view.emb y = ValueIdx.ix3 (grid0.coords t 0) (tok t (y 1)) (y 2) := by
  refine funext fun a => Fin.ext ?_
  match a with
  | ⟨0, _⟩ => blk_simp [idx20]
  | ⟨1, _⟩ => blk_simp [idx20]; rfl
  | ⟨2, _⟩ => blk_simp [idx20]; rfl

theorem head20 (y : S1x256x256.Idx) : y = ValueIdx.ix3 0 (y 1) (y 2) := by
  refine funext fun a => ?_
  match a with
  | ⟨0, _⟩ => exact Fin.ext (by have h : (y 0).val < 1 := (y 0).isLt; show (y 0).val = 0; omega)
  | ⟨1, _⟩ => rfl
  | ⟨2, _⟩ => rfl

theorem entry20 (t : Fin cfg0.N) (y : S1x256x256.Idx) :
    out0_20 (F := Ideal) (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) y
      = (argsOf m c).vb (ValueIdx.ix3 (grid0.coords t 0) (tok t (y 1)) (y 2)) :=
  (congrArg (out0_20 (F := Ideal) (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t)) (head20 y)).trans
    (block20 m c t (y 1) (y 2))

theorem array20_eq : (dats m 0 c).arrAt 20 cfg0.N = (argsOf m c).vb := by
  refine (dats m 0 c).arrAt_eq_of_covers 20 _ (by decide +kernel) fun t hf y => ?_
  blk_simp
  rw [after0_20]
  generalize hi : (win0_20.blk t).view.emb y = i
  rw [emb20] at hi
  subst hi
  exact entry20 m c t y

end Cert.Kernel2Ideal.Pre

end
-- ==== Proof.Pre.Finite.lean ====
/- Where the tokens and the weights are finite numbers so are the projections, and the kernel's negated
   columns give the negated projections. So the kernel's rotated lanes are the reference's. -/
module

public import proofs.«01_k».proof.Proof.Pre.Array
public import proofs.«01_k».proof.Proof.Pre.Model
public import proofs.«01_k».proof.Proof.Gen.Pre_finite_tokens
public import proofs.«01_k».proof.Proof.Mla.Finite
public import proofs.«01_k».proof.Defs

@[expose] public section

set_option maxRecDepth 16384

noncomputable section

namespace Cert.Kernel2Ideal.Pre

open Cert.Kernel2Ideal Cert.Kernel2Ideal.Gen Idealize.ShloMosaic Idealize.ShloMosaic.TcCoe
open Cert.KernelIdeal.Mla (real_of_abs_lt bits_inf)

/-- An extended real that is a real number. -/
def Fin' (x : EReal) : Prop := ∃ r : ℝ, x = (r : EReal)

theorem Fin'.mul {x y : EReal} (hx : Fin' x) (hy : Fin' y) : Fin' (x * y) := by
  obtain ⟨a, rfl⟩ := hx
  obtain ⟨b, rfl⟩ := hy
  exact ⟨a * b, (EReal.coe_mul a b).symm⟩

theorem Fin'.add {x y : EReal} (hx : Fin' x) (hy : Fin' y) : Fin' (x + y) := by
  obtain ⟨a, rfl⟩ := hx
  obtain ⟨b, rfl⟩ := hy
  exact ⟨a + b, (EReal.coe_add a b).symm⟩

theorem Fin'.sum {n : ℕ} {f : Fin n → EReal} (h : ∀ i, Fin' (f i)) : Fin' (∑ i, f i) := by
  choose g hg using h
  exact ⟨∑ i, g i, by rw [Cert.Softmax.coe_sum]; exact Finset.sum_congr rfl fun i _ => hg i⟩

theorem one_fin : Fin' (1 : EReal) := ⟨1, by simp⟩

/-- A sum of products with negated factors. -/
theorem sum_mul_neg {n : ℕ} {f g : Fin n → EReal} (hf : ∀ i, Fin' (f i)) (hg : ∀ i, Fin' (g i)) :
    ∑ i, f i * -g i = -∑ i, f i * g i := by
  choose a ha using hf
  choose b hb using hg
  have e : ∑ i, f i * g i = ((∑ i, a i * b i : ℝ) : EReal) := by
    rw [Cert.Softmax.coe_sum]
    exact Finset.sum_congr rfl fun i _ => by rw [ha, hb, EReal.coe_mul]
  rw [e, ← EReal.coe_neg, ← Finset.sum_neg_distrib, Cert.Softmax.coe_sum]
  exact Finset.sum_congr rfl fun i _ => by rw [ha, hb, ← EReal.coe_neg, ← EReal.coe_mul, mul_neg]

theorem small_pos : ∃ e : ℝ, 0 < e ∧ Ideal.ofBits FTy.f32 0x358637BD#32 = (e : EReal) := by
  refine ⟨8796093 * (2 : ℝ) ^ (-43 : ℤ), by positivity, ?_⟩
  simp [Ideal.ofBits, Ideal.ieee]

theorem width_2048 : ∃ e : ℝ, 0 < e ∧ Ideal.ofBits FTy.f32 0x45000000#32 = (e : EReal) := by
  refine ⟨2048, by norm_num, ?_⟩
  simp [Ideal.ofBits, Ideal.ieee]
  rw [← EReal.coe_mul]
  norm_num

theorem width_512 : ∃ e : ℝ, 0 < e ∧ Ideal.ofBits FTy.f32 0x44000000#32 = (e : EReal) := by
  refine ⟨512, by norm_num, ?_⟩
  simp [Ideal.ofBits, Ideal.ieee]
  rw [← EReal.coe_mul]
  norm_num

/-- One over the root of a mean square is real. -/
theorem inv_fin {k : ℕ} {n : BitVec 32} (hn : ∃ e : ℝ, 0 < e ∧ Ideal.ofBits FTy.f32 n = (e : EReal)) {f : Fin k → EReal} (hf : ∀ i, Fin' (f i)) :
    Fin' (inv n (∑ i, f i * f i)) := by
  choose a ha using hf
  obtain ⟨e, he, hne⟩ := hn
  obtain ⟨s, hs, hse⟩ := small_pos
  have q : ∑ i, f i * f i = ((∑ i, a i * a i : ℝ) : EReal) := by
    rw [Cert.Softmax.coe_sum]
    exact Finset.sum_congr rfl fun i _ => by rw [ha, EReal.coe_mul]
  have p : 0 ≤ ∑ i, a i * a i := Finset.sum_nonneg fun i _ => mul_self_nonneg _
  have p' : 0 < (∑ i, a i * a i) * (1 / e) + s := add_pos_of_nonneg_of_pos (mul_nonneg p (by positivity)) hs
  unfold inv
  rw [hne, hse, q, Ideal.div_coe he.ne', ← EReal.coe_mul, ← EReal.coe_add, Ideal.rsqrt_coe, if_neg (not_lt.mpr p'.le), if_neg p'.ne']
  exact ⟨_, rfl⟩

/-- The arguments the rotated lanes depend on are finite numbers. -/
structure Finite (A : Args) : Prop where
  x : ∀ i, Fin' (A.x i)
  sh : ∀ i, Fin' (A.sh i)
  sc : ∀ i, Fin' (A.sc i)
  g1 : ∀ i, Fin' (A.g1 i)
  win : ∀ i, Fin' (A.win i)
  gq : ∀ i, Fin' (A.gq i)
  wq : ∀ i, Fin' (A.wq i)

section

variable {A : Args} (hA : Finite A)

include hA

theorem row_fin (b : Fin 4) (s : Fin 8192) (d : Fin 2048) : Fin' (A.row b s d) := by
  unfold Args.row
  exact ((((hA.x _).mul (inv_fin width_2048 fun e => hA.x _)).mul (hA.g1 _)).mul (one_fin.add (hA.sc _))).add (hA.sh _)

theorem proj_fin (b : Fin 4) (s : Fin 8192) (f : Fin 2368) : Fin' (A.proj b s f) :=
  Fin'.sum fun d => (row_fin hA b s d).mul (hA.win _)

theorem cq_fin (b : Fin 4) (s : Fin 8192) (r : Fin 512) : Fin' (A.cq b s r) := by
  unfold Args.cq
  exact ((proj_fin hA b s _).mul (inv_fin width_512 fun e => proj_fin hA b s _)).mul (hA.gq _)

/-- The first half's columns, negated, give the negated projection. -/
theorem kcol_neg (b : Fin 4) (s : Fin 8192) (f : Fin 2560) (g : Fin 2368) (hf : 896 ≤ f.val) (hf' : f.val < 928) (hg : g.val + 96 = f.val) :
    A.kcol b s f = -A.proj b s g := by
  rw [A.kcol_negated b s f g hf hf' hg]
  exact sum_mul_neg (fun d => row_fin hA b s d) fun d => hA.win _

theorem kquery_neg (b : Fin 4) (s : Fin 8192) (f : Fin 3072) (g : Fin 1536) (hf : 2048 ≤ f.val) (hl : f.val % 128 < 32)
    (hg : g.val = 192 * ((f.val - 2048) / 128) + 160 + f.val % 128) : A.kquery f b s = -A.query b s g := by
  rw [A.kquery_sin_negated b s f g hf hl hg]
  exact sum_mul_neg (fun d => cq_fin hA b s d) fun d => hA.wq _

/-- The kernel's rotated part of the keys is the reference's. -/
theorem kkr_at (b : Fin 4) (s : Fin 8192) (l : Fin 128) : A.kkrAt b s l = rotAt (A.klane b s) s l := by
  have hl := l.isLt
  unfold Args.kkrAt rotAt Args.klane
  rw [tableV_apply, tableV_apply]
  by_cases h : l.val < 32
  · rw [dif_pos h, dif_pos h, dif_pos h,
      A.kcol_low b s ⟨l.val + 768, by omega⟩ ⟨768 + l.val, by omega⟩ (by show l.val + 768 < 832; omega) (by show 768 + l.val = l.val + 768; omega),
      kcol_neg hA b s ⟨l.val + 896, by omega⟩ ⟨768 + (32 + l.val), by omega⟩ (by show 896 ≤ l.val + 896; omega) (by show l.val + 896 < 928; omega)
        (by show 768 + (32 + l.val) + 96 = l.val + 896; omega), EReal.neg_mul, sub_eq_add_neg]
  · rw [dif_neg h, dif_neg h, dif_neg h]
    by_cases h' : l.val - 32 < 32
    · rw [dif_pos h', dif_pos h', dif_pos h',
        A.kcol_low b s ⟨l.val + 768, by omega⟩ ⟨768 + (32 + (l.val - 32)), by omega⟩ (by show l.val + 768 < 832; omega)
          (by show 768 + (32 + (l.val - 32)) = l.val + 768; omega),
        A.kcol_moved b s ⟨l.val + 896, by omega⟩ ⟨768 + (l.val - 32), by omega⟩ (by show 928 ≤ l.val + 896; omega) (by show l.val + 896 < 960; omega)
          (by show 768 + (l.val - 32) + 160 = l.val + 896; omega), add_comm]
    · rw [dif_neg h', dif_neg h', dif_neg h', mul_zero, mul_zero, add_zero]

/-- The kernel's queries are the reference's. -/
theorem kqt_at (b : Fin 4) (f : Fin 2048) (s : Fin 8192) : A.kqtAt b f s = A.qtAt b f s := by
  have hf := f.isLt
  unfold Args.kqtAt Args.qtAt
  by_cases hp : f.val % 256 < 128
  · rw [dif_pos hp, dif_pos hp]
    refine congrArg (· * qscale) (A.kquery_plain b s _ _ (by show 128 * (f.val / 256) + f.val % 256 < 1024; omega) ?_)
    show f.val / 256 * 192 + f.val % 256 = 192 * ((128 * (f.val / 256) + f.val % 256) / 128) + (128 * (f.val / 256) + f.val % 256) % 128
    omega
  · rw [dif_neg hp, dif_neg hp]
    refine congrArg (· * qscale) ?_
    obtain ⟨h, l, hh, hl, ef⟩ : ∃ h l : ℕ, h < 8 ∧ l < 128 ∧ f.val = 256 * h + 128 + l := ⟨f.val / 256, f.val % 256 - 128, by omega, by omega, by omega⟩
    have e1 : (⟨1024 + 128 * (f.val / 256) + (f.val % 256 - 128), by omega⟩ : Fin 3072) = ⟨1024 + 128 * h + l, by omega⟩ := Fin.ext (by
      show 1024 + 128 * (f.val / 256) + (f.val % 256 - 128) = 1024 + 128 * h + l; omega)
    have e2 : (⟨2048 + 128 * (f.val / 256) + (f.val % 256 - 128), by omega⟩ : Fin 3072) = ⟨2048 + 128 * h + l, by omega⟩ := Fin.ext (by
      show 2048 + 128 * (f.val / 256) + (f.val % 256 - 128) = 2048 + 128 * h + l; omega)
    have e3 : (⟨f.val % 256 - 128, by omega⟩ : Fin 128) = ⟨l, hl⟩ := Fin.ext (by show f.val % 256 - 128 = l; omega)
    have e4 : (⟨f.val / 256, by omega⟩ : Fin 8) = ⟨h, hh⟩ := Fin.ext (by show f.val / 256 = h; omega)
    rw [e1, e2, e3, e4]
    unfold rotAt Args.qlane
    rw [tableV_apply, tableV_apply]
    dsimp only
    by_cases h1 : l < 32
    · rw [dif_pos h1, dif_pos h1, dif_pos h1,
        A.kquery_cos b s ⟨1024 + 128 * h + l, by omega⟩ ⟨h * 192 + (128 + l), by omega⟩ (by show 1024 ≤ 1024 + 128 * h + l; omega)
          (by show 1024 + 128 * h + l < 2048; omega) (by show (1024 + 128 * h + l) % 128 < 64; omega)
          (by show h * 192 + (128 + l) = 192 * ((1024 + 128 * h + l - 1024) / 128) + 128 + (1024 + 128 * h + l) % 128; omega),
        kquery_neg hA b s ⟨2048 + 128 * h + l, by omega⟩ ⟨h * 192 + (128 + (32 + l)), by omega⟩ (by show 2048 ≤ 2048 + 128 * h + l; omega)
          (by show (2048 + 128 * h + l) % 128 < 32; omega)
          (by show h * 192 + (128 + (32 + l)) = 192 * ((2048 + 128 * h + l - 2048) / 128) + 160 + (2048 + 128 * h + l) % 128; omega),
        EReal.neg_mul, sub_eq_add_neg]
    · rw [dif_neg h1, dif_neg h1, dif_neg h1]
      by_cases h2 : l - 32 < 32
      · rw [dif_pos h2, dif_pos h2, dif_pos h2,
          A.kquery_cos b s ⟨1024 + 128 * h + l, by omega⟩ ⟨h * 192 + (128 + (32 + (l - 32))), by omega⟩ (by show 1024 ≤ 1024 + 128 * h + l; omega)
            (by show 1024 + 128 * h + l < 2048; omega) (by show (1024 + 128 * h + l) % 128 < 64; omega)
            (by show h * 192 + (128 + (32 + (l - 32))) = 192 * ((1024 + 128 * h + l - 1024) / 128) + 128 + (1024 + 128 * h + l) % 128; omega),
          A.kquery_sin_moved b s ⟨2048 + 128 * h + l, by omega⟩ ⟨h * 192 + (128 + (l - 32)), by omega⟩ (by show 2048 ≤ 2048 + 128 * h + l; omega)
            (by show 32 ≤ (2048 + 128 * h + l) % 128; omega) (by show (2048 + 128 * h + l) % 128 < 64; omega)
            (by show h * 192 + (128 + (l - 32)) + 32 = 192 * ((2048 + 128 * h + l - 2048) / 128) + 128 + (2048 + 128 * h + l) % 128; omega), add_comm]
      · rw [dif_neg h2, dif_neg h2, dif_neg h2, mul_zero, mul_zero, add_zero]

theorem kkr_eq : A.kkr = A.kr := funext fun y => kkr_at hA (y 0) (y 1) (y 2)

theorem kqt_eq : A.kqt = A.qt := funext fun y => kqt_at hA (y 0) (y 1) (y 2)

end

/-- The precondition says of those arguments that they are finite numbers. -/
theorem finite_of_pre (m : (ℓ : Loc nD τ sig) → Buf (Elt Ideal) ℓ) (hm : Cert.Pre_Kernel2Ideal_finite_tokens m) (c : Dev nD) :
    Finite (argsOf m c) where
  x i := real_of_abs_lt _ (by rw [← bits_inf]; exact congrFun (hm c).1 i)
  sh i := real_of_abs_lt _ (by rw [← bits_inf]; exact congrFun (hm c).2.1 i)
  sc i := real_of_abs_lt _ (by rw [← bits_inf]; exact congrFun (hm c).2.2.1 i)
  g1 i := real_of_abs_lt _ (by rw [← bits_inf]; exact congrFun (hm c).2.2.2.1 i)
  win i := real_of_abs_lt _ (by rw [← bits_inf]; exact congrFun (hm c).2.2.2.2.1 i)
  gq i := real_of_abs_lt _ (by rw [← bits_inf]; exact congrFun (hm c).2.2.2.2.2.1 i)
  wq i := real_of_abs_lt _ (by rw [← bits_inf]; exact congrFun (hm c).2.2.2.2.2.2 i)

end Cert.Kernel2Ideal.Pre

end
-- ==== Proof.Pre.Reference.lean ====
/- What the reference's projections compute, on the extended reals, as functions of the arguments. -/
module

public import proofs.«01_k».proof.Proof.Pre.Model
public import proofs.«01_k».proof.Proof.Gen.Reference2Ideal.Read
public import Idealize.ShloMosaic.Lib.KernelVsHost

@[expose] public section

set_option maxRecDepth 16384

noncomputable section

namespace Cert.Reference2Ideal.Pre

open Cert.Reference2Ideal Cert.Reference2Ideal.Gen Cert.Reference2Ideal.Read Idealize.ShloMosaic Idealize.ShloMosaic.TcCoe
open Cert.Kernel2Ideal.Pre (Args inv qscale rotAt cosV sinV)

variable (A : Args)

theorem row_apply (b : Fin 4) (s : Fin 8192) (d : Fin 2048) :
    val_main_v18 (F := Ideal) A.x A.sh A.sc A.g1 (ValueIdx.ix3 b s d) = A.row b s d := by
  unfold val_main_v18 val_main_v17 val_main_v16 val_main_v15 val_main_v14 val_main_v13 val_main_v12 val_main_v11 val_main_v10 val_main_v9
    val_main_v8 val_main_v7 val_main_v6 val_main_v5 val_main_v4 val_main_v3 val_main_v2 val_main_v1 val_main_v0 val_main_cst val_main_cst_0
    val_main_cst_1 val_main_cst_2
  pointwise
  rfl

theorem proj_apply (b : Fin 4) (s : Fin 8192) (f : Fin 2368) :
    val_main_v19 (F := Ideal) A.x A.sh A.sc A.g1 A.win (ValueIdx.ix3 b s f) = A.proj b s f := by
  have e := fun d => row_apply A b s d
  unfold val_main_v19
  generalize val_main_v18 (F := Ideal) A.x A.sh A.sc A.g1 = y at e ⊢
  pointwise
  exact Finset.sum_congr rfl fun d _ => congrArg (· * _) (e d)

theorem cq_apply (b : Fin 4) (s : Fin 8192) (r : Fin 512) :
    val_main_v38 (F := Ideal) A.x A.sh A.sc A.g1 A.win A.gq (ValueIdx.ix3 b s r) = A.cq b s r := by
  have e : ∀ f, _ = _ := fun f => proj_apply A b s f
  unfold val_main_v38 val_main_v37 val_main_v36 val_main_v35 val_main_v34 val_main_v33 val_main_v32 val_main_v31 val_main_v30 val_main_v29 val_main_v28 val_main_v27 val_main_v26 val_main_v20 val_main_cst_3 val_main_cst_4 val_main_cst_5
  generalize val_main_v19 (F := Ideal) A.x A.sh A.sc A.g1 A.win = y at e ⊢
  pointwise
  unfold Args.cq
  simp only [← e]
  rfl

theorem query_apply (b : Fin 4) (s : Fin 8192) (f : Fin 1536) :
    val_main_v39 (F := Ideal) A.x A.sh A.sc A.g1 A.win A.gq A.wq (ValueIdx.ix3 b s f) = A.query b s f := by
  have e := fun d => cq_apply A b s d
  unfold val_main_v39
  generalize val_main_v38 (F := Ideal) A.x A.sh A.sc A.g1 A.win A.gq = y at e ⊢
  pointwise
  exact Finset.sum_congr rfl fun d _ => congrArg (· * _) (e d)

theorem ckv_apply (b : Fin 4) (s : Fin 8192) (r : Fin 256) :
    val_main_v53 (F := Ideal) A.x A.sh A.sc A.g1 A.win A.gk (ValueIdx.ix3 b s r) = A.ckv b s r := by
  have e : ∀ f, _ = _ := fun f => proj_apply A b s f
  unfold val_main_v53 val_main_v52 val_main_v51 val_main_v50 val_main_v49 val_main_v48 val_main_v47 val_main_v46 val_main_v45 val_main_v44 val_main_v43 val_main_v42 val_main_v41 val_main_v21 val_main_cst_6 val_main_cst_7 val_main_cst_8
  generalize val_main_v19 (F := Ideal) A.x A.sh A.sc A.g1 A.win = y at e ⊢
  pointwise
  unfold Args.ckv
  simp only [← e]
  rfl

theorem kv_apply (b : Fin 4) (s : Fin 8192) (f : Fin 2048) :
    val_main_v54 (F := Ideal) A.x A.sh A.sc A.g1 A.win A.gk A.wk (ValueIdx.ix3 b s f) = A.kv b s f := by
  have e := fun d => ckv_apply A b s d
  unfold val_main_v54
  generalize val_main_v53 (F := Ideal) A.x A.sh A.sc A.g1 A.win A.gk = y at e ⊢
  pointwise
  exact Finset.sum_congr rfl fun d _ => congrArg (· * _) (e d)

theorem cos_eq : (val_main_v70 (F := Ideal)) = cosV := rfl

theorem sin_eq : (val_main_v72 (F := Ideal)) = sinV := rfl

theorem cos_eq' : (val_main_v102 (F := Ideal)) = cosV := rfl

theorem sin_eq' : (val_main_v104 (F := Ideal)) = sinV := rfl

theorem qrot_apply (b : Fin 4) (s : Fin 8192) (h : Fin 8) (l : Fin 128) :
    val_main_v87 (F := Ideal) A.x A.sh A.sc A.g1 A.win A.gq A.wq (ValueIdx.ix4 b s h l) = rotAt (A.qlane b s h) s l := by
  have e : ∀ f, _ = _ := fun f => query_apply A b s f
  unfold val_main_v87 val_main_v86 val_main_v85 val_main_v84 val_main_v83 val_main_v82 val_main_v81 val_main_v80 val_main_v79 val_main_v78 val_main_v77 val_main_v76 val_main_v75 val_main_v74 val_main_v73 val_main_v71 val_main_v56 val_main_v40 val_main_cst_11
  rw [cos_eq, sin_eq]
  unfold rotAt Args.qlane
  generalize cosV = C
  generalize sinV = S
  generalize val_main_v39 (F := Ideal) A.x A.sh A.sc A.g1 A.win A.gq A.wq = y at e ⊢
  pointwise
  simp only [← e]
  rfl

theorem krot_apply (b : Fin 4) (s : Fin 8192) (l : Fin 128) :
    val_main_v120 (F := Ideal) A.x A.sh A.sc A.g1 A.win (ValueIdx.ix3 b s l) = rotAt (A.klane b s) s l := by
  have e : ∀ f, _ = _ := fun f => proj_apply A b s f
  unfold val_main_v120 val_main_v119 val_main_v118 val_main_v117 val_main_v116 val_main_v115 val_main_v114 val_main_v113 val_main_v112 val_main_v111 val_main_v110 val_main_v109 val_main_v108 val_main_v107 val_main_v106 val_main_v105 val_main_v103 val_main_v88 val_main_v22 val_main_cst_14
  rw [cos_eq', sin_eq']
  unfold rotAt Args.klane
  generalize cosV = C
  generalize sinV = S
  generalize val_main_v19 (F := Ideal) A.x A.sh A.sc A.g1 A.win = y at e ⊢
  pointwise
  simp only [← e]
  rfl

theorem qt_apply (b : Fin 4) (f : Fin 2048) (s : Fin 8192) :
    val_main_v126 (F := Ideal) A.x A.sh A.sc A.g1 A.win A.gq A.wq (ValueIdx.ix3 b f s) = A.qtAt b f s := by
  have e : ∀ f, _ = _ := fun f => query_apply A b s f
  have e' : ∀ h l, _ = _ := fun h l => qrot_apply A b s h l
  unfold val_main_v126 val_main_v125 val_main_v124 val_main_v123 val_main_v122 val_main_v121 val_main_v40 val_main_cst_15
  unfold Args.qtAt
  generalize val_main_v39 (F := Ideal) A.x A.sh A.sc A.g1 A.win A.gq A.wq = y at e ⊢
  generalize val_main_v87 (F := Ideal) A.x A.sh A.sc A.g1 A.win A.gq A.wq = z at e' ⊢
  pointwise
  simp only [← e, ← e']
  rfl

theorem qt_eq : val_main_v133 (F := Ideal) A.x A.sh A.sc A.g1 A.win A.gq A.wq = A.qt := by
  funext y
  exact (congrArg (val_main_v126 (F := Ideal) A.x A.sh A.sc A.g1 A.win A.gq A.wq) (ValueIdx.eq_ix3 y)).trans (qt_apply A (y 0) (y 1) (y 2))

theorem kr_eq : val_main_v135 (F := Ideal) A.x A.sh A.sc A.g1 A.win = A.kr := by
  funext y
  exact (congrArg (val_main_v120 (F := Ideal) A.x A.sh A.sc A.g1 A.win) (ValueIdx.eq_ix3 y)).trans (krot_apply A (y 0) (y 1) (y 2))

theorem kn_apply (b : Fin 4) (h : Fin 8) (s : Fin 8192) (d : Fin 128) :
    val_main_v128 (F := Ideal) A.x A.sh A.sc A.g1 A.win A.gk A.wk (ValueIdx.ix4 b h s d) = A.kv b s ⟨h.val * 256 + d.val, by omega⟩ := by
  have e : ∀ f, _ = _ := fun f => kv_apply A b s f
  unfold val_main_v128 val_main_v127 val_main_v55
  generalize val_main_v54 (F := Ideal) A.x A.sh A.sc A.g1 A.win A.gk A.wk = y at e ⊢
  pointwise
  rw [← e]
  rfl

theorem vt_apply (b : Fin 4) (h : Fin 8) (d : Fin 128) (s : Fin 8192) :
    val_main_v130 (F := Ideal) A.x A.sh A.sc A.g1 A.win A.gk A.wk (ValueIdx.ix4 b h d s) = A.kv b s ⟨h.val * 256 + (128 + d.val), by omega⟩ := by
  have e : ∀ f, _ = _ := fun f => kv_apply A b s f
  unfold val_main_v130 val_main_v129 val_main_v55
  generalize val_main_v54 (F := Ideal) A.x A.sh A.sc A.g1 A.win A.gk A.wk = y at e ⊢
  pointwise
  rw [← e]
  rfl

theorem kn_eq : val_main_v134 (F := Ideal) A.x A.sh A.sc A.g1 A.win A.gk A.wk = A.kn := by
  funext y
  exact (congrArg (val_main_v128 (F := Ideal) A.x A.sh A.sc A.g1 A.win A.gk A.wk) (ValueIdx.eq_ix4 y)).trans (kn_apply A (y 0) (y 1) (y 2) (y 3))

theorem vt_eq : val_main_v136 (F := Ideal) A.x A.sh A.sc A.g1 A.win A.gk A.wk = A.vt := by
  funext y
  exact (congrArg (val_main_v130 (F := Ideal) A.x A.sh A.sc A.g1 A.win A.gk A.wk) (ValueIdx.eq_ix4 y)).trans (vt_apply A (y 0) (y 1) (y 2) (y 3))

theorem qb_apply (b : Fin 4) (s : Fin 8192) (f : Fin 1024) :
    val_main_v132 (F := Ideal) A.x A.sh A.sc A.g1 A.win (ValueIdx.ix3 b s f) = A.proj b s ⟨832 + f.val, by omega⟩ * Ideal.ofBits .f32 0x3DB504F3#32 := by
  rw [← proj_apply]
  unfold val_main_v132 val_main_v131 val_main_v23 val_main_cst_16
  generalize val_main_v19 (F := Ideal) A.x A.sh A.sc A.g1 A.win = y
  pointwise
  rfl

theorem kb_apply (b : Fin 4) (s : Fin 8192) (f : Fin 256) :
    val_main_v24 (F := Ideal) A.x A.sh A.sc A.g1 A.win (ValueIdx.ix3 b s f) = A.proj b s ⟨1856 + f.val, by omega⟩ := by
  rw [← proj_apply]
  unfold val_main_v24
  generalize val_main_v19 (F := Ideal) A.x A.sh A.sc A.g1 A.win = y
  pointwise
  rfl

theorem vb_apply (b : Fin 4) (s : Fin 8192) (f : Fin 256) :
    val_main_v25 (F := Ideal) A.x A.sh A.sc A.g1 A.win (ValueIdx.ix3 b s f) = A.proj b s ⟨2112 + f.val, by omega⟩ := by
  rw [← proj_apply]
  unfold val_main_v25
  generalize val_main_v19 (F := Ideal) A.x A.sh A.sc A.g1 A.win = y
  pointwise
  rfl

theorem qb_eq : val_main_v137 (F := Ideal) A.x A.sh A.sc A.g1 A.win = A.qb := by
  funext y
  exact (congrArg (val_main_v132 (F := Ideal) A.x A.sh A.sc A.g1 A.win) (ValueIdx.eq_ix3 y)).trans (qb_apply A (y 0) (y 1) (y 2))

theorem kb_eq : val_main_v138 (F := Ideal) A.x A.sh A.sc A.g1 A.win = A.kb := by
  funext y
  exact (congrArg (val_main_v24 (F := Ideal) A.x A.sh A.sc A.g1 A.win) (ValueIdx.eq_ix3 y)).trans (kb_apply A (y 0) (y 1) (y 2))

theorem vb_eq : val_main_v139 (F := Ideal) A.x A.sh A.sc A.g1 A.win = A.vb := by
  funext y
  exact (congrArg (val_main_v25 (F := Ideal) A.x A.sh A.sc A.g1 A.win) (ValueIdx.eq_ix3 y)).trans (vb_apply A (y 0) (y 1) (y 2))

end Cert.Reference2Ideal.Pre

end
-- ==== Proof.Moe.Launch.lean ====
/- The launch of the experts' kernel from ANY tables in range: each block's expert is one of the 32 and at least one
   block is in use. The blocks' offsets are read from the tables at run time, so the pipeline, what each point leaves in its
   output block and the run are stated over the tables as a variable (`Tab`). The body's run on each of its two paths is the
   generated one; this module puts the paths, the schedule and the launch together. -/
module

public import proofs.«01_k».proof.Proof.Gen.Kernel3Ideal.Flash.Runs
public import proofs.«01_k».proof.Proof.Gen.Kernel3Ideal.Launch

@[expose] public section

set_option maxRecDepth 16384
set_option Elab.async false

noncomputable section

namespace Cert.Kernel3Ideal.Moe

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! ## The tables -/

/-- The two prefetched tables, in range: block `j` is for expert `e j`, and the first `u` blocks are in use. -/
structure Tab where
  /-- Each block's expert. -/
  e : S288.Idx → BitVec 32
  /-- How many blocks are in use. -/
  u : S1.Idx → BitVec 32
  /-- Every expert is one of the 32. -/
  he : ∀ x, (e x).toNat < 32
  /-- At least one block is in use. -/
  hpos : ∀ x, 0 < (u x).toNat
  /-- The number is not negative as a signed word. -/
  hle : ∀ x, (u x).toNat < 2 ^ 31

variable (T : Tab)

/-- The tables as the region reads them. -/
def Tab.contents : pre0.Contents (Elt Ideal) := fun | ⟨0, _⟩ => T.e | ⟨1, _⟩ => T.u | ⟨_ + 2, h⟩ => absurd h (by simp)

/-- The only index of the second table. -/
abbrev one0 : S1.Idx := fun a => ⟨0, by fin_cases a; decide⟩

theorem S1_idx_eq (x y : S1.Idx) : x = y := by
  funext a; fin_cases a
  have hx : (x 0).val < 1 := (x 0).isLt
  have hy : (y 0).val < 1 := (y 0).isLt
  exact Fin.ext (show (x 0).val = (y 0).val by omega)

/-- The first window's block index: the point's own block, or the last one in use. -/
theorem first_lt (i : grid0.Coords) (w : BitVec 32) (h0 : 0 < w.toNat) (h1 : w.toNat < 2 ^ 31) :
    (Scalar.minsi (BitVec.ofNat 32 (i 0).val) (Scalar.subi w 1#32)).toNat < 288 := by
  have hi : (i 0).val < 288 := (i 0).isLt
  have hs : (Scalar.subi w 1#32).toNat = w.toNat - 1 := by
    unfold Scalar.subi IntOp.subi; simp only [BitVec.toNat_sub, BitVec.toNat_ofNat]; omega
  have hb : (BitVec.ofNat 32 (i 0).val).toNat = (i 0).val := by
    simp only [BitVec.toNat_ofNat]; omega
  unfold Scalar.minsi IntOp.minsi
  split
  · omega
  · rename_i hn
    have hge := mt BitVec.slt_iff_toInt_lt.2 hn
    rw [BitVec.toInt_eq_toNat_of_lt (by omega), BitVec.toInt_eq_toNat_of_lt (by omega)] at hge
    omega

/-- The word of the first table that a point reads. -/
abbrev expertAt (i : grid0.Coords) : S288.Idx :=
  (Rect.unit (s := S288) ![(Scalar.indexCast (BitVec.ofNat 32 (i 0).val)).toNat] S1.size (k0_off1_inb i)).emb
    (Shape.Idx.first (numel1_S1.symm ▸ Nat.one_pos))

/-- An expert's block of a weight array lies inside it. -/
theorem expert_inb (n p q : ℕ) (hn : n < 32) : ∀ a : Fin 3, ((![n, 0, 0] : Fin 3 → ℕ) a + 1) * (![1, p, q] : Fin 3 → ℕ) a ≤ (![32, p, q] : Fin 3 → ℕ) a := by
  intro a; fin_cases a
  · show (n + 1) * 1 ≤ 32; omega
  · show (0 + 1) * p ≤ p; omega
  · show (0 + 1) * q ≤ q; omega

theorem inb_0 (i : grid0.Coords) : ∀ a, (cc0_transform_0 inb_S1_S1_0 numel1_S1 T.contents i a + 1) * S256x1024.size a ≤ S73728x1024.size a := by
  intro a; fin_cases a
  · have := first_lt i (T.u ((Rect.unit (s := S1) ![0] S1.size inb_S1_S1_0).emb (Shape.Idx.first (numel1_S1.symm ▸ Nat.one_pos)))) (T.hpos _) (T.hle _)
    show ((Scalar.minsi (BitVec.ofNat 32 (i 0).val) (Scalar.subi _ 1#32)).toNat + 1) * 256 ≤ 73728
    exact (Nat.mul_le_mul_right 256 this).trans (by decide)
  · show (0 + 1) * 1024 ≤ 1024; decide
theorem inb_1 (i : grid0.Coords) : ∀ a, (cc0_transform_1 k0_off1_inb numel1_S1 T.contents i a + 1) * S1x2048x512.size a ≤ S32x2048x512.size a :=
  expert_inb (T.e (expertAt i)).toNat 2048 512 (T.he _)
theorem inb_3 (i : grid0.Coords) : ∀ a, (cc0_transform_3 k0_off1_inb numel1_S1 T.contents i a + 1) * S1x512x2048.size a ≤ S32x512x2048.size a :=
  expert_inb (T.e (expertAt i)).toNat 512 2048 (T.he _)

/-- Every window's blocks lie inside its array. -/
theorem ok_contents : ok0 (F := Ideal) T.contents :=
  ⟨fun i => ⟨inb_0 T i, .inl rfl⟩,
    fun i => ⟨inb_1 T i, .inr (Affine.block_words_dvd (s := S32x2048x512) (p := EltTy.packing .bf16) (by decide) (by decide))⟩,
    fun i => ⟨inb_1 T i, .inr (Affine.block_words_dvd (s := S32x2048x512) (p := EltTy.packing .bf16) (by decide) (by decide))⟩,
    fun i => ⟨inb_3 T i, .inr (Affine.block_words_dvd (s := S32x512x2048) (p := EltTy.packing .bf16) (by decide) (by decide))⟩⟩

/-- The tables as contents that the region admits, and the pipeline that runs at them. -/
def Tab.adm : (pcfg0 (F := Ideal)).Adm := ⟨T.contents, ok_contents T⟩
abbrev cfgT : Pipeline.Cfg sig Λ₀ := cfg0 (F := Ideal) T.adm
abbrev pcsT : Fin 1 → Pipeline.Cfg sig Λ₀ := Pipeline.pin (pcfgs (F := Ideal)) fun _ => T.adm

variable (m : (ℓ : Loc nD τ sig) → Buf (Elt Ideal) ℓ) (ρ : Dev nD → PrngReg)

/-! ## A point: its coordinates, staging buffers and input blocks -/

abbrev crdT (t : Fin (cfgT T).N) : (cfgT T).grid.Coords := (cfgT T).grid.coords t

abbrev b0 (t : Fin (cfgT T).N) : Memref sig .tc .vmem S256x1024 .i32 := spec0_0.stage ((cfgT T).slots t (0 : Fin 5))
abbrev w0 (t : Fin (cfgT T).N) : (b0 T t).IsWhole := hstage0_0 (((cfgT T).slots t (0 : Fin 5)).cast nbuf0_0)
abbrev b1 (t : Fin (cfgT T).N) : Memref sig .tc .vmem S1x2048x512 .bf16 := spec0_1.stage ((cfgT T).slots t (1 : Fin 5))
abbrev w1 (t : Fin (cfgT T).N) : (b1 T t).IsWhole := hstage0_1 (((cfgT T).slots t (1 : Fin 5)).cast nbuf0_1)
abbrev b2 (t : Fin (cfgT T).N) : Memref sig .tc .vmem S1x2048x512 .bf16 := spec0_2.stage ((cfgT T).slots t (2 : Fin 5))
abbrev w2 (t : Fin (cfgT T).N) : (b2 T t).IsWhole := hstage0_2 (((cfgT T).slots t (2 : Fin 5)).cast nbuf0_2)
abbrev b3 (t : Fin (cfgT T).N) : Memref sig .tc .vmem S1x512x2048 .bf16 := spec0_3.stage ((cfgT T).slots t (3 : Fin 5))
abbrev w3 (t : Fin (cfgT T).N) : (b3 T t).IsWhole := hstage0_3 (((cfgT T).slots t (3 : Fin 5)).cast nbuf0_3)
abbrev b4 (t : Fin (cfgT T).N) : Memref sig .tc .vmem S256x2048 .f32 := spec0_4.stage ((cfgT T).slots t (4 : Fin 5))
abbrev w4 (t : Fin (cfgT T).N) : (b4 T t).IsWhole := hstage0_4 (((cfgT T).slots t (4 : Fin 5)).cast nbuf0_4)

/-- Window `w`'s block at point `t`, read off its array at launch. -/
def inBlk (c : Dev nD) (w : Fin (cfgT T).W) (t : Fin (cfgT T).N) : (((cfgT T).win w).xblock (crdT T t)).Idx → Elt Ideal ((cfgT T).win w).elt :=
  (((cfgT T).win w).blk t).view.read (Elt Ideal) (m (((cfgT T).win w).arr.view.loc (c : Thread nD τ)))

/-! ## The two paths -/

/-- The number of blocks in use, as the body's load of the second table reads it. -/
abbrev usedWord : BitVec 32 :=
  View.readAt (Elt Ideal) (tbM0_1).view (Rect.unit (s := S1) ![0] S1.size inb_S1_S1_0).toLoadRect T.u (Shape.Idx.first (numel1_S1.symm ▸ Nat.one_pos))

theorem usedWord_eq : usedWord T = T.u one0 := congrArg T.u (S1_idx_eq _ _)

/-- The kernel's first condition: the point's block is in use. -/
theorem cond1_iff (i : grid0.Coords) (w : BitVec 32) : k0_cond1 i w = 1#1 ↔ (BitVec.ofNat 32 (i 0).val).slt w = true := by
  unfold k0_cond1 Scalar.cmpi Scalar.extui IntOp.cmpi
  cases h : (BitVec.ofNat 32 (i 0).val).slt w <;> simp [h]

/-- The second is its negation. -/
theorem cond2_iff (i : grid0.Coords) (w : BitVec 32) : k0_cond2 i w = 1#1 ↔ ¬ k0_cond1 i w = 1#1 := by
  rw [cond1_iff]
  unfold k0_cond2 Scalar.cmpi Scalar.extui IntOp.cmpi
  cases h : (BitVec.ofNat 32 (i 0).val).slt w <;> simp [h, BitVec.sle_eq_not_slt]

/-- The output is stored at every point. -/
theorem stored (t : Fin (cfgT T).N) : (cfgT T).idle (4 : Fin 5) ((cfgT T).grid.coords t) = false := by
  show (!(k0_cond1 (crdT T t) (T.contents.atD 1 ![0]) == 1#1) && !(k0_cond2 (crdT T t) (T.contents.atD 1 ![0]) == 1#1)) = false
  by_cases h : k0_cond1 (crdT T t) (T.contents.atD 1 ![0]) = 1#1
  · simp only [h, beq_self_eq_true, Bool.not_true, Bool.false_and]
  · simp only [(cond2_iff _ _).2 h, beq_self_eq_true, Bool.not_true, Bool.and_false]

/-- The point's block is in use. -/
abbrev InUse (t : Fin (cfgT T).N) : Prop := k0_cond1 (crdT T t) (usedWord T) = 1#1

theorem not_second {t : Fin (cfgT T).N} (h : InUse T t) : ¬ k0_cond2 (crdT T t) (usedWord T) = 1#1 := fun h2 => (cond2_iff _ _).1 h2 h
theorem second {t : Fin (cfgT T).N} (h : ¬ InUse T t) : k0_cond2 (crdT T t) (usedWord T) = 1#1 := (cond2_iff _ _).2 h

/-- What the body leaves in the output's block at point `t`: what the path taken there stores. -/
def outBlk (c : Dev nD) (t : Fin (cfgT T).N) : S256x2048.Idx → Elt Ideal .f32 :=
  if h : InUse T t then
    out0_A_4 c (crdT T t) (b0 T t) (w0 T t) (b1 T t) (w1 T t) (b2 T t) (w2 T t) (b3 T t) (w3 T t) (b4 T t) (w4 T t) T.e T.u
      (inBlk T m c (0 : Fin 5) t) (inBlk T m c (1 : Fin 5) t) (inBlk T m c (2 : Fin 5) t) (inBlk T m c (3 : Fin 5) t) h (not_second T h)
  else
    out0_B_4 c (crdT T t) (b0 T t) (w0 T t) (b1 T t) (w1 T t) (b2 T t) (w2 T t) (b3 T t) (w3 T t) (b4 T t) (w4 T t) T.e T.u
      (inBlk T m c (0 : Fin 5) t) (inBlk T m c (1 : Fin 5) t) (inBlk T m c (2 : Fin 5) t) (inBlk T m c (3 : Fin 5) t) h (second T h)

/-! ## The pipeline's proof data -/

/-- What the body holds of the tables at every point: its half of each. -/
def held (c : Dev nD) : sProp 𝕄 :=
  iprop((tbM0_0.view.loc (c : Thread nD τ) ↦{fullShare.right} T.e) ∗ (tbM0_1.view.loc (c : Thread nD τ) ↦{fullShare.right} T.u))

/-- The arrays at launch, what each point leaves in the staging buffers, and what is held between points. -/
def datT (_ : Fin 1) (c : Dev nD) : Dat τ (Elt Ideal) Unit ℕ (UR sig nD τ) ℕ (cfgT T) c where
  A w := m (((cfgT T).win w).arr.view.loc (c : Thread nD τ))
  after w t := match w with
    | ⟨0, _⟩ => inBlk T m c (0 : Fin 5) t
    | ⟨1, _⟩ => inBlk T m c (1 : Fin 5) t
    | ⟨2, _⟩ => inBlk T m c (2 : Fin 5) t
    | ⟨3, _⟩ => inBlk T m c (3 : Fin 5) t
    | ⟨4, _⟩ => outBlk T m c t
  Φ _ := held T c
  q _ := fullShare
  owed _ := 0

theorem phi_held (c : Dev nD) (t) : (datT T m 0 c).Φ t = held T c := rfl

theorem before_0 (c : Dev nD) (t : Fin (cfgT T).N) (d) : (datT T m 0 c).before (0 : Fin 5) t d = inBlk T m c (0 : Fin 5) t :=
  ((datT T m 0 c).before_in_eq_fetched (0 : Fin 5) rfl (fun _ => rfl) (fun _ _ _ => rfl) (fun _ => rfl) t d).trans rfl
theorem before_1 (c : Dev nD) (t : Fin (cfgT T).N) (d) : (datT T m 0 c).before (1 : Fin 5) t d = inBlk T m c (1 : Fin 5) t :=
  ((datT T m 0 c).before_in_eq_fetched (1 : Fin 5) rfl (fun _ => rfl) (fun _ _ _ => rfl) (fun _ => rfl) t d).trans rfl
theorem before_2 (c : Dev nD) (t : Fin (cfgT T).N) (d) : (datT T m 0 c).before (2 : Fin 5) t d = inBlk T m c (2 : Fin 5) t :=
  ((datT T m 0 c).before_in_eq_fetched (2 : Fin 5) rfl (fun _ => rfl) (fun _ _ _ => rfl) (fun _ => rfl) t d).trans rfl
theorem before_3 (c : Dev nD) (t : Fin (cfgT T).N) (d) : (datT T m 0 c).before (3 : Fin 5) t d = inBlk T m c (3 : Fin 5) t :=
  ((datT T m 0 c).before_in_eq_fetched (3 : Fin 5) rfl (fun _ => rfl) (fun _ _ _ => rfl) (fun _ => rfl) t d).trans rfl

/-! ## The body at a point -/

/-- The body at point `t` on its staging buffers. -/
abbrev bodyT (t : Fin (cfgT T).N) : Prog (TpuEff nD τ sig (Elt Ideal) Λ₀ .tc) PUnit :=
  cc0_experts (crdT T t) (Memref.whole main_arg0) (Memref.isWhole_whole _) (Memref.whole main_arg1) (Memref.isWhole_whole _)
    (b0 T t) (w0 T t) (b1 T t) (w1 T t) (b2 T t) (w2 T t) (b3 T t) (w3 T t) (b4 T t) (w4 T t)

/-- What the body is run from at point `t`, with the output's buffer at anything. -/
def runFrom (c : Dev nD) (t : Fin (cfgT T).N) : sProp 𝕄 :=
  iprop(held T c ∗ (datT T m 0 c).owesAt () t.castSucc
    ∗ owns (c : Thread nD τ) (b0 T t) fullShare (inBlk T m c (0 : Fin 5) t)
    ∗ owns (c : Thread nD τ) (b1 T t) fullShare (inBlk T m c (1 : Fin 5) t)
    ∗ owns (c : Thread nD τ) (b2 T t) fullShare (inBlk T m c (2 : Fin 5) t)
    ∗ owns (c : Thread nD τ) (b3 T t) fullShare (inBlk T m c (3 : Fin 5) t)
    ∗ (∃ d, owns (c : Thread nD τ) (b4 T t) fullShare d))

/-- What it leaves: the same, with the output's buffer at `outBlk`. -/
def runTo (c : Dev nD) (t : Fin (cfgT T).N) : sProp 𝕄 :=
  iprop(held T c ∗ (datT T m 0 c).owesAt () t.castSucc
    ∗ owns (c : Thread nD τ) (b0 T t) fullShare (inBlk T m c (0 : Fin 5) t)
    ∗ owns (c : Thread nD τ) (b1 T t) fullShare (inBlk T m c (1 : Fin 5) t)
    ∗ owns (c : Thread nD τ) (b2 T t) fullShare (inBlk T m c (2 : Fin 5) t)
    ∗ owns (c : Thread nD τ) (b3 T t) fullShare (inBlk T m c (3 : Fin 5) t)
    ∗ owns (c : Thread nD τ) (b4 T t) fullShare (outBlk T m c t))

set_option maxHeartbeats 4000000 in
/-- The body runs from the one to the other, on either path. -/
theorem body_run (c : Dev nD) (t : Fin (cfgT T).N) :
    runFrom T m c t ⊢ wp frame (wpE (defs₀ (F := Ideal)) Variants.none c none) Set.univ (bodyT T t) fun _ => runTo T m c t := by
  unfold runFrom runTo held
  iintro ⟨⟨HT0, HT1⟩, Ho, H0, H1, H2, H3, H4⟩
  by_cases h : InUse T t
  · have hout : outBlk T m c t = _ := dif_pos h
    rw [hout]
    iapply ((kernelRun0_A c (crdT T t) (b0 T t) (w0 T t) (b1 T t) (w1 T t) (b2 T t) (w2 T t) (b3 T t) (w3 T t) (b4 T t) (w4 T t) T.e T.u
      (inBlk T m c (0 : Fin 5) t) (inBlk T m c (1 : Fin 5) t) (inBlk T m c (2 : Fin 5) t) (inBlk T m c (3 : Fin 5) t) h (not_second T h)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexact H4
    iintro ⟨H0, H1, H2, H3, HT0, HT1, ⟨%e4, H4⟩⟩
    isplitl [HT0 HT1]
    · isplitl [HT0]
      · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    unfold owns; iexists _; isplitr; swap
    · iexact H4
    · ipureintro; exact View.read_writes_of_cover _ _ _ _ _ (cover0_A_4 c _ _ _ _ _ _ _ _ _ _ _ _ _ _ _ _ _ _ _)
  · have hout : outBlk T m c t = _ := dif_neg h
    rw [hout]
    iapply ((kernelRun0_B c (crdT T t) (b0 T t) (w0 T t) (b1 T t) (w1 T t) (b2 T t) (w2 T t) (b3 T t) (w3 T t) (b4 T t) (w4 T t) T.e T.u
      (inBlk T m c (0 : Fin 5) t) (inBlk T m c (1 : Fin 5) t) (inBlk T m c (2 : Fin 5) t) (inBlk T m c (3 : Fin 5) t) h (second T h)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexact H4
    iintro ⟨H0, H1, H2, H3, HT0, HT1, ⟨%e4, H4⟩⟩
    isplitl [HT0 HT1]
    · isplitl [HT0]
      · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    unfold owns; iexists _; isplitr; swap
    · iexact H4
    · ipureintro; exact View.read_writes_of_cover _ _ _ _ _ (cover0_B_4 c _ _ _ _ _ _ _ _ _ _ _ _ _ _ _ _ _ _ _)

set_option maxHeartbeats 4000000 in
/-- The library's obligation on the body, at every point. -/
theorem body_obl (c : Dev nD) : BodyObligation (datT T m 0 c) (defs₀ (F := Ideal)) Variants.none () Set.univ := fun t => by
  rw [bigSep_W0, bigSep_W0, stored T t]
  simp only [before_0, before_1, before_2, before_3, phi_held]
  have hr := body_run T m c t
  unfold runFrom runTo at hr
  refine BIBase.Entails.trans ?_ hr
  iintro ⟨HP, Ho, ⟨%d0, H0⟩, ⟨%d1, H1⟩, ⟨%d2, H2⟩, ⟨%d3, H3⟩, ⟨%d4, H4⟩⟩
  isplitl [HP]; · iexact HP
  isplitl [Ho]; · iexact Ho
  isplitl [H0]; · iexact H0
  isplitl [H1]; · iexact H1
  isplitl [H2]; · iexact H2
  isplitl [H3]; · iexact H3
  iexists _; iexact H4

/-! ## The launch -/

/-- The launch element of the staging cells. -/
def uT : UR sig nD τ :=
  initOf (Pipeline.cells (pcsT T) ((launch0 (F := Ideal)).cellOf_inj fun _ => T.adm))
    (Pipeline.launchToks (pcsT T) ((launch0 (F := Ideal)).cellOf_inj fun _ => T.adm))

theorem share_full (c : Dev nD) (w : Fin (cfgT T).W) : (datT T m 0 c).share w = fullShare := by unfold Dat.share; split <;> rfl

/-- The tables as the launch hands them over, one by one. -/
theorem prefHeld_two (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem hold_intro (c : Dev nD) :
    iprop(BI.emp ∗ Pipeline.prefHeld pre0 c (fun _ => fullShare.right) T.adm.1 ∗ Pipeline.scopedRest spec0 c) ⊢ (datT T m 0 c).Φ 0 := by
  rw [prefHeld_two, scopedRest0_eq, show (datT T m 0 c).Φ 0 = held T c from rfl]
  unfold held
  iintro ⟨-, ⟨HT0, HT1⟩, -⟩
  isplitl [HT0]
  · iexact HT0
  iexact HT1

theorem hold_exit (c : Dev nD) : (datT T m 0 c).Φ (Fin.last (cfgT T).N) ⊢ iprop(BI.emp ∗ Pipeline.scopedRest spec0 c) := by
  rw [scopedRest0_eq, show (datT T m 0 c).Φ (Fin.last (cfgT T).N) = held T c from rfl]
  unfold held
  iintro ⟨-, -⟩
  isplitr; · iempintro
  iempintro

/-- The memory's tables are `T`'s on every device. -/
def Holds (m : (ℓ : Loc nD τ sig) → Buf (Elt Ideal) ℓ) : Prop :=
  ∀ c : Dev nD, m ((c : Thread nD τ).loc main_arg0) = T.e ∧ m ((c : Thread nD τ).loc main_arg1) = T.u

theorem table_eq (hp : Holds T m) (c : Dev nD) (j : Fin 2) : m ((c : Thread nD τ).loc (pre0.ref j)) = T.adm.1 j := by
  fin_cases j
  · exact (hp c).1
  · exact (hp c).2

/-- The state after the run: every array at what the pipeline's points leave, every table as it was. -/
def Post : PUnit × MemSt nD τ sig (Elt Ideal) → Prop := fun r =>
  ∀ c : Dev nD, (∀ w : Fin (cfgT T).W, r.2.mem (((cfgT T).win w).arr.view.loc (c : Thread nD τ)) = (datT T m 0 c).arrAt w (cfgT T).N)
    ∧ ∀ j, r.2.mem ((c : Thread nD τ).loc (pre0.ref j)) = T.adm.1 j

set_option backward.isDefEq.respectTransparency.types false in
set_option maxHeartbeats 4000000 in
/-- The kernel runs from any memory whose tables are `T`'s, and every semaphore counter ends at zero. -/
theorem run_T (hp : Holds T m) :
    θ_run (defs (F := Ideal)) (onTc (τ := τ) (main (F := Ideal))) ⟨m, fun _ => 0, ρ⟩ (fun r => Post T m r ∧ r.2.sem = fun _ => 0) :=
  Pipeline.θ_run_region_noSem_pf_quiescent pcfgs (fun _ => T.adm) (datT T m) () ((launch0 (F := Ideal)).cellOf_inj fun _ => T.adm) (0 : Fin 1)
    (launch0 (F := Ideal)).win.to₀ (launch0 (F := Ideal)).pre emb₁ defs₀ Variants.none m ρ main
    (hbody := fun c => (body_obl T m c).loose) (hne := (launch0 (F := Ideal)).block_pos)
    (harr := (launch0 (F := Ideal)).arr_whole) (hstage := (launch0 (F := Ideal)).stage_whole) (howed := fun _ _ => rfl)
    (u₀ := uT T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcsT T) (datT T m) 0 (launch0 (F := Ideal)).win.arr_inj c (launch0 (F := Ideal)).arr_whole
      (share_full T m c) _ _ fun _ => rfl)
    (hpf := table_eq T m hp)
    (X := fun _ => iprop(emp)) (Y := fun _ => iprop(emp)) (Z := fun _ => iprop(emp))
    (hX := fun c => by rw [unscopedRestP0_eq]; iintro -; isplitr <;> iempintro)
    (hin := hold_intro T m)
    (hout := hold_exit T m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The run again, of the buffers: the result is what the points leave, the arguments end as they were, the counters at zero. -/
theorem run_bufs (hp : Holds T m) :
    θ_run (defs (F := Ideal)) (onTc (τ := τ) (main (F := Ideal))) ⟨m, fun _ => 0, ρ⟩ (fun r => (∀ c : Dev nD,
      r.2.mem ((c.tc : Thread nD τ).loc main_v0) = (datT T m 0 c).arrAt (4 : Fin 5) (cfgT T).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 (4 : Fin 5), ((h.1 c).2 0).trans (hp c).1.symm, ((h.1 c).2 1).trans (hp c).2.symm,
    ((h.1 c).1 (0 : Fin 5)).trans ((datT T m 0 c).arrAt_in (0 : Fin 5) rfl _), ((h.1 c).1 (1 : Fin 5)).trans ((datT T m 0 c).arrAt_in (1 : Fin 5) rfl _),
    ((h.1 c).1 (2 : Fin 5)).trans ((datT T m 0 c).arrAt_in (2 : Fin 5) rfl _), ((h.1 c).1 (3 : Fin 5)).trans ((datT T m 0 c).arrAt_in (3 : Fin 5) rfl _)⟩, h.2⟩)
    (run_T T m ρ hp)

end Cert.Kernel3Ideal.Moe

end
-- ==== Proof.Moe.Model.lean ====
/- What the experts' call computes, as a function of its arguments: the tokens of a block that is in use go through the
   block's expert, and every other block is zero. -/
module

public import proofs.«01_k».proof.Proof.Moe.Launch
public import Idealize.ShloMosaic.Lib.Pipeline.ValueKit
public import Idealize.ShloMosaic.PureOps.Ideal.Laws

@[expose] public section

set_option maxRecDepth 16384

noncomputable section

namespace Cert.Kernel3Ideal.Moe

open Cert.Kernel3Ideal Cert.Kernel3Ideal.Gen Idealize.ShloMosaic Idealize.ShloMosaic.TcCoe

/-- Entry `f` of a projection of a token with packed words `w`: its low halves are the first activations, its high halves
    the others. -/
def project (w : Fin 1024 → BitVec 32) (W : Fin 2048 → Fin 512 → EReal) (f : Fin 512) : EReal :=
  (∑ q : Fin 1024, Ideal.ofBits .f32 (w q <<< 16#32) * W ⟨q.val, by omega⟩ f)
    + ∑ q : Fin 1024, Ideal.ofBits .f32 (w q &&& 4294901760#32) * W ⟨1024 + q.val, by omega⟩ f

/-- A token through one expert: gate, up projection and down projection. -/
def expert (w : Fin 1024 → BitVec 32) (W0 W1 : Fin 2048 → Fin 512 → EReal) (W2 : Fin 512 → Fin 2048 → EReal) (d : Fin 2048) : EReal :=
  ∑ f : Fin 512, project w W0 f * Ideal.logistic (project w W0 f) * project w W1 f * W2 f d

/-- The expert of a block. -/
def Tab.of (T : Tab) (j : Fin 288) : Fin 32 := ⟨(T.e (ValueIdx.ix1 j)).toNat, T.he _⟩

/-- A block is in use. -/
def Tab.inUse (T : Tab) (j : Fin 288) : Bool := (BitVec.ofNat 32 j.val).slt (T.u one0)

/-- The block a token lies in. -/
def blockOf (n : Fin 73728) : Fin 288 := ⟨n.val / 256, by omega⟩

/-- The experts' call. -/
def result (T : Tab) (x : S73728x1024.Idx → BitVec 32) (w0 w1 : S32x2048x512.Idx → EReal) (w2 : S32x512x2048.Idx → EReal)
    (n : Fin 73728) (d : Fin 2048) : EReal :=
  if T.inUse (blockOf n) then
    expert (fun q => x (ValueIdx.ix2 n q)) (fun k f => w0 (ValueIdx.ix3 (T.of (blockOf n)) k f))
      (fun k f => w1 (ValueIdx.ix3 (T.of (blockOf n)) k f)) (fun f d => w2 (ValueIdx.ix3 (T.of (blockOf n)) f d)) d
  else Ideal.ofBits .f32 0#32

theorem shl16 (u : ArithUnit) (x : BitVec 32) : IntOp.shli u x 16#32 = x <<< 16#32 := if_pos (by decide)

end Cert.Kernel3Ideal.Moe

end
-- ==== Proof.Moe.Block.lean ====
/- The block the experts' kernel stores, read at an index. -/
module

public import proofs.«01_k».proof.Proof.Moe.Model

@[expose] public section

set_option maxRecDepth 16384

noncomputable section

namespace Cert.Kernel3Ideal.Moe

open Cert.Kernel3Ideal Cert.Kernel3Ideal.Gen Idealize.ShloMosaic Idealize.ShloMosaic.TcCoe

theorem pay1_apply (P0 : Vec Ideal S256x1024 .i32) (P1 P2 : Vec Ideal S1x2048x512 .bf16) (P3 : Vec Ideal S1x512x2048 .bf16)
    (s : Fin 256) (d : Fin 2048) :
    k0_pay1 (F := Ideal) P0 P1 P2 P3 (ValueIdx.ix2 s d)
      = expert (fun q => P0 (ValueIdx.ix2 s q)) (fun k f => P1 (ValueIdx.ix3 0 k f)) (fun k f => P2 (ValueIdx.ix3 0 k f))
          (fun f d => P3 (ValueIdx.ix3 0 f d)) d := by
  unfold k0_pay1
  pointwise
  rfl

theorem pay2_apply (y : S256x2048.Idx) : k0_pay2 (F := Ideal) y = Ideal.ofBits .f32 0#32 := rfl

section
variable (c : Dev nD) (i : grid0.Coords) (a0 : Memref sig .tc .vmem S256x1024 .i32) (h0 : a0.IsWhole) (a1 : Memref sig .tc .vmem S1x2048x512 .bf16)
  (h1 : a1.IsWhole) (a2 : Memref sig .tc .vmem S1x2048x512 .bf16) (h2 : a2.IsWhole) (a3 : Memref sig .tc .vmem S1x512x2048 .bf16) (h3 : a3.IsWhole)
  (a4 : Memref sig .tc .vmem S256x2048 .f32) (h4 : a4.IsWhole) (T0 : S288.Idx → BitVec 32) (T1 : S1.Idx → BitVec 32)
  (x0 : S256x1024.Idx → BitVec 32) (x1 x2 : S1x2048x512.Idx → EReal) (x3 : S1x512x2048.Idx → EReal)

/-- A point in use stores the block's tokens through the expert. -/
theorem out_use (p q) : out0_A_4 c i a0 h0 a1 h1 a2 h2 a3 h3 a4 h4 T0 T1 x0 x1 x2 x3 p q = k0_pay1 (F := Ideal) x0 x1 x2 x3 := by
  frame_out
  rw [View.read_rep, View.read_rep, View.read_rep, View.read_rep]

/-- Any other point stores zeros. -/
theorem out_idle (p q) : out0_B_4 c i a0 h0 a1 h1 a2 h2 a3 h3 a4 h4 T0 T1 x0 x1 x2 x3 p q = k0_pay2 (F := Ideal) := by
  frame_out
end

end Cert.Kernel3Ideal.Moe

end
-- ==== Proof.Moe.Array.lean ====
/- What the experts' kernel leaves in its result array. -/
module

public import proofs.«01_k».proof.Proof.Moe.Block

@[expose] public section

set_option maxRecDepth 16384

noncomputable section

namespace Cert.Kernel3Ideal.Moe

open Cert.Kernel3Ideal Cert.Kernel3Ideal.Gen Idealize.ShloMosaic Idealize.ShloMosaic.TcCoe
open Idealize.ShloMosaic.Pipeline (Dat)

variable (T : Tab) (m : (ℓ : Loc nD τ sig) → Buf (Elt Ideal) ℓ) (c : Dev nD)

/-- Where a point's block stands in the result. -/
theorem row_lt (t : Fin (cfgT T).N) (s : Fin 256) : (crdT T t 0).val * 256 + s.val < 73728 := by
  have h : (crdT T t 0).val < 288 := (crdT T t 0).isLt
  omega

theorem small (t : Fin (cfgT T).N) : (BitVec.ofNat 32 (crdT T t 0).val).toNat = (crdT T t 0).val := by
  have h : (crdT T t 0).val < 288 := (crdT T t 0).isLt
  rw [BitVec.toNat_ofNat]
  omega

/-- The point's expert, as the index maps read it. -/
theorem word_eq (t : Fin (cfgT T).N) : (T.e (expertAt (crdT T t))).toNat = (T.of (crdT T t 0)).val := by
  refine congrArg (fun i => (T.e i).toNat) (funext fun a => Fin.ext ?_)
  match a with
  | ⟨0, _⟩ => show (BitVec.ofNat 32 (crdT T t 0).val).toNat + 1 * 0 = (crdT T t 0).val; rw [small]; rfl

theorem emb4 (t : Fin (cfgT T).N) (y : S256x2048.Idx) :
    (((cfgT T).win (4 : Fin 5)).blk t).view.emb y = ValueIdx.ix2 ⟨(crdT T t 0).val * 256 + (y 0).val, row_lt T t (y 0)⟩ (y 1) := by
  refine funext fun a => Fin.ext ?_
  match a with
  | ⟨0, _⟩ =>
    blk_simp
    show (BitVec.ofNat 32 (crdT T t 0).val).toNat * 256 + (y 0).val = (crdT T t 0).val * 256 + (y 0).val
    rw [small]
  | ⟨1, _⟩ =>
    blk_simp
    show 0 * 2048 + (y 1).val = (y 1).val
    omega

theorem emb1 (t : Fin (cfgT T).N) (k : Fin 2048) (f : Fin 512) :
    (((cfgT T).win (1 : Fin 5)).blk t).view.emb (ValueIdx.ix3 0 k f) = ValueIdx.ix3 (T.of (crdT T t 0)) k f := by
  refine funext fun a => Fin.ext ?_
  match a with
  | ⟨0, _⟩ => blk_simp; exact word_eq T t
  | ⟨1, _⟩ => blk_simp; show 0 * 2048 + k.val = k.val; omega
  | ⟨2, _⟩ => blk_simp; show 0 * 512 + f.val = f.val; omega

theorem emb2 (t : Fin (cfgT T).N) (k : Fin 2048) (f : Fin 512) :
    (((cfgT T).win (2 : Fin 5)).blk t).view.emb (ValueIdx.ix3 0 k f) = ValueIdx.ix3 (T.of (crdT T t 0)) k f := by
  refine funext fun a => Fin.ext ?_
  match a with
  | ⟨0, _⟩ => blk_simp; exact word_eq T t
  | ⟨1, _⟩ => blk_simp; show 0 * 2048 + k.val = k.val; omega
  | ⟨2, _⟩ => blk_simp; show 0 * 512 + f.val = f.val; omega

theorem emb3 (t : Fin (cfgT T).N) (f : Fin 512) (d : Fin 2048) :
    (((cfgT T).win (3 : Fin 5)).blk t).view.emb (ValueIdx.ix3 0 f d) = ValueIdx.ix3 (T.of (crdT T t 0)) f d := by
  refine funext fun a => Fin.ext ?_
  match a with
  | ⟨0, _⟩ => blk_simp; exact word_eq T t
  | ⟨1, _⟩ => blk_simp; show 0 * 512 + f.val = f.val; omega
  | ⟨2, _⟩ => blk_simp; show 0 * 2048 + d.val = d.val; omega

/-- At a point in use the first window's block is the point's own. -/
theorem first_eq (j : ℕ) (hj : j < 288) (w : BitVec 32) (h0 : 0 < w.toNat) (h1 : w.toNat < 2 ^ 31) (h : (BitVec.ofNat 32 j).slt w = true) :
    (Scalar.minsi (BitVec.ofNat 32 j) (Scalar.subi w 1#32)).toNat = j := by
  have hb : (BitVec.ofNat 32 j).toNat = j := by rw [BitVec.toNat_ofNat]; omega
  have hs : (Scalar.subi w 1#32).toNat = w.toNat - 1 := by
    unfold Scalar.subi IntOp.subi; simp only [BitVec.toNat_sub, BitVec.toNat_ofNat]; omega
  have e1 : (BitVec.ofNat 32 j).toInt = j := by rw [BitVec.toInt_eq_toNat_of_lt (by omega), hb]
  have e2 : w.toInt = w.toNat := BitVec.toInt_eq_toNat_of_lt (by omega)
  have e3 : (Scalar.subi w 1#32).toInt = ((w.toNat - 1 : ℕ) : ℤ) := by rw [BitVec.toInt_eq_toNat_of_lt (by omega), hs]
  have hlt : j < w.toNat := by
    have := BitVec.slt_iff_toInt_lt.1 h
    omega
  unfold Scalar.minsi IntOp.minsi
  split
  · exact hb
  · rename_i hn
    have hge := mt BitVec.slt_iff_toInt_lt.2 hn
    rw [e1, e3] at hge
    omega

theorem emb0 (t : Fin (cfgT T).N) (h : T.inUse (crdT T t 0) = true) (s : Fin 256) (q : Fin 1024) :
    (((cfgT T).win (0 : Fin 5)).blk t).view.emb (ValueIdx.ix2 s q) = ValueIdx.ix2 ⟨(crdT T t 0).val * 256 + s.val, row_lt T t s⟩ q := by
  refine funext fun a => Fin.ext ?_
  match a with
  | ⟨0, _⟩ =>
    blk_simp
    have hw : ∀ x, (Scalar.minsi (BitVec.ofNat 32 (crdT T t 0).val) (Scalar.subi (T.u x) 1#32)).toNat = (crdT T t 0).val := fun x => by
      rw [S1_idx_eq x one0]
      exact first_eq _ (crdT T t 0).isLt _ (T.hpos _) (T.hle _) h
    exact congrArg (· * 256 + s.val) (hw _)
  | ⟨1, _⟩ => blk_simp; show 0 * 1024 + q.val = q.val; omega

/-- The kernel's call as its result array holds it. -/
def final : S73728x2048.Idx → EReal := fun i =>
  result T (m ((c.tc : Thread nD τ).loc main_arg2)) (m ((c.tc : Thread nD τ).loc main_arg3)) (m ((c.tc : Thread nD τ).loc main_arg4))
    (m ((c.tc : Thread nD τ).loc main_arg5)) (i 0) (i 1)

theorem inUse_iff (t : Fin (cfgT T).N) : InUse T t ↔ T.inUse (crdT T t 0) = true := by
  unfold InUse Tab.inUse
  rw [usedWord_eq, cond1_iff]

theorem block_eq (t : Fin (cfgT T).N) (s : Fin 256) : blockOf ⟨(crdT T t 0).val * 256 + s.val, row_lt T t s⟩ = crdT T t 0 :=
  Fin.ext (by show ((crdT T t 0).val * 256 + s.val) / 256 = (crdT T t 0).val; omega)

theorem outBlk_apply (t : Fin (cfgT T).N) (s : Fin 256) (d : Fin 2048) :
    outBlk T m c t (ValueIdx.ix2 s d) = final T m c (ValueIdx.ix2 ⟨(crdT T t 0).val * 256 + s.val, row_lt T t s⟩ d) := by
  unfold outBlk final result
  show _ = if T.inUse (blockOf ⟨(crdT T t 0).val * 256 + s.val, row_lt T t s⟩) then _ else _
  by_cases h : InUse T t
  · have hu := (inUse_iff T t).1 h
    rw [dif_pos h, out_use, pay1_apply, block_eq, if_pos hu]
    have e0 : ∀ q : Fin 1024, inBlk T m c (0 : Fin 5) t (ValueIdx.ix2 s q)
        = m ((c.tc : Thread nD τ).loc main_arg2) (ValueIdx.ix2 ⟨(crdT T t 0).val * 256 + s.val, row_lt T t s⟩ q) := fun q =>
      congrArg (m ((c.tc : Thread nD τ).loc main_arg2)) (emb0 T t hu s q)
    have e1 : ∀ (k : Fin 2048) (f : Fin 512), inBlk T m c (1 : Fin 5) t (ValueIdx.ix3 0 k f)
        = m ((c.tc : Thread nD τ).loc main_arg3) (ValueIdx.ix3 (T.of (crdT T t 0)) k f) := fun k f =>
      congrArg (m ((c.tc : Thread nD τ).loc main_arg3)) (emb1 T t k f)
    have e2 : ∀ (k : Fin 2048) (f : Fin 512), inBlk T m c (2 : Fin 5) t (ValueIdx.ix3 0 k f)
        = m ((c.tc : Thread nD τ).loc main_arg4) (ValueIdx.ix3 (T.of (crdT T t 0)) k f) := fun k f =>
      congrArg (m ((c.tc : Thread nD τ).loc main_arg4)) (emb2 T t k f)
    have e3 : ∀ (f : Fin 512) (d : Fin 2048), inBlk T m c (3 : Fin 5) t (ValueIdx.ix3 0 f d)
        = m ((c.tc : Thread nD τ).loc main_arg5) (ValueIdx.ix3 (T.of (crdT T t 0)) f d) := fun f d =>
      congrArg (m ((c.tc : Thread nD τ).loc main_arg5)) (emb3 T t f d)
    simp only [e0, e1, e2, e3]
  · have hu : ¬ T.inUse (crdT T t 0) = true := fun hh => h ((inUse_iff T t).2 hh)
    rw [dif_neg h, out_idle, pay2_apply, block_eq, if_neg hu]

/-- Consecutive points have different blocks of the result, so every point writes its block back. -/
theorem flush4 (t : Fin (cfgT T).N) : ((cfgT T).win (4 : Fin 5)).flush t = true :=
  (by decide +kernel : ∀ t : Fin grid0.N, Pipeline.Window.flushOf grid0 true (fun i : grid0.Coords => (![(BitVec.ofNat 32 (i 0).val).toNat, 0] : Fin 2 → ℕ)) t = true) t

/-- The points in order. -/
theorem coords_eq : ∀ t : Fin grid0.N, (grid0.coords t 0).val = t.val := by decide +kernel

/-- The points' blocks are the whole result. -/
theorem covers : ((cfgT T).win (4 : Fin 5)).Covers := by
  refine ⟨fun a => ?_, fun β => ?_⟩
  · match a with
    | ⟨0, _⟩ => exact (by decide : 0 < 256)
    | ⟨1, _⟩ => exact (by decide : 0 < 2048)
  · have h0 : (β (0 : Fin 2)).val < 288 := lt_of_lt_of_eq (β (0 : Fin 2)).isLt (show (73728 + 256 - 1) / 256 = 288 from by decide)
    have h1 : (β (1 : Fin 2)).val < 1 := lt_of_lt_of_eq (β (1 : Fin 2)).isLt (show (2048 + 2048 - 1) / 2048 = 1 from by decide)
    have hN : grid0.N = 288 := by decide +kernel
    have ht : (β (0 : Fin 2)).val < (cfgT T).N := by
      show _ < grid0.N
      rw [hN]; exact h0
    refine ⟨⟨(β (0 : Fin 2)).val, ht⟩, flush4 T _, fun a => ⟨?_, Or.inl rfl⟩⟩
    match a with
    | ⟨0, _⟩ =>
      show (BitVec.ofNat 32 (crdT T ⟨(β (0 : Fin 2)).val, ht⟩ 0).val).toNat = (β (0 : Fin 2)).val
      rw [small]
      exact coords_eq ⟨(β (0 : Fin 2)).val, ht⟩
    | ⟨1, _⟩ =>
      show 0 = (β (1 : Fin 2)).val
      omega

theorem array_eq : (datT T m 0 c).arrAt (4 : Fin 5) (cfgT T).N = final T m c := by
  refine (datT T m 0 c).arrAt_eq_of_covers (4 : Fin 5) _ (covers T) fun t hf y => ?_
  blk_simp
  show outBlk T m c t y = _
  rw [emb4]
  have hy : y = ValueIdx.ix2 (y 0) (y 1) := funext fun a => by match a with | ⟨0, _⟩ => rfl | ⟨1, _⟩ => rfl
  rw [hy]
  exact outBlk_apply T m c t (y 0) (y 1)

end Cert.Kernel3Ideal.Moe

end
-- ==== Proof.Moe.Gather.lean ====
/- A gather of whole blocks along the first axis, read at an index. -/
module

public import Idealize.ShloMosaic.Lib.ValueIdx
public import Idealize.ShloMosaic.Lib.Pipeline.Value

@[expose] public section

noncomputable section

namespace Cert.Gather

open Idealize.ShloMosaic

/-- The dimension numbers of taking `n` blocks out of `N`, one index each. -/
abbrev blocks (N B C n : ℕ) (wf : GatherDims.WF ⟨3, ![N, B, C]⟩ ⟨2, ![n, 1]⟩ ⟨3, ![n, B, C]⟩ [1, 2] [0] [] [0] [] 1 ![1, B, C]) :
    GatherDims ⟨3, ![N, B, C]⟩ ⟨2, ![n, 1]⟩ ⟨3, ![n, B, C]⟩ where
  offsetDims := [1, 2]
  collapsedSliceDims := [0]
  operandBatchingDims := []
  startIndicesBatchingDims := []
  startIndexMap := [0]
  indexVectorDim := 1
  sliceSizes := ![1, B, C]
  wf := wf

theorem blocks_apply {α : Type} {N B C n : ℕ} (wf : GatherDims.WF ⟨3, ![N, B, C]⟩ ⟨2, ![n, 1]⟩ ⟨3, ![n, B, C]⟩ [1, 2] [0] [] [0] [] 1 ![1, B, C])
    (x : (⟨3, ![N, B, C]⟩ : Shape).Idx → α) (idx : IVec ⟨2, ![n, 1]⟩ 32) (j : Fin n) (k : Fin B) (f : Fin C) (e : Fin N)
    (he : (idx (ValueIdx.ix2 j 0)).toInt.toNat = e.val) :
    Host.gather (blocks N B C n wf) x idx (ValueIdx.ix3 j k f) = x (ValueIdx.ix3 e k f) := by
  unfold Host.gather
  refine congrArg x (funext fun a => Fin.ext ?_)
  show (blocks N B C n wf).start (ValueIdx.ix3 j k f) idx a + (blocks N B C n wf).batchCoord (ValueIdx.ix3 j k f) a
    + (blocks N B C n wf).offCoord (ValueIdx.ix3 j k f) a = _
  rw [GatherDims.batchCoord_eq_zero _ _ _ List.not_mem_nil, Nat.add_zero]
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ (blocks N B C n wf).startIndexMap from List.mem_singleton.mpr rfl)]
    have hs : (blocks N B C n wf).siIdx (ValueIdx.ix3 j k f) ⟨List.idxOf (0 : Fin 3) (blocks N B C n wf).startIndexMap,
        List.idxOf_lt_length_iff.2 (List.mem_singleton.mpr rfl)⟩ = ValueIdx.ix2 j 0 := by
      funext b
      refine Fin.ext ?_
      match b with
      | ⟨0, _⟩ => rfl
      | ⟨1, _⟩ => rfl
    have h := congrArg idx hs
    show min (idx _).toInt.toNat (N - 1) = e.val
    rw [h, he]
    omega
  · unfold GatherDims.start GatherDims.offCoord
    rw [dif_neg (show (1 : Fin 3) ∉ (blocks N B C n wf).startIndexMap from fun h => absurd (List.mem_singleton.1 h) (show (1 : Fin 3) ≠ 0 from by decide)),
      dif_pos ((GatherDims.mem_sKept _ _).2 ⟨fun h => absurd (List.mem_singleton.1 h) (show (1 : Fin 3) ≠ 0 from by decide), List.not_mem_nil⟩), Nat.zero_add]
    rfl
  · unfold GatherDims.start GatherDims.offCoord
    rw [dif_neg (show (2 : Fin 3) ∉ (blocks N B C n wf).startIndexMap from fun h => absurd (List.mem_singleton.1 h) (show (2 : Fin 3) ≠ 0 from by decide)),
      dif_pos ((GatherDims.mem_sKept _ _).2 ⟨fun h => absurd (List.mem_singleton.1 h) (show (2 : Fin 3) ≠ 0 from by decide), List.not_mem_nil⟩), Nat.zero_add]
    rfl

end Cert.Gather

end
-- ==== Proof.Moe.Reference.lean ====
/- What the experts' reference computes, read at an index. -/
module

public import proofs.«01_k».proof.Proof.Moe.Model
public import proofs.«01_k».proof.Proof.Moe.Gather
public import proofs.«01_k».proof.Proof.Gen.Reference3Ideal.Read

@[expose] public section

set_option maxRecDepth 16384

noncomputable section

namespace Cert.Reference3Ideal.Moe

open Cert.Reference3Ideal Cert.Reference3Ideal.Gen Cert.Reference3Ideal.Read Idealize.ShloMosaic Idealize.ShloMosaic.TcCoe
open Cert.Kernel3Ideal.Moe (Tab expert project result blockOf shl16 one0)

variable (T : Tab) (x : S73728x1024.Idx → BitVec 32) (w0 w1 : S32x2048x512.Idx → EReal) (w2 : S32x512x2048.Idx → EReal)

/-- An expert's number as the gather reads it. -/
theorem word_int (w : BitVec 32) (h : w.toNat < 32) : w.toInt.toNat = w.toNat := by
  rw [BitVec.toInt_eq_toNat_of_lt (by omega)]
  exact Int.toNat_natCast _

theorem gate_apply (j : Fin 288) (k : Fin 2048) (f : Fin 512) :
    val_main_v9 (F := Ideal) T.e w0 (ValueIdx.ix3 j k f) = w0 (ValueIdx.ix3 (T.of j) k f) :=
  Cert.Gather.blocks_apply (N := 32) (B := 2048) (C := 512) (n := 288) _ (val_main_v8 (F := Ideal) w0) (val_main_call0_v0 (F := Ideal) T.e) j k f (T.of j) (by
    rw [val_main_call0_v0_apply, word_int _ (T.he _)]
    exact congrArg (fun i => (T.e i).toNat) (funext fun a => Fin.ext (by match a with | ⟨0, _⟩ => rfl)))

theorem up_apply (j : Fin 288) (k : Fin 2048) (f : Fin 512) :
    val_main_v11 (F := Ideal) T.e w1 (ValueIdx.ix3 j k f) = w1 (ValueIdx.ix3 (T.of j) k f) :=
  Cert.Gather.blocks_apply (N := 32) (B := 2048) (C := 512) (n := 288) _ (val_main_v10 (F := Ideal) w1) (val_main_call1_v0 (F := Ideal) T.e) j k f (T.of j) (by
    rw [val_main_call1_v0_apply, word_int _ (T.he _)]
    exact congrArg (fun i => (T.e i).toNat) (funext fun a => Fin.ext (by match a with | ⟨0, _⟩ => rfl)))

theorem down_apply (j : Fin 288) (f : Fin 512) (d : Fin 2048) :
    val_main_v13 (F := Ideal) T.e w2 (ValueIdx.ix3 j f d) = w2 (ValueIdx.ix3 (T.of j) f d) :=
  Cert.Gather.blocks_apply (N := 32) (B := 512) (C := 2048) (n := 288) _ (val_main_v12 (F := Ideal) w2) (val_main_call2_v0 (F := Ideal) T.e) j f d (T.of j) (by
    rw [val_main_call2_v0_apply, word_int _ (T.he _)]
    exact congrArg (fun i => (T.e i).toNat) (funext fun a => Fin.ext (by match a with | ⟨0, _⟩ => rfl)))

/-- The row of a token in its block. -/
abbrev rowOf (n : Fin 73728) : Fin 256 := ⟨n.val % 256, by omega⟩

theorem low_apply (n : Fin 73728) (q : Fin 1024) :
    val_main_v7 (F := Ideal) x (ValueIdx.ix3 (blockOf n) (rowOf n) ⟨q.val, by omega⟩) = Ideal.ofBits .f32 (x (ValueIdx.ix2 n q) <<< 16#32) := by
  rw [val_main_v7_apply]
  unfold val_main_v6
  refine (concatenate_pair_apply_left (t := S73728x2048) (s₁ := S73728x1024) (s₂ := S73728x1024) 1 _ _ _ _ rfl (ValueIdx.ix2 n q) fun b => ?_).trans ?_
  · match b with
    | ⟨0, _⟩ => show n.val = ((n.val / 256 * 256 + n.val % 256) * 2048 + q.val) / 2048; omega
    | ⟨1, _⟩ => show q.val = ((n.val / 256 * 256 + n.val % 256) * 2048 + q.val) % 2048; omega
  · rw [val_main_v2_apply, val_main_v1_apply, val_main_v0_apply, val_main_c_apply, shl16]
    rfl

theorem high_apply (n : Fin 73728) (q : Fin 1024) :
    val_main_v7 (F := Ideal) x (ValueIdx.ix3 (blockOf n) (rowOf n) ⟨1024 + q.val, by omega⟩)
      = Ideal.ofBits .f32 (x (ValueIdx.ix2 n q) &&& 4294901760#32) := by
  rw [val_main_v7_apply]
  unfold val_main_v6
  refine (concatenate_pair_apply_right (t := S73728x2048) (s₁ := S73728x1024) (s₂ := S73728x1024) 1 _ _ _ _ rfl rfl (ValueIdx.ix2 n q) (fun b hb => ?_) ?_).trans ?_
  · match b, hb with
    | ⟨0, _⟩, _ => show n.val = ((n.val / 256 * 256 + n.val % 256) * 2048 + (1024 + q.val)) / 2048; omega
    | ⟨1, _⟩, hb => exact absurd rfl hb
  · show q.val + 1024 = ((n.val / 256 * 256 + n.val % 256) * 2048 + (1024 + q.val)) % 2048; omega
  · rw [val_main_v5_apply, val_main_v4_apply, val_main_v3_apply, val_main_c_0_apply]
    rfl

theorem split (F : Fin 2048 → EReal) : ∑ k : Fin 2048, F k = (∑ q : Fin 1024, F ⟨q.val, by omega⟩) + ∑ q : Fin 1024, F ⟨1024 + q.val, by omega⟩ :=
  Fin.sum_univ_add (a := 1024) (b := 1024) F

theorem gated_apply (n : Fin 73728) (f : Fin 512) :
    val_main_v14 (F := Ideal) T.e x w0 (ValueIdx.ix3 (blockOf n) (rowOf n) f)
      = project (fun q => x (ValueIdx.ix2 n q)) (fun k f => w0 (ValueIdx.ix3 (T.of (blockOf n)) k f)) f := by
  rw [val_main_v14_apply, split]
  unfold project
  refine congrArg₂ (· + ·) (Finset.sum_congr rfl fun q _ => ?_) (Finset.sum_congr rfl fun q _ => ?_)
  · refine congrArg₂ (· * ·) ((congrArg _ ?_).trans (low_apply x n q)) ((congrArg _ ?_).trans (gate_apply T w0 (blockOf n) _ f)) <;>
      exact funext fun a => Fin.ext (by match a with | ⟨0, _⟩ => rfl | ⟨1, _⟩ => rfl | ⟨2, _⟩ => rfl)
  · refine congrArg₂ (· * ·) ((congrArg _ ?_).trans (high_apply x n q)) ((congrArg _ ?_).trans (gate_apply T w0 (blockOf n) _ f)) <;>
      exact funext fun a => Fin.ext (by match a with | ⟨0, _⟩ => rfl | ⟨1, _⟩ => rfl | ⟨2, _⟩ => rfl)

theorem upped_apply (n : Fin 73728) (f : Fin 512) :
    val_main_v15 (F := Ideal) T.e x w1 (ValueIdx.ix3 (blockOf n) (rowOf n) f)
      = project (fun q => x (ValueIdx.ix2 n q)) (fun k f => w1 (ValueIdx.ix3 (T.of (blockOf n)) k f)) f := by
  rw [val_main_v15_apply, split]
  unfold project
  refine congrArg₂ (· + ·) (Finset.sum_congr rfl fun q _ => ?_) (Finset.sum_congr rfl fun q _ => ?_)
  · refine congrArg₂ (· * ·) ((congrArg _ ?_).trans (low_apply x n q)) ((congrArg _ ?_).trans (up_apply T w1 (blockOf n) _ f)) <;>
      exact funext fun a => Fin.ext (by match a with | ⟨0, _⟩ => rfl | ⟨1, _⟩ => rfl | ⟨2, _⟩ => rfl)
  · refine congrArg₂ (· * ·) ((congrArg _ ?_).trans (high_apply x n q)) ((congrArg _ ?_).trans (up_apply T w1 (blockOf n) _ f)) <;>
      exact funext fun a => Fin.ext (by match a with | ⟨0, _⟩ => rfl | ⟨1, _⟩ => rfl | ⟨2, _⟩ => rfl)

theorem one_bits : Ideal.ofBits .f32 0x3F800000#32 = 1 := by
  simp [Ideal.ofBits, Ideal.ieee, -EReal.coe_mul]
  norm_num

/-- The gate's function, as the reference spells it. -/
theorem silu_apply (i : S288x256x512.Idx) :
    val_main_v16 (F := Ideal) T.e x w0 i = val_main_v14 (F := Ideal) T.e x w0 i * Ideal.logistic (val_main_v14 (F := Ideal) T.e x w0 i) := by
  rw [val_main_v16_apply, val_main_call3_v5_apply, val_main_call3_v4_apply, val_main_call3_cst_0_apply, val_main_call3_v3_apply,
    val_main_call3_v2_apply, val_main_call3_cst_apply, val_main_call3_v1_apply, val_main_call3_v0_apply]
  generalize val_main_v14 (F := Ideal) T.e x w0 i = a
  show a * Ideal.div (Ideal.ofBits .f32 0x3F800000#32) (Ideal.ofBits .f32 0x3F800000#32 + Ideal.exp (-a)) = a * Ideal.logistic a
  rw [one_bits]
  rfl

theorem ffn_apply (n : Fin 73728) (d : Fin 2048) :
    val_main_v18 (F := Ideal) T.e x w0 w1 w2 (ValueIdx.ix3 (blockOf n) (rowOf n) d)
      = expert (fun q => x (ValueIdx.ix2 n q)) (fun k f => w0 (ValueIdx.ix3 (T.of (blockOf n)) k f))
          (fun k f => w1 (ValueIdx.ix3 (T.of (blockOf n)) k f)) (fun f d => w2 (ValueIdx.ix3 (T.of (blockOf n)) f d)) d := by
  rw [val_main_v18_apply]
  unfold expert
  refine Finset.sum_congr rfl fun f _ => ?_
  have hl : lidx_main_v18 (ValueIdx.ix3 (blockOf n) (rowOf n) d) f = ValueIdx.ix3 (blockOf n) (rowOf n) f :=
    funext fun a => Fin.ext (by match a with | ⟨0, _⟩ => rfl | ⟨1, _⟩ => rfl | ⟨2, _⟩ => rfl)
  have hr : ridx_main_v18 (ValueIdx.ix3 (blockOf n) (rowOf n) d) f = ValueIdx.ix3 (blockOf n) f d :=
    funext fun a => Fin.ext (by match a with | ⟨0, _⟩ => rfl | ⟨1, _⟩ => rfl | ⟨2, _⟩ => rfl)
  rw [hl, hr, down_apply, val_main_v17_apply, silu_apply, gated_apply, upped_apply]
  rfl

/-- The mask of the blocks in use. -/
theorem mask_apply (i : S288x256x2048.Idx) :
    val_main_call4_v1 (F := Ideal) T.u i = BitVec.ofBool (T.inUse (i 0)) := by
  rw [val_main_call4_v1_apply, val_main_v23_apply, val_main_v20_apply, val_main_v19_apply, val_main_v22_apply]
  have h : val_main_v21 (F := Ideal) T.u (idx_main_v22 (idx_main_call4_v1 i)) = T.u one0 :=
    congrArg T.u (Cert.Kernel3Ideal.Moe.S1_idx_eq _ _)
  rw [h]
  rfl

theorem result_apply (n : Fin 73728) (d : Fin 2048) :
    val_main_v25 (F := Ideal) T.e T.u x w0 w1 w2 (ValueIdx.ix2 n d) = result T x w0 w1 w2 n d := by
  have hi : idx_main_v25 (ValueIdx.ix2 n d) = ValueIdx.ix3 (blockOf n) (rowOf n) d := funext fun a => Fin.ext (by
    match a with
    | ⟨0, _⟩ => show (n.val * 2048 + d.val) / 524288 = n.val / 256; omega
    | ⟨1, _⟩ => show (n.val * 2048 + d.val) / 2048 % 256 = n.val % 256; omega
    | ⟨2, _⟩ => show (n.val * 2048 + d.val) % 2048 = d.val; omega)
  rw [val_main_v25_apply, hi, val_main_v24_apply, mask_apply, ffn_apply]
  unfold result
  show Scalar.select (BitVec.ofBool (T.inUse (blockOf n))) _ _ = _
  cases T.inUse (blockOf n)
  · rfl
  · rfl

end Cert.Reference3Ideal.Moe

end
-- ==== Proof.Moe.LaunchWords.lean ====
/- The launch of the experts' kernel over machine words, from any tables in range: the same set-up as Moe/Launch.lean, for the
   program as printed from the kernel. Only its frame is wanted here. -/
module

public import proofs.«01_k».proof.Proof.Gen.Kernel3.Flash.Runs
public import proofs.«01_k».proof.Proof.Gen.Kernel3.Launch

@[expose] public section

set_option maxRecDepth 16384
set_option Elab.async false

noncomputable section

namespace Cert.Kernel3.Moe

open Cert.Kernel3 Cert.Kernel3.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-! ## The tables -/

/-- The two prefetched tables, in range: block `j` is for expert `e j`, and the first `u` blocks are in use. -/
structure Tab where
  /-- Each block's expert. -/
  e : S288.Idx → BitVec 32
  /-- How many blocks are in use. -/
  u : S1.Idx → BitVec 32
  /-- Every expert is one of the 32. -/
  he : ∀ x, (e x).toNat < 32
  /-- At least one block is in use. -/
  hpos : ∀ x, 0 < (u x).toNat
  /-- The number is not negative as a signed word. -/
  hle : ∀ x, (u x).toNat < 2 ^ 31

variable (T : Tab)

/-- The tables as the region reads them. -/
def Tab.contents : pre0.Contents (Elt Bits) := fun | ⟨0, _⟩ => T.e | ⟨1, _⟩ => T.u | ⟨_ + 2, h⟩ => absurd h (by simp)

/-- The only index of the second table. -/
abbrev one0 : S1.Idx := fun a => ⟨0, by fin_cases a; decide⟩

theorem S1_idx_eq (x y : S1.Idx) : x = y := by
  funext a; fin_cases a
  have hx : (x 0).val < 1 := (x 0).isLt
  have hy : (y 0).val < 1 := (y 0).isLt
  exact Fin.ext (show (x 0).val = (y 0).val by omega)

/-- The first window's block index: the point's own block, or the last one in use. -/
theorem first_lt (i : grid0.Coords) (w : BitVec 32) (h0 : 0 < w.toNat) (h1 : w.toNat < 2 ^ 31) :
    (Scalar.minsi (BitVec.ofNat 32 (i 0).val) (Scalar.subi w 1#32)).toNat < 288 := by
  have hi : (i 0).val < 288 := (i 0).isLt
  have hs : (Scalar.subi w 1#32).toNat = w.toNat - 1 := by
    unfold Scalar.subi IntOp.subi; simp only [BitVec.toNat_sub, BitVec.toNat_ofNat]; omega
  have hb : (BitVec.ofNat 32 (i 0).val).toNat = (i 0).val := by
    simp only [BitVec.toNat_ofNat]; omega
  unfold Scalar.minsi IntOp.minsi
  split
  · omega
  · rename_i hn
    have hge := mt BitVec.slt_iff_toInt_lt.2 hn
    rw [BitVec.toInt_eq_toNat_of_lt (by omega), BitVec.toInt_eq_toNat_of_lt (by omega)] at hge
    omega

/-- The word of the first table that a point reads. -/
abbrev expertAt (i : grid0.Coords) : S288.Idx :=
  (Rect.unit (s := S288) ![(Scalar.indexCast (BitVec.ofNat 32 (i 0).val)).toNat] S1.size (k0_off1_inb i)).emb
    (Shape.Idx.first (numel1_S1.symm ▸ Nat.one_pos))

/-- An expert's block of a weight array lies inside it. -/
theorem expert_inb (n p q : ℕ) (hn : n < 32) : ∀ a : Fin 3, ((![n, 0, 0] : Fin 3 → ℕ) a + 1) * (![1, p, q] : Fin 3 → ℕ) a ≤ (![32, p, q] : Fin 3 → ℕ) a := by
  intro a; fin_cases a
  · show (n + 1) * 1 ≤ 32; omega
  · show (0 + 1) * p ≤ p; omega
  · show (0 + 1) * q ≤ q; omega

theorem inb_0 (i : grid0.Coords) : ∀ a, (cc0_transform_0 inb_S1_S1_0 numel1_S1 T.contents i a + 1) * S256x1024.size a ≤ S73728x1024.size a := by
  intro a; fin_cases a
  · have := first_lt i (T.u ((Rect.unit (s := S1) ![0] S1.size inb_S1_S1_0).emb (Shape.Idx.first (numel1_S1.symm ▸ Nat.one_pos)))) (T.hpos _) (T.hle _)
    show ((Scalar.minsi (BitVec.ofNat 32 (i 0).val) (Scalar.subi _ 1#32)).toNat + 1) * 256 ≤ 73728
    exact (Nat.mul_le_mul_right 256 this).trans (by decide)
  · show (0 + 1) * 1024 ≤ 1024; decide
theorem inb_1 (i : grid0.Coords) : ∀ a, (cc0_transform_1 k0_off1_inb numel1_S1 T.contents i a + 1) * S1x2048x512.size a ≤ S32x2048x512.size a :=
  expert_inb (T.e (expertAt i)).toNat 2048 512 (T.he _)
theorem inb_3 (i : grid0.Coords) : ∀ a, (cc0_transform_3 k0_off1_inb numel1_S1 T.contents i a + 1) * S1x512x2048.size a ≤ S32x512x2048.size a :=
  expert_inb (T.e (expertAt i)).toNat 512 2048 (T.he _)

/-- Every window's blocks lie inside its array. -/
theorem ok_contents : ok0 (F := Bits) T.contents :=
  ⟨fun i => ⟨inb_0 T i, .inl rfl⟩,
    fun i => ⟨inb_1 T i, .inr (Affine.block_words_dvd (s := S32x2048x512) (p := EltTy.packing .bf16) (by decide) (by decide))⟩,
    fun i => ⟨inb_1 T i, .inr (Affine.block_words_dvd (s := S32x2048x512) (p := EltTy.packing .bf16) (by decide) (by decide))⟩,
    fun i => ⟨inb_3 T i, .inr (Affine.block_words_dvd (s := S32x512x2048) (p := EltTy.packing .bf16) (by decide) (by decide))⟩⟩

/-- The tables as contents that the region admits, and the pipeline that runs at them. -/
def Tab.adm : (pcfg0 (F := Bits)).Adm := ⟨T.contents, ok_contents T⟩
abbrev cfgT : Pipeline.Cfg sig Λ₀ := cfg0 (F := Bits) T.adm
abbrev pcsT : Fin 1 → Pipeline.Cfg sig Λ₀ := Pipeline.pin (pcfgs (F := Bits)) fun _ => T.adm

variable (m : (ℓ : Loc nD τ sig) → Buf (Elt Bits) ℓ) (ρ : Dev nD → PrngReg)

/-! ## A point: its coordinates, staging buffers and input blocks -/

abbrev crdT (t : Fin (cfgT T).N) : (cfgT T).grid.Coords := (cfgT T).grid.coords t

abbrev b0 (t : Fin (cfgT T).N) : Memref sig .tc .vmem S256x1024 .i32 := spec0_0.stage ((cfgT T).slots t (0 : Fin 5))
abbrev w0 (t : Fin (cfgT T).N) : (b0 T t).IsWhole := hstage0_0 (((cfgT T).slots t (0 : Fin 5)).cast nbuf0_0)
abbrev b1 (t : Fin (cfgT T).N) : Memref sig .tc .vmem S1x2048x512 .bf16 := spec0_1.stage ((cfgT T).slots t (1 : Fin 5))
abbrev w1 (t : Fin (cfgT T).N) : (b1 T t).IsWhole := hstage0_1 (((cfgT T).slots t (1 : Fin 5)).cast nbuf0_1)
abbrev b2 (t : Fin (cfgT T).N) : Memref sig .tc .vmem S1x2048x512 .bf16 := spec0_2.stage ((cfgT T).slots t (2 : Fin 5))
abbrev w2 (t : Fin (cfgT T).N) : (b2 T t).IsWhole := hstage0_2 (((cfgT T).slots t (2 : Fin 5)).cast nbuf0_2)
abbrev b3 (t : Fin (cfgT T).N) : Memref sig .tc .vmem S1x512x2048 .bf16 := spec0_3.stage ((cfgT T).slots t (3 : Fin 5))
abbrev w3 (t : Fin (cfgT T).N) : (b3 T t).IsWhole := hstage0_3 (((cfgT T).slots t (3 : Fin 5)).cast nbuf0_3)
abbrev b4 (t : Fin (cfgT T).N) : Memref sig .tc .vmem S256x2048 .f32 := spec0_4.stage ((cfgT T).slots t (4 : Fin 5))
abbrev w4 (t : Fin (cfgT T).N) : (b4 T t).IsWhole := hstage0_4 (((cfgT T).slots t (4 : Fin 5)).cast nbuf0_4)

/-- Window `w`'s block at point `t`, read off its array at launch. -/
def inBlk (c : Dev nD) (w : Fin (cfgT T).W) (t : Fin (cfgT T).N) : (((cfgT T).win w).xblock (crdT T t)).Idx → Elt Bits ((cfgT T).win w).elt :=
  (((cfgT T).win w).blk t).view.read (Elt Bits) (m (((cfgT T).win w).arr.view.loc (c : Thread nD τ)))

/-! ## The two paths -/

/-- The number of blocks in use, as the body's load of the second table reads it. -/
abbrev usedWord : BitVec 32 :=
  View.readAt (Elt Bits) (tbM0_1).view (Rect.unit (s := S1) ![0] S1.size inb_S1_S1_0).toLoadRect T.u (Shape.Idx.first (numel1_S1.symm ▸ Nat.one_pos))

theorem usedWord_eq : usedWord T = T.u one0 := congrArg T.u (S1_idx_eq _ _)

/-- The kernel's first condition: the point's block is in use. -/
theorem cond1_iff (i : grid0.Coords) (w : BitVec 32) : k0_cond1 i w = 1#1 ↔ (BitVec.ofNat 32 (i 0).val).slt w = true := by
  unfold k0_cond1 Scalar.cmpi Scalar.extui IntOp.cmpi
  cases h : (BitVec.ofNat 32 (i 0).val).slt w <;> simp [h]

/-- The second is its negation. -/
theorem cond2_iff (i : grid0.Coords) (w : BitVec 32) : k0_cond2 i w = 1#1 ↔ ¬ k0_cond1 i w = 1#1 := by
  rw [cond1_iff]
  unfold k0_cond2 Scalar.cmpi Scalar.extui IntOp.cmpi
  cases h : (BitVec.ofNat 32 (i 0).val).slt w <;> simp [h, BitVec.sle_eq_not_slt]

/-- The output is stored at every point. -/
theorem stored (t : Fin (cfgT T).N) : (cfgT T).idle (4 : Fin 5) ((cfgT T).grid.coords t) = false := by
  show (!(k0_cond1 (crdT T t) (T.contents.atD 1 ![0]) == 1#1) && !(k0_cond2 (crdT T t) (T.contents.atD 1 ![0]) == 1#1)) = false
  by_cases h : k0_cond1 (crdT T t) (T.contents.atD 1 ![0]) = 1#1
  · simp only [h, beq_self_eq_true, Bool.not_true, Bool.false_and]
  · simp only [(cond2_iff _ _).2 h, beq_self_eq_true, Bool.not_true, Bool.and_false]

/-- The point's block is in use. -/
abbrev InUse (t : Fin (cfgT T).N) : Prop := k0_cond1 (crdT T t) (usedWord T) = 1#1

theorem not_second {t : Fin (cfgT T).N} (h : InUse T t) : ¬ k0_cond2 (crdT T t) (usedWord T) = 1#1 := fun h2 => (cond2_iff _ _).1 h2 h
theorem second {t : Fin (cfgT T).N} (h : ¬ InUse T t) : k0_cond2 (crdT T t) (usedWord T) = 1#1 := (cond2_iff _ _).2 h

/-- What the body leaves in the output's block at point `t`: what the path taken there stores. -/
def outBlk (c : Dev nD) (t : Fin (cfgT T).N) : S256x2048.Idx → Elt Bits .f32 :=
  if h : InUse T t then
    out0_A_4 c (crdT T t) (b0 T t) (w0 T t) (b1 T t) (w1 T t) (b2 T t) (w2 T t) (b3 T t) (w3 T t) (b4 T t) (w4 T t) T.e T.u
      (inBlk T m c (0 : Fin 5) t) (inBlk T m c (1 : Fin 5) t) (inBlk T m c (2 : Fin 5) t) (inBlk T m c (3 : Fin 5) t) h (not_second T h)
  else
    out0_B_4 c (crdT T t) (b0 T t) (w0 T t) (b1 T t) (w1 T t) (b2 T t) (w2 T t) (b3 T t) (w3 T t) (b4 T t) (w4 T t) T.e T.u
      (inBlk T m c (0 : Fin 5) t) (inBlk T m c (1 : Fin 5) t) (inBlk T m c (2 : Fin 5) t) (inBlk T m c (3 : Fin 5) t) h (second T h)

/-! ## The pipeline's proof data -/

/-- What the body holds of the tables at every point: its half of each. -/
def held (c : Dev nD) : sProp 𝕄 :=
  iprop((tbM0_0.view.loc (c : Thread nD τ) ↦{fullShare.right} T.e) ∗ (tbM0_1.view.loc (c : Thread nD τ) ↦{fullShare.right} T.u))

/-- The arrays at launch, what each point leaves in the staging buffers, and what is held between points. -/
def datT (_ : Fin 1) (c : Dev nD) : Dat τ (Elt Bits) Unit ℕ (UR sig nD τ) ℕ (cfgT T) c where
  A w := m (((cfgT T).win w).arr.view.loc (c : Thread nD τ))
  after w t := match w with
    | ⟨0, _⟩ => inBlk T m c (0 : Fin 5) t
    | ⟨1, _⟩ => inBlk T m c (1 : Fin 5) t
    | ⟨2, _⟩ => inBlk T m c (2 : Fin 5) t
    | ⟨3, _⟩ => inBlk T m c (3 : Fin 5) t
    | ⟨4, _⟩ => outBlk T m c t
  Φ _ := held T c
  q _ := fullShare
  owed _ := 0

theorem phi_held (c : Dev nD) (t) : (datT T m 0 c).Φ t = held T c := rfl

theorem before_0 (c : Dev nD) (t : Fin (cfgT T).N) (d) : (datT T m 0 c).before (0 : Fin 5) t d = inBlk T m c (0 : Fin 5) t :=
  ((datT T m 0 c).before_in_eq_fetched (0 : Fin 5) rfl (fun _ => rfl) (fun _ _ _ => rfl) (fun _ => rfl) t d).trans rfl
theorem before_1 (c : Dev nD) (t : Fin (cfgT T).N) (d) : (datT T m 0 c).before (1 : Fin 5) t d = inBlk T m c (1 : Fin 5) t :=
  ((datT T m 0 c).before_in_eq_fetched (1 : Fin 5) rfl (fun _ => rfl) (fun _ _ _ => rfl) (fun _ => rfl) t d).trans rfl
theorem before_2 (c : Dev nD) (t : Fin (cfgT T).N) (d) : (datT T m 0 c).before (2 : Fin 5) t d = inBlk T m c (2 : Fin 5) t :=
  ((datT T m 0 c).before_in_eq_fetched (2 : Fin 5) rfl (fun _ => rfl) (fun _ _ _ => rfl) (fun _ => rfl) t d).trans rfl
theorem before_3 (c : Dev nD) (t : Fin (cfgT T).N) (d) : (datT T m 0 c).before (3 : Fin 5) t d = inBlk T m c (3 : Fin 5) t :=
  ((datT T m 0 c).before_in_eq_fetched (3 : Fin 5) rfl (fun _ => rfl) (fun _ _ _ => rfl) (fun _ => rfl) t d).trans rfl

/-! ## The body at a point -/

/-- The body at point `t` on its staging buffers. -/
abbrev bodyT (t : Fin (cfgT T).N) : Prog (TpuEff nD τ sig (Elt Bits) Λ₀ .tc) PUnit :=
  cc0_experts (crdT T t) (Memref.whole main_arg0) (Memref.isWhole_whole _) (Memref.whole main_arg1) (Memref.isWhole_whole _)
    (b0 T t) (w0 T t) (b1 T t) (w1 T t) (b2 T t) (w2 T t) (b3 T t) (w3 T t) (b4 T t) (w4 T t)

/-- What the body is run from at point `t`, with the output's buffer at anything. -/
def runFrom (c : Dev nD) (t : Fin (cfgT T).N) : sProp 𝕄 :=
  iprop(held T c ∗ (datT T m 0 c).owesAt () t.castSucc
    ∗ owns (c : Thread nD τ) (b0 T t) fullShare (inBlk T m c (0 : Fin 5) t)
    ∗ owns (c : Thread nD τ) (b1 T t) fullShare (inBlk T m c (1 : Fin 5) t)
    ∗ owns (c : Thread nD τ) (b2 T t) fullShare (inBlk T m c (2 : Fin 5) t)
    ∗ owns (c : Thread nD τ) (b3 T t) fullShare (inBlk T m c (3 : Fin 5) t)
    ∗ (∃ d, owns (c : Thread nD τ) (b4 T t) fullShare d))

/-- What it leaves: the same, with the output's buffer at `outBlk`. -/
def runTo (c : Dev nD) (t : Fin (cfgT T).N) : sProp 𝕄 :=
  iprop(held T c ∗ (datT T m 0 c).owesAt () t.castSucc
    ∗ owns (c : Thread nD τ) (b0 T t) fullShare (inBlk T m c (0 : Fin 5) t)
    ∗ owns (c : Thread nD τ) (b1 T t) fullShare (inBlk T m c (1 : Fin 5) t)
    ∗ owns (c : Thread nD τ) (b2 T t) fullShare (inBlk T m c (2 : Fin 5) t)
    ∗ owns (c : Thread nD τ) (b3 T t) fullShare (inBlk T m c (3 : Fin 5) t)
    ∗ owns (c : Thread nD τ) (b4 T t) fullShare (outBlk T m c t))

set_option maxHeartbeats 4000000 in
/-- The body runs from the one to the other, on either path. -/
theorem body_run (c : Dev nD) (t : Fin (cfgT T).N) :
    runFrom T m c t ⊢ wp frame (wpE (defs₀ (F := Bits)) Variants.none c none) Set.univ (bodyT T t) fun _ => runTo T m c t := by
  unfold runFrom runTo held
  iintro ⟨⟨HT0, HT1⟩, Ho, H0, H1, H2, H3, H4⟩
  by_cases h : InUse T t
  · have hout : outBlk T m c t = _ := dif_pos h
    rw [hout]
    iapply ((kernelRun0_A c (crdT T t) (b0 T t) (w0 T t) (b1 T t) (w1 T t) (b2 T t) (w2 T t) (b3 T t) (w3 T t) (b4 T t) (w4 T t) T.e T.u
      (inBlk T m c (0 : Fin 5) t) (inBlk T m c (1 : Fin 5) t) (inBlk T m c (2 : Fin 5) t) (inBlk T m c (3 : Fin 5) t) h (not_second T h)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexact H4
    iintro ⟨H0, H1, H2, H3, HT0, HT1, ⟨%e4, H4⟩⟩
    isplitl [HT0 HT1]
    · isplitl [HT0]
      · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    unfold owns; iexists _; isplitr; swap
    · iexact H4
    · ipureintro; exact View.read_writes_of_cover _ _ _ _ _ (cover0_A_4 c _ _ _ _ _ _ _ _ _ _ _ _ _ _ _ _ _ _ _)
  · have hout : outBlk T m c t = _ := dif_neg h
    rw [hout]
    iapply ((kernelRun0_B c (crdT T t) (b0 T t) (w0 T t) (b1 T t) (w1 T t) (b2 T t) (w2 T t) (b3 T t) (w3 T t) (b4 T t) (w4 T t) T.e T.u
      (inBlk T m c (0 : Fin 5) t) (inBlk T m c (1 : Fin 5) t) (inBlk T m c (2 : Fin 5) t) (inBlk T m c (3 : Fin 5) t) h (second T h)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexact H4
    iintro ⟨H0, H1, H2, H3, HT0, HT1, ⟨%e4, H4⟩⟩
    isplitl [HT0 HT1]
    · isplitl [HT0]
      · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    unfold owns; iexists _; isplitr; swap
    · iexact H4
    · ipureintro; exact View.read_writes_of_cover _ _ _ _ _ (cover0_B_4 c _ _ _ _ _ _ _ _ _ _ _ _ _ _ _ _ _ _ _)

set_option maxHeartbeats 4000000 in
/-- The library's obligation on the body, at every point. -/
theorem body_obl (c : Dev nD) : BodyObligation (datT T m 0 c) (defs₀ (F := Bits)) Variants.none () Set.univ := fun t => by
  rw [bigSep_W0, bigSep_W0, stored T t]
  simp only [before_0, before_1, before_2, before_3, phi_held]
  have hr := body_run T m c t
  unfold runFrom runTo at hr
  refine BIBase.Entails.trans ?_ hr
  iintro ⟨HP, Ho, ⟨%d0, H0⟩, ⟨%d1, H1⟩, ⟨%d2, H2⟩, ⟨%d3, H3⟩, ⟨%d4, H4⟩⟩
  isplitl [HP]; · iexact HP
  isplitl [Ho]; · iexact Ho
  isplitl [H0]; · iexact H0
  isplitl [H1]; · iexact H1
  isplitl [H2]; · iexact H2
  isplitl [H3]; · iexact H3
  iexists _; iexact H4

/-! ## The launch -/

/-- The launch element of the staging cells. -/
def uT : UR sig nD τ :=
  initOf (Pipeline.cells (pcsT T) ((launch0 (F := Bits)).cellOf_inj fun _ => T.adm))
    (Pipeline.launchToks (pcsT T) ((launch0 (F := Bits)).cellOf_inj fun _ => T.adm))

theorem share_full (c : Dev nD) (w : Fin (cfgT T).W) : (datT T m 0 c).share w = fullShare := by unfold Dat.share; split <;> rfl

/-- The tables as the launch hands them over, one by one. -/
theorem prefHeld_two (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem hold_intro (c : Dev nD) :
    iprop(BI.emp ∗ Pipeline.prefHeld pre0 c (fun _ => fullShare.right) T.adm.1 ∗ Pipeline.scopedRest spec0 c) ⊢ (datT T m 0 c).Φ 0 := by
  rw [prefHeld_two, scopedRest0_eq, show (datT T m 0 c).Φ 0 = held T c from rfl]
  unfold held
  iintro ⟨-, ⟨HT0, HT1⟩, -⟩
  isplitl [HT0]
  · iexact HT0
  iexact HT1

theorem hold_exit (c : Dev nD) : (datT T m 0 c).Φ (Fin.last (cfgT T).N) ⊢ iprop(BI.emp ∗ Pipeline.scopedRest spec0 c) := by
  rw [scopedRest0_eq, show (datT T m 0 c).Φ (Fin.last (cfgT T).N) = held T c from rfl]
  unfold held
  iintro ⟨-, -⟩
  isplitr; · iempintro
  iempintro

/-- The memory's tables are `T`'s on every device. -/
def Holds (m : (ℓ : Loc nD τ sig) → Buf (Elt Bits) ℓ) : Prop :=
  ∀ c : Dev nD, m ((c : Thread nD τ).loc main_arg0) = T.e ∧ m ((c : Thread nD τ).loc main_arg1) = T.u

theorem table_eq (hp : Holds T m) (c : Dev nD) (j : Fin 2) : m ((c : Thread nD τ).loc (pre0.ref j)) = T.adm.1 j := by
  fin_cases j
  · exact (hp c).1
  · exact (hp c).2

/-- The state after the run: every array at what the pipeline's points leave, every table as it was. -/
def Post : PUnit × MemSt nD τ sig (Elt Bits) → Prop := fun r =>
  ∀ c : Dev nD, (∀ w : Fin (cfgT T).W, r.2.mem (((cfgT T).win w).arr.view.loc (c : Thread nD τ)) = (datT T m 0 c).arrAt w (cfgT T).N)
    ∧ ∀ j, r.2.mem ((c : Thread nD τ).loc (pre0.ref j)) = T.adm.1 j

set_option backward.isDefEq.respectTransparency.types false in
set_option maxHeartbeats 4000000 in
/-- The kernel runs from any memory whose tables are `T`'s, and every semaphore counter ends at zero. -/
theorem run_T (hp : Holds T m) :
    θ_run (defs (F := Bits)) (onTc (τ := τ) (main (F := Bits))) ⟨m, fun _ => 0, ρ⟩ (fun r => Post T m r ∧ r.2.sem = fun _ => 0) :=
  Pipeline.θ_run_region_noSem_pf_quiescent pcfgs (fun _ => T.adm) (datT T m) () ((launch0 (F := Bits)).cellOf_inj fun _ => T.adm) (0 : Fin 1)
    (launch0 (F := Bits)).win.to₀ (launch0 (F := Bits)).pre emb₁ defs₀ Variants.none m ρ main
    (hbody := fun c => (body_obl T m c).loose) (hne := (launch0 (F := Bits)).block_pos)
    (harr := (launch0 (F := Bits)).arr_whole) (hstage := (launch0 (F := Bits)).stage_whole) (howed := fun _ _ => rfl)
    (u₀ := uT T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcsT T) (datT T m) 0 (launch0 (F := Bits)).win.arr_inj c (launch0 (F := Bits)).arr_whole
      (share_full T m c) _ _ fun _ => rfl)
    (hpf := table_eq T m hp)
    (X := fun _ => iprop(emp)) (Y := fun _ => iprop(emp)) (Z := fun _ => iprop(emp))
    (hX := fun c => by rw [unscopedRestP0_eq]; iintro -; isplitr <;> iempintro)
    (hin := hold_intro T m)
    (hout := hold_exit T m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The run again, of the buffers: the result is what the points leave, the arguments end as they were, the counters at zero. -/
theorem run_bufs (hp : Holds T m) :
    θ_run (defs (F := Bits)) (onTc (τ := τ) (main (F := Bits))) ⟨m, fun _ => 0, ρ⟩ (fun r => (∀ c : Dev nD,
      r.2.mem ((c.tc : Thread nD τ).loc main_v0) = (datT T m 0 c).arrAt (4 : Fin 5) (cfgT T).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 (4 : Fin 5), ((h.1 c).2 0).trans (hp c).1.symm, ((h.1 c).2 1).trans (hp c).2.symm,
    ((h.1 c).1 (0 : Fin 5)).trans ((datT T m 0 c).arrAt_in (0 : Fin 5) rfl _), ((h.1 c).1 (1 : Fin 5)).trans ((datT T m 0 c).arrAt_in (1 : Fin 5) rfl _),
    ((h.1 c).1 (2 : Fin 5)).trans ((datT T m 0 c).arrAt_in (2 : Fin 5) rfl _), ((h.1 c).1 (3 : Fin 5)).trans ((datT T m 0 c).arrAt_in (3 : Fin 5) rfl _)⟩, h.2⟩)
    (run_T T m ρ hp)

end Cert.Kernel3.Moe

end
-- ==== Proof.Moe.Range.lean ====
/- The precondition of the experts' call, read: every block's expert is one of the 32, and at least one block is in use. So
   the tables of a memory that meets it are tables of the launch (`Tab`), of the kernel and of its reading over the extended reals. -/
module

public import proofs.«01_k».proof.Defs
public import proofs.«01_k».proof.Proof.Gen.Pre_blocks_in_range
public import proofs.«01_k».proof.Proof.Moe.Launch
public import proofs.«01_k».proof.Proof.Moe.LaunchWords

@[expose] public section

set_option maxRecDepth 16384

noncomputable section

namespace Cert.Range

open Idealize.ShloMosaic Idealize.ShloMosaic.TcCoe

/-- A conjunction of two bits that is 1 has both bits 1. -/
theorem and_one : ∀ p q : BitVec 1, p &&& q = 1#1 → p = 1#1 ∧ q = 1#1 := by decide

/-- A word from 0 on and below 32, as a signed number, is a natural number below 32. -/
theorem lt_32 (w : BitVec 32)
    (h : BitVec.ofBool ((0#32 : BitVec 32).sle w) &&& BitVec.ofBool (w.slt 32#32) = 1#1) : w.toNat < 32 := by
  obtain ⟨h0, h1⟩ := and_one _ _ h
  have g0 : (0#32 : BitVec 32).sle w = true := by
    cases hb : (0#32 : BitVec 32).sle w with
    | true => rfl
    | false => rw [hb] at h0; exact absurd h0 (by decide)
  have g1 : w.slt 32#32 = true := by
    cases hb : w.slt 32#32 with
    | true => rfl
    | false => rw [hb] at h1; exact absurd h1 (by decide)
  have i0 := BitVec.sle_iff_toInt_le.1 g0
  have i1 := BitVec.slt_iff_toInt_lt.1 g1
  rw [show (0#32 : BitVec 32).toInt = 0 from by decide] at i0
  rw [show (32#32 : BitVec 32).toInt = 32 from by decide] at i1
  rw [BitVec.toInt_eq_toNat_cond] at i0 i1
  have := w.isLt
  split at i0 <;> split at i1 <;> omega

/-- A word from 1 on, as a signed number, is a positive natural number below `2 ^ 31`. -/
theorem positive (w : BitVec 32) (h : BitVec.ofBool ((1#32 : BitVec 32).sle w) = 1#1) : 0 < w.toNat ∧ w.toNat < 2 ^ 31 := by
  have g0 : (1#32 : BitVec 32).sle w = true := by
    cases hb : (1#32 : BitVec 32).sle w with
    | true => rfl
    | false => rw [hb] at h; exact absurd h (by decide)
  have i0 := BitVec.sle_iff_toInt_le.1 g0
  rw [show (1#32 : BitVec 32).toInt = 1 from by decide, BitVec.toInt_eq_toNat_cond] at i0
  have := w.isLt
  split at i0 <;> omega

/-- The tables the kernel's memory holds. -/
theorem words (m : (ℓ : Loc Cert.Kernel3.nD Cert.Kernel3.τ Cert.Kernel3.sig) → Buf (Elt Bits) ℓ) (hm : Cert.Pre_Kernel3 m) :
    ∃ T : Cert.Kernel3.Moe.Tab, Cert.Kernel3.Moe.Holds T m := by
  have he : ∀ x, (m (((0 : Dev Cert.Kernel3.nD) : Thread Cert.Kernel3.nD Cert.Kernel3.τ).loc Cert.Kernel3.main_arg0) x).toNat < 32 :=
    fun x => lt_32 _ (congrFun (hm 0).1 x)
  have hu : ∀ x, 0 < (m (((0 : Dev Cert.Kernel3.nD) : Thread Cert.Kernel3.nD Cert.Kernel3.τ).loc Cert.Kernel3.main_arg1) x).toNat
      ∧ (m (((0 : Dev Cert.Kernel3.nD) : Thread Cert.Kernel3.nD Cert.Kernel3.τ).loc Cert.Kernel3.main_arg1) x).toNat < 2 ^ 31 :=
    fun x => positive _ (congrFun (hm 0).2 x)
  refine ⟨⟨_, _, he, fun x => (hu x).1, fun x => (hu x).2⟩, fun c => ?_⟩
  obtain rfl : c = 0 := Subsingleton.elim (α := Fin 1) c 0
  exact ⟨rfl, rfl⟩

/-- The tables the memory of the kernel's reading holds. -/
theorem reals (m : (ℓ : Loc Cert.Kernel3Ideal.nD Cert.Kernel3Ideal.τ Cert.Kernel3Ideal.sig) → Buf (Elt Ideal) ℓ) (hm : Cert.Pre_Kernel3Ideal m) :
    ∃ T : Cert.Kernel3Ideal.Moe.Tab, Cert.Kernel3Ideal.Moe.Holds T m := by
  have he : ∀ x, (m (((0 : Dev Cert.Kernel3Ideal.nD) : Thread Cert.Kernel3Ideal.nD Cert.Kernel3Ideal.τ).loc Cert.Kernel3Ideal.main_arg0) x).toNat < 32 :=
    fun x => lt_32 _ (congrFun (hm 0).1 x)
  have hu : ∀ x, 0 < (m (((0 : Dev Cert.Kernel3Ideal.nD) : Thread Cert.Kernel3Ideal.nD Cert.Kernel3Ideal.τ).loc Cert.Kernel3Ideal.main_arg1) x).toNat
      ∧ (m (((0 : Dev Cert.Kernel3Ideal.nD) : Thread Cert.Kernel3Ideal.nD Cert.Kernel3Ideal.τ).loc Cert.Kernel3Ideal.main_arg1) x).toNat < 2 ^ 31 :=
    fun x => positive _ (congrFun (hm 0).2 x)
  refine ⟨⟨_, _, he, fun x => (hu x).1, fun x => (hu x).2⟩, fun c => ?_⟩
  obtain rfl : c = 0 := Subsingleton.elim (α := Fin 1) c 0
  exact ⟨rfl, rfl⟩

end Cert.Range

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_finite_scores_inputs
public import proofs.«01_k».proof.Proof.Gen.Pre_finite_tokens
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Mla.Finite
public import proofs.«01_k».proof.Proof.Mla.Reference
public import Idealize.ShloMosaic.Adequacy
public import Idealize.ShloMosaic.Init
public import proofs.«01_k».proof.Proof.Pre.Finite
public import proofs.«01_k».proof.Proof.Pre.Reference
public import proofs.«01_k».proof.Proof.Gen.Kernel3
public import proofs.«01_k».proof.Proof.Gen.Kernel3Ideal
public import proofs.«01_k».proof.Proof.Gen.Reference3Ideal
public import proofs.«01_k».proof.Proof.Gen.Pre_blocks_in_range
public import proofs.«01_k».proof.Proof.Gen.Kernel3.Skeleton
public import proofs.«01_k».proof.Proof.Gen.Kernel3.Launch
public import proofs.«01_k».proof.Proof.Gen.Kernel3.Flash.Runs
public import proofs.«01_k».proof.Proof.Gen.Kernel3Ideal.Skeleton
public import proofs.«01_k».proof.Proof.Gen.Kernel3Ideal.Launch
public import proofs.«01_k».proof.Proof.Gen.Kernel3Ideal.Flash.Runs
public import proofs.«01_k».proof.Proof.Gen.Reference3Ideal.Run
public import proofs.«01_k».proof.Proof.Gen.Reference3Ideal.Read
public import proofs.«01_k».proof.Proof.Moe.Array
public import proofs.«01_k».proof.Proof.Moe.Reference
public import proofs.«01_k».proof.Proof.Moe.Range

@[expose] public section

set_option maxRecDepth 16384

noncomputable section

namespace Cert.Proof

open Idealize.ShloMosaic Idealize.ShloMosaic.TcCoe Idealize.SL.Sem Cert.Softmax
open Cert.Kernel2Ideal.Pre (argsOf Finite array14_eq array15_eq array16_eq array17_eq array18_eq array19_eq array20_eq kqt_eq kkr_eq)

/-- The reference runs, keeps its arguments and uses no semaphore. -/
theorem mla_reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The attention kernel and the reference compute the same array from real queries and keys. -/
theorem mla_algebraic : Cert.algebraic_KernelIdeal_ReferenceIdeal_pre_finite_scores_inputs := by
  intro m g m' g' hm hargs
  refine ⟨fun c => (Cert.KernelIdeal.Gen.dats m 0 c).arrAt 4 Cert.KernelIdeal.cfg0.N, ?_, ?_⟩
  · exact Cert.KernelIdeal.Value.run_blocks m g
  · refine (θ_run Cert.ReferenceIdeal.defs _ _).mono (fun r h c => ⟨?_, (h c).2⟩) (Cert.ReferenceIdeal.Value.run m' g')
    obtain ⟨S, hS⟩ := Cert.KernelIdeal.Mla.pre_score m hm c
    refine (h c).1.trans ((Cert.ReferenceIdeal.Read.val_main_v28_eq m' c).trans ?_)
    obtain ⟨a0, a1, a2, a3⟩ := hargs c
    refine Eq.trans ?_ (Cert.KernelIdeal.Mla.array_eq m c S hS).symm
    refine Eq.trans ?_ (Cert.ReferenceIdeal.Mla.result_eq _ _ _ _ S hS)
    exact congr (congr (congr (congrArg (Cert.ReferenceIdeal.Read.val_main_v28 (F := Ideal)) a0) a1) a2) a3

/-- The second reference runs, keeps its arguments and uses no semaphore. -/
theorem pre_reference_frame : Cert.quiescent_Reference2Ideal := fun m ρ _ =>
  (θ_run Cert.Reference2Ideal.defs _ _).mono (fun r h => ⟨fun c => (h c).2.2.2.2.2.2.2, sem_eq_zero_of_no_sems (by decide) r.2⟩)
    (Cert.Reference2Ideal.Value.run m ρ)

/-- The reference's result is the kernel's array. -/
theorem pre_qt (m : (ℓ : Loc Cert.Kernel2Ideal.nD Cert.Kernel2Ideal.τ Cert.Kernel2Ideal.sig) → Buf (Elt Ideal) ℓ) (c : Dev Cert.Kernel2Ideal.nD) (hA : Finite (argsOf m c)) :
    Cert.Reference2Ideal.Read.val_main_v133 (F := Ideal) (argsOf m c).x (argsOf m c).sh (argsOf m c).sc (argsOf m c).g1 (argsOf m c).win (argsOf m c).gq (argsOf m c).wq
      = (Cert.Kernel2Ideal.Gen.dats m 0 c).arrAt 14 Cert.Kernel2Ideal.cfg0.N :=
  (Cert.Reference2Ideal.Pre.qt_eq (argsOf m c)).trans (((array14_eq m c).trans (kqt_eq hA)).symm)

/-- The reference's result is the kernel's array. -/
theorem pre_kn (m : (ℓ : Loc Cert.Kernel2Ideal.nD Cert.Kernel2Ideal.τ Cert.Kernel2Ideal.sig) → Buf (Elt Ideal) ℓ) (c : Dev Cert.Kernel2Ideal.nD) :
    Cert.Reference2Ideal.Read.val_main_v134 (F := Ideal) (argsOf m c).x (argsOf m c).sh (argsOf m c).sc (argsOf m c).g1 (argsOf m c).win (argsOf m c).gk (argsOf m c).wk
      = (Cert.Kernel2Ideal.Gen.dats m 0 c).arrAt 15 Cert.Kernel2Ideal.cfg0.N :=
  (Cert.Reference2Ideal.Pre.kn_eq (argsOf m c)).trans (array15_eq m c).symm

/-- The reference's result is the kernel's array. -/
theorem pre_kr (m : (ℓ : Loc Cert.Kernel2Ideal.nD Cert.Kernel2Ideal.τ Cert.Kernel2Ideal.sig) → Buf (Elt Ideal) ℓ) (c : Dev Cert.Kernel2Ideal.nD) (hA : Finite (argsOf m c)) :
    Cert.Reference2Ideal.Read.val_main_v135 (F := Ideal) (argsOf m c).x (argsOf m c).sh (argsOf m c).sc (argsOf m c).g1 (argsOf m c).win
      = (Cert.Kernel2Ideal.Gen.dats m 0 c).arrAt 16 Cert.Kernel2Ideal.cfg0.N :=
  (Cert.Reference2Ideal.Pre.kr_eq (argsOf m c)).trans (((array16_eq m c).trans (kkr_eq hA)).symm)

/-- The reference's result is the kernel's array. -/
theorem pre_vt (m : (ℓ : Loc Cert.Kernel2Ideal.nD Cert.Kernel2Ideal.τ Cert.Kernel2Ideal.sig) → Buf (Elt Ideal) ℓ) (c : Dev Cert.Kernel2Ideal.nD) :
    Cert.Reference2Ideal.Read.val_main_v136 (F := Ideal) (argsOf m c).x (argsOf m c).sh (argsOf m c).sc (argsOf m c).g1 (argsOf m c).win (argsOf m c).gk (argsOf m c).wk
      = (Cert.Kernel2Ideal.Gen.dats m 0 c).arrAt 17 Cert.Kernel2Ideal.cfg0.N :=
  (Cert.Reference2Ideal.Pre.vt_eq (argsOf m c)).trans (array17_eq m c).symm

/-- The reference's result is the kernel's array. -/
theorem pre_qb (m : (ℓ : Loc Cert.Kernel2Ideal.nD Cert.Kernel2Ideal.τ Cert.Kernel2Ideal.sig) → Buf (Elt Ideal) ℓ) (c : Dev Cert.Kernel2Ideal.nD) :
    Cert.Reference2Ideal.Read.val_main_v137 (F := Ideal) (argsOf m c).x (argsOf m c).sh (argsOf m c).sc (argsOf m c).g1 (argsOf m c).win
      = (Cert.Kernel2Ideal.Gen.dats m 0 c).arrAt 18 Cert.Kernel2Ideal.cfg0.N :=
  (Cert.Reference2Ideal.Pre.qb_eq (argsOf m c)).trans (array18_eq m c).symm

/-- The reference's result is the kernel's array. -/
theorem pre_kb (m : (ℓ : Loc Cert.Kernel2Ideal.nD Cert.Kernel2Ideal.τ Cert.Kernel2Ideal.sig) → Buf (Elt Ideal) ℓ) (c : Dev Cert.Kernel2Ideal.nD) :
    Cert.Reference2Ideal.Read.val_main_v138 (F := Ideal) (argsOf m c).x (argsOf m c).sh (argsOf m c).sc (argsOf m c).g1 (argsOf m c).win
      = (Cert.Kernel2Ideal.Gen.dats m 0 c).arrAt 19 Cert.Kernel2Ideal.cfg0.N :=
  (Cert.Reference2Ideal.Pre.kb_eq (argsOf m c)).trans (array19_eq m c).symm

/-- The reference's result is the kernel's array. -/
theorem pre_vb (m : (ℓ : Loc Cert.Kernel2Ideal.nD Cert.Kernel2Ideal.τ Cert.Kernel2Ideal.sig) → Buf (Elt Ideal) ℓ) (c : Dev Cert.Kernel2Ideal.nD) :
    Cert.Reference2Ideal.Read.val_main_v139 (F := Ideal) (argsOf m c).x (argsOf m c).sh (argsOf m c).sc (argsOf m c).g1 (argsOf m c).win
      = (Cert.Kernel2Ideal.Gen.dats m 0 c).arrAt 20 Cert.Kernel2Ideal.cfg0.N :=
  (Cert.Reference2Ideal.Pre.vb_eq (argsOf m c)).trans (array20_eq m c).symm

set_option maxHeartbeats 2000000 in
/-- The projection kernel and the reference compute the same arrays from finite tokens and weights. -/
theorem pre_algebraic : Cert.algebraic_Kernel2Ideal_Reference2Ideal_pre_finite_tokens := by
  intro m g m' g' hm hargs
  refine ⟨fun c => (Cert.Kernel2Ideal.Gen.dats m 0 c).arrAt 14 Cert.Kernel2Ideal.cfg0.N, fun c => (Cert.Kernel2Ideal.Gen.dats m 0 c).arrAt 15 Cert.Kernel2Ideal.cfg0.N, fun c => (Cert.Kernel2Ideal.Gen.dats m 0 c).arrAt 16 Cert.Kernel2Ideal.cfg0.N, fun c => (Cert.Kernel2Ideal.Gen.dats m 0 c).arrAt 17 Cert.Kernel2Ideal.cfg0.N, fun c => (Cert.Kernel2Ideal.Gen.dats m 0 c).arrAt 18 Cert.Kernel2Ideal.cfg0.N, fun c => (Cert.Kernel2Ideal.Gen.dats m 0 c).arrAt 19 Cert.Kernel2Ideal.cfg0.N, fun c => (Cert.Kernel2Ideal.Gen.dats m 0 c).arrAt 20 Cert.Kernel2Ideal.cfg0.N, ?_, ?_⟩
  · exact Cert.Kernel2Ideal.Value.run_blocks m g
  · refine (θ_run Cert.Reference2Ideal.defs _ _).mono (fun r h c => ?_) (Cert.Reference2Ideal.Value.run m' g')
    obtain ⟨a0, a1, a2, a3, a4, a5, a6, a7, a8⟩ := hargs c
    obtain ⟨h0, h1, h2, h3, h4, h5, h6, hk⟩ := h c
    refine ⟨h0.trans ?_, h1.trans ?_, h2.trans ?_, h3.trans ?_, h4.trans ?_, h5.trans ?_, h6.trans ?_, hk⟩
    · exact (Cert.Reference2Ideal.Read.val_main_v133_eq m' c).trans ((congr (congr (congr (congr (congr (congr (congrArg (Cert.Reference2Ideal.Read.val_main_v133 (F := Ideal)) a0) a1) a2) a3) a4) a5) a7).trans (pre_qt m c (Cert.Kernel2Ideal.Pre.finite_of_pre m hm c)))
    · exact (Cert.Reference2Ideal.Read.val_main_v134_eq m' c).trans ((congr (congr (congr (congr (congr (congr (congrArg (Cert.Reference2Ideal.Read.val_main_v134 (F := Ideal)) a0) a1) a2) a3) a4) a6) a8).trans (pre_kn m c))
    · exact (Cert.Reference2Ideal.Read.val_main_v135_eq m' c).trans ((congr (congr (congr (congr (congrArg (Cert.Reference2Ideal.Read.val_main_v135 (F := Ideal)) a0) a1) a2) a3) a4).trans (pre_kr m c (Cert.Kernel2Ideal.Pre.finite_of_pre m hm c)))
    · exact (Cert.Reference2Ideal.Read.val_main_v136_eq m' c).trans ((congr (congr (congr (congr (congr (congr (congrArg (Cert.Reference2Ideal.Read.val_main_v136 (F := Ideal)) a0) a1) a2) a3) a4) a6) a8).trans (pre_vt m c))
    · exact (Cert.Reference2Ideal.Read.val_main_v137_eq (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4))).trans ((congr (congr (congr (congr (congrArg (Cert.Reference2Ideal.Read.val_main_v137 (F := Ideal)) a0) a1) a2) a3) a4).trans (pre_qb m c))
    · exact (Cert.Reference2Ideal.Read.val_main_v138_eq (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4))).trans ((congr (congr (congr (congr (congrArg (Cert.Reference2Ideal.Read.val_main_v138 (F := Ideal)) a0) a1) a2) a3) a4).trans (pre_kb m c))
    · exact (Cert.Reference2Ideal.Read.val_main_v139_eq (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4))).trans ((congr (congr (congr (congr (congrArg (Cert.Reference2Ideal.Read.val_main_v139 (F := Ideal)) a0) a1) a2) a3) a4).trans (pre_vb m c))

/-- The experts' kernel runs from tables in range, keeps its arguments and uses no semaphore. -/
theorem moe_kernel_frame : Cert.quiescent_Kernel3 := fun m ρ hm => by
  obtain ⟨T, hT⟩ := Cert.Range.words m hm
  exact (θ_run Cert.Kernel3.defs _ _).mono (fun r h => ⟨fun c => (h.1 c).2, h.2⟩) (Cert.Kernel3.Moe.run_bufs T m ρ hT)

/-- So does its reading over the extended reals. -/
theorem moe_ideal_frame : Cert.quiescent_Kernel3Ideal := fun m ρ hm => by
  obtain ⟨T, hT⟩ := Cert.Range.reals m hm
  exact (θ_run Cert.Kernel3Ideal.defs _ _).mono (fun r h => ⟨fun c => (h.1 c).2, h.2⟩) (Cert.Kernel3Ideal.Moe.run_bufs T m ρ hT)

/-- The third reference runs, keeps its arguments and uses no semaphore. -/
theorem moe_reference_frame : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

/-- The reference's result from tables in range is the kernel's array. -/
theorem moe_result (T : Cert.Kernel3Ideal.Moe.Tab) (m : (ℓ : Loc Cert.Kernel3Ideal.nD Cert.Kernel3Ideal.τ Cert.Kernel3Ideal.sig) → Buf (Elt Ideal) ℓ) (c : Dev Cert.Kernel3Ideal.nD) :
    Cert.Reference3Ideal.Read.val_main_v25 (F := Ideal) T.e T.u
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3))
      (m ((c.tc : Thread Cert.Kernel3Ideal.nD Cert.Kernel3Ideal.τ).loc Cert.Kernel3Ideal.main_arg4))
      (m ((c.tc : Thread Cert.Kernel3Ideal.nD Cert.Kernel3Ideal.τ).loc Cert.Kernel3Ideal.main_arg5))
      = Cert.Kernel3Ideal.Moe.final T m c := by
  funext i
  refine Eq.trans (congrArg _ (funext fun a => ?_)) (Cert.Reference3Ideal.Moe.result_apply T _ _ _ _ (i 0) (i 1))
  match a with
  | ⟨0, _⟩ => rfl
  | ⟨1, _⟩ => rfl

set_option maxHeartbeats 2000000 in
/-- The experts' kernel and the reference compute the same array from tables in range. -/
theorem moe_algebraic : Cert.algebraic_Kernel3Ideal_Reference3Ideal := by
  intro m g m' g' hm hargs
  obtain ⟨T, hT⟩ := Cert.Range.reals m hm
  refine ⟨fun c => Cert.Kernel3Ideal.Moe.final T m c, ?_, ?_⟩
  · exact (θ_run Cert.Kernel3Ideal.defs _ _).mono
      (fun r h c => ⟨(h.1 c).1.trans (Cert.Kernel3Ideal.Moe.array_eq T m c), (h.1 c).2⟩) (Cert.Kernel3Ideal.Moe.run_bufs T m g hT)
  · refine (θ_run Cert.Reference3Ideal.defs _ _).mono (fun r h c => ⟨?_, (h c).2⟩) (Cert.Reference3Ideal.Value.run m' g')
    obtain ⟨a0, a1, a2, a3, a4, a5⟩ := hargs c
    refine (h c).1.trans ((Cert.Reference3Ideal.Read.val_main_v25_eq (F := Ideal) _ _ _ _ _ _).trans (Eq.trans ?_ (moe_result T m c)))
    exact congr (congr (congr (congr (congr (congrArg (Cert.Reference3Ideal.Read.val_main_v25 (F := Ideal)) (a0.trans (hT c).1)) (a1.trans (hT c).2)) a2) a3) a4) a5

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Pre_finite_scores_inputs.Gen.facts, Cert.Pre_finite_tokens.Gen.facts, Cert.Pre_blocks_in_range.Gen.facts,
  fun m ρ _ => Cert.Kernel.Gen.frame m ρ, fun m ρ _ => Cert.KernelIdeal.Gen.frame m ρ, fun m ρ _ => Cert.KernelIdeal.Gen.frame m ρ,
  mla_reference_frame, fun m ρ _ => mla_reference_frame m ρ trivial,
  fun m ρ _ => Cert.Kernel2.Gen.frame m ρ, fun m ρ _ => Cert.Kernel2Ideal.Gen.frame m ρ, fun m ρ _ => Cert.Kernel2Ideal.Gen.frame m ρ,
  pre_reference_frame, fun m ρ _ => pre_reference_frame m ρ trivial,
  moe_kernel_frame, moe_ideal_frame, moe_reference_frame, fun m ρ _ => moe_reference_frame m ρ trivial,
  trivial, mla_algebraic, trivial, pre_algebraic, trivial, moe_algebraic⟩

end Cert.Proof
